-- ==== Defs.lean ====
def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_KernelProjIdeal_finite_forget_weights [hPre_finite_forget_weights : Cert.Pre_finite_forget_weights.Facts] (m : (ℓ : Loc Cert.KernelProjIdeal.nD Cert.KernelProjIdeal.τ Cert.KernelProjIdeal.sig) → Buf (Elt Ideal) ℓ) : Prop :=
  ∀ c : Dev Cert.KernelProjIdeal.nD,
    (Cert.Pre_finite_forget_weights.fn (F := Ideal) (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3))) = (fun _ => 1#1)

def Pre_ReferenceProjIdeal (m : (ℓ : Loc Cert.ReferenceProjIdeal.nD Cert.ReferenceProjIdeal.τ Cert.ReferenceProjIdeal.sig) → Buf (Elt Ideal) ℓ) : Prop :=
  True

def Pre_ReferenceProjIdeal_finite_forget_weights [hPre_finite_forget_weights : Cert.Pre_finite_forget_weights.Facts] (m : (ℓ : Loc Cert.ReferenceProjIdeal.nD Cert.ReferenceProjIdeal.τ Cert.ReferenceProjIdeal.sig) → Buf (Elt Ideal) ℓ) : Prop :=
  ∀ c : Dev Cert.ReferenceProjIdeal.nD,
    (Cert.Pre_finite_forget_weights.fn (F := Ideal) (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2)) (m ((c.tc : Thread Cert.ReferenceProjIdeal.nD Cert.ReferenceProjIdeal.τ).loc Cert.ReferenceProjIdeal.main_arg3))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelCross (m : (ℓ : Loc Cert.KernelCross.nD Cert.KernelCross.τ Cert.KernelCross.sig) → Buf (Elt Bits) ℓ) : Prop :=
  True

def Pre_KernelCrossIdeal (m : (ℓ : Loc Cert.KernelCrossIdeal.nD Cert.KernelCrossIdeal.τ Cert.KernelCrossIdeal.sig) → Buf (Elt Ideal) ℓ) : Prop :=
  True

def Pre_KernelCrossIdeal_finite_gains_queries_keys [hPre_finite_gains_queries_keys : Cert.Pre_finite_gains_queries_keys.Facts] (m : (ℓ : Loc Cert.KernelCrossIdeal.nD Cert.KernelCrossIdeal.τ Cert.KernelCrossIdeal.sig) → Buf (Elt Ideal) ℓ) : Prop :=
  ∀ c : Dev Cert.KernelCrossIdeal.nD,
    (Cert.Pre_finite_gains_queries_keys.fn (F := Ideal) (m ((c.tc : Thread Cert.KernelCrossIdeal.nD Cert.KernelCrossIdeal.τ).loc Cert.KernelCrossIdeal.main_arg0)) (m ((c.tc : Thread Cert.KernelCrossIdeal.nD Cert.KernelCrossIdeal.τ).loc Cert.KernelCrossIdeal.main_arg1)) (m ((c.tc : Thread Cert.KernelCrossIdeal.nD Cert.KernelCrossIdeal.τ).loc Cert.KernelCrossIdeal.main_arg2)) (m ((c.tc : Thread Cert.KernelCrossIdeal.nD Cert.KernelCrossIdeal.τ).loc Cert.KernelCrossIdeal.main_arg3)) (m ((c.tc : Thread Cert.KernelCrossIdeal.nD Cert.KernelCrossIdeal.τ).loc Cert.KernelCrossIdeal.main_arg4))) = (fun _ => 1#1)

def Pre_ReferenceCrossIdeal (m : (ℓ : Loc Cert.ReferenceCrossIdeal.nD Cert.ReferenceCrossIdeal.τ Cert.ReferenceCrossIdeal.sig) → Buf (Elt Ideal) ℓ) : Prop :=
  True

def Pre_ReferenceCrossIdeal_finite_gains_queries_keys [hPre_finite_gains_queries_keys : Cert.Pre_finite_gains_queries_keys.Facts] (m : (ℓ : Loc Cert.ReferenceCrossIdeal.nD Cert.ReferenceCrossIdeal.τ Cert.ReferenceCrossIdeal.sig) → Buf (Elt Ideal) ℓ) : Prop :=
  ∀ c : Dev Cert.ReferenceCrossIdeal.nD,
    (Cert.Pre_finite_gains_queries_keys.fn (F := Ideal) (m ((c.tc : Thread Cert.ReferenceCrossIdeal.nD Cert.ReferenceCrossIdeal.τ).loc Cert.ReferenceCrossIdeal.main_arg0)) (m ((c.tc : Thread Cert.ReferenceCrossIdeal.nD Cert.ReferenceCrossIdeal.τ).loc Cert.ReferenceCrossIdeal.main_arg1)) (m ((c.tc : Thread Cert.ReferenceCrossIdeal.nD Cert.ReferenceCrossIdeal.τ).loc Cert.ReferenceCrossIdeal.main_arg2)) (m ((c.tc : Thread Cert.ReferenceCrossIdeal.nD Cert.ReferenceCrossIdeal.τ).loc Cert.ReferenceCrossIdeal.main_arg3)) (m ((c.tc : Thread Cert.ReferenceCrossIdeal.nD Cert.ReferenceCrossIdeal.τ).loc Cert.ReferenceCrossIdeal.main_arg4))) = (fun _ => 1#1)

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_KernelProjIdeal_pre_finite_forget_weights [hKernelProjIdeal : Cert.KernelProjIdeal.Facts] [hPre_finite_forget_weights : Cert.Pre_finite_forget_weights.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal_finite_forget_weights m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_ReferenceProjIdeal_pre_finite_forget_weights [hReferenceProjIdeal : Cert.ReferenceProjIdeal.Facts] [hPre_finite_forget_weights : Cert.Pre_finite_forget_weights.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal_finite_forget_weights m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelCross [hKernelCross : Cert.KernelCross.Facts] : Prop :=
  ∀ (m : (ℓ : Loc Cert.KernelCross.nD Cert.KernelCross.τ Cert.KernelCross.sig) → Buf (Elt Bits) ℓ) (g : Dev Cert.KernelCross.nD → PrngReg), Pre_KernelCross m →
    θ_run (Cert.KernelCross.defs (F := Bits)) (onTc (τ := Cert.KernelCross.τ) (Cert.KernelCross.main (F := Bits))) ⟨m, fun _ => 0, g⟩ (fun r => (∀ c : Dev Cert.KernelCross.nD,
      r.2.mem ((c.tc : Thread Cert.KernelCross.nD Cert.KernelCross.τ).loc Cert.KernelCross.main_arg0) = m ((c.tc : Thread Cert.KernelCross.nD Cert.KernelCross.τ).loc Cert.KernelCross.main_arg0)
      ∧ r.2.mem ((c.tc : Thread Cert.KernelCross.nD Cert.KernelCross.τ).loc Cert.KernelCross.main_arg1) = m ((c.tc : Thread Cert.KernelCross.nD Cert.KernelCross.τ).loc Cert.KernelCross.main_arg1)
      ∧ r.2.mem ((c.tc : Thread Cert.KernelCross.nD Cert.KernelCross.τ).loc Cert.KernelCross.main_arg2) = m ((c.tc : Thread Cert.KernelCross.nD Cert.KernelCross.τ).loc Cert.KernelCross.main_arg2)
      ∧ r.2.mem ((c.tc : Thread Cert.KernelCross.nD Cert.KernelCross.τ).loc Cert.KernelCross.main_arg3) = m ((c.tc : Thread Cert.KernelCross.nD Cert.KernelCross.τ).loc Cert.KernelCross.main_arg3)
      ∧ r.2.mem ((c.tc : Thread Cert.KernelCross.nD Cert.KernelCross.τ).loc Cert.KernelCross.main_arg4) = m ((c.tc : Thread Cert.KernelCross.nD Cert.KernelCross.τ).loc Cert.KernelCross.main_arg4))
      ∧ r.2.sem = fun _ => 0)

def quiescent_KernelCrossIdeal [hKernelCrossIdeal : Cert.KernelCrossIdeal.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg), Pre_KernelCrossIdeal m →
    θ_run (Cert.KernelCrossIdeal.defs (F := Ideal)) (onTc (τ := Cert.KernelCrossIdeal.τ) (Cert.KernelCrossIdeal.main (F := Ideal))) ⟨m, fun _ => 0, g⟩ (fun r => (∀ c : Dev Cert.KernelCrossIdeal.nD,
      r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
      ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
      ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2)
      ∧ r.2.mem ((c.tc : Thread Cert.KernelCrossIdeal.nD Cert.KernelCrossIdeal.τ).loc Cert.KernelCrossIdeal.main_arg3) = m ((c.tc : Thread Cert.KernelCrossIdeal.nD Cert.KernelCrossIdeal.τ).loc Cert.KernelCrossIdeal.main_arg3)
      ∧ r.2.mem ((c.tc : Thread Cert.KernelCrossIdeal.nD Cert.KernelCrossIdeal.τ).loc Cert.KernelCrossIdeal.main_arg4) = m ((c.tc : Thread Cert.KernelCrossIdeal.nD Cert.KernelCrossIdeal.τ).loc Cert.KernelCrossIdeal.main_arg4))
      ∧ r.2.sem = fun _ => 0)

def quiescent_KernelCrossIdeal_pre_finite_gains_queries_keys [hKernelCrossIdeal : Cert.KernelCrossIdeal.Facts] [hPre_finite_gains_queries_keys : Cert.Pre_finite_gains_queries_keys.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg), Pre_KernelCrossIdeal_finite_gains_queries_keys m →
    θ_run (Cert.KernelCrossIdeal.defs (F := Ideal)) (onTc (τ := Cert.KernelCrossIdeal.τ) (Cert.KernelCrossIdeal.main (F := Ideal))) ⟨m, fun _ => 0, g⟩ (fun r => (∀ c : Dev Cert.KernelCrossIdeal.nD,
      r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
      ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
      ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2)
      ∧ r.2.mem ((c.tc : Thread Cert.KernelCrossIdeal.nD Cert.KernelCrossIdeal.τ).loc Cert.KernelCrossIdeal.main_arg3) = m ((c.tc : Thread Cert.KernelCrossIdeal.nD Cert.KernelCrossIdeal.τ).loc Cert.KernelCrossIdeal.main_arg3)
      ∧ r.2.mem ((c.tc : Thread Cert.KernelCrossIdeal.nD Cert.KernelCrossIdeal.τ).loc Cert.KernelCrossIdeal.main_arg4) = m ((c.tc : Thread Cert.KernelCrossIdeal.nD Cert.KernelCrossIdeal.τ).loc Cert.KernelCrossIdeal.main_arg4))
      ∧ r.2.sem = fun _ => 0)

def quiescent_ReferenceCrossIdeal [hReferenceCrossIdeal : Cert.ReferenceCrossIdeal.Facts] : Prop :=
  ∀ (m : (ℓ : Loc Cert.ReferenceCrossIdeal.nD Cert.ReferenceCrossIdeal.τ Cert.ReferenceCrossIdeal.sig) → Buf (Elt Ideal) ℓ) (g : Dev Cert.ReferenceCrossIdeal.nD → PrngReg), Pre_ReferenceCrossIdeal m →
    θ_run (Cert.ReferenceCrossIdeal.defs (F := Ideal)) (onTc (τ := Cert.ReferenceCrossIdeal.τ) (Cert.ReferenceCrossIdeal.main (F := Ideal))) ⟨m, fun _ => 0, g⟩ (fun r => (∀ c : Dev Cert.ReferenceCrossIdeal.nD,
      r.2.mem ((c.tc : Thread Cert.ReferenceCrossIdeal.nD Cert.ReferenceCrossIdeal.τ).loc Cert.ReferenceCrossIdeal.main_arg0) = m ((c.tc : Thread Cert.ReferenceCrossIdeal.nD Cert.ReferenceCrossIdeal.τ).loc Cert.ReferenceCrossIdeal.main_arg0)
      ∧ r.2.mem ((c.tc : Thread Cert.ReferenceCrossIdeal.nD Cert.ReferenceCrossIdeal.τ).loc Cert.ReferenceCrossIdeal.main_arg1) = m ((c.tc : Thread Cert.ReferenceCrossIdeal.nD Cert.ReferenceCrossIdeal.τ).loc Cert.ReferenceCrossIdeal.main_arg1)
      ∧ r.2.mem ((c.tc : Thread Cert.ReferenceCrossIdeal.nD Cert.ReferenceCrossIdeal.τ).loc Cert.ReferenceCrossIdeal.main_arg2) = m ((c.tc : Thread Cert.ReferenceCrossIdeal.nD Cert.ReferenceCrossIdeal.τ).loc Cert.ReferenceCrossIdeal.main_arg2)
      ∧ r.2.mem ((c.tc : Thread Cert.ReferenceCrossIdeal.nD Cert.ReferenceCrossIdeal.τ).loc Cert.ReferenceCrossIdeal.main_arg3) = m ((c.tc : Thread Cert.ReferenceCrossIdeal.nD Cert.ReferenceCrossIdeal.τ).loc Cert.ReferenceCrossIdeal.main_arg3)
      ∧ r.2.mem ((c.tc : Thread Cert.ReferenceCrossIdeal.nD Cert.ReferenceCrossIdeal.τ).loc Cert.ReferenceCrossIdeal.main_arg4) = m ((c.tc : Thread Cert.ReferenceCrossIdeal.nD Cert.ReferenceCrossIdeal.τ).loc Cert.ReferenceCrossIdeal.main_arg4))
      ∧ r.2.sem = fun _ => 0)

def quiescent_ReferenceCrossIdeal_pre_finite_gains_queries_keys [hReferenceCrossIdeal : Cert.ReferenceCrossIdeal.Facts] [hPre_finite_gains_queries_keys : Cert.Pre_finite_gains_queries_keys.Facts] : Prop :=
  ∀ (m : (ℓ : Loc Cert.ReferenceCrossIdeal.nD Cert.ReferenceCrossIdeal.τ Cert.ReferenceCrossIdeal.sig) → Buf (Elt Ideal) ℓ) (g : Dev Cert.ReferenceCrossIdeal.nD → PrngReg), Pre_ReferenceCrossIdeal_finite_gains_queries_keys m →
    θ_run (Cert.ReferenceCrossIdeal.defs (F := Ideal)) (onTc (τ := Cert.ReferenceCrossIdeal.τ) (Cert.ReferenceCrossIdeal.main (F := Ideal))) ⟨m, fun _ => 0, g⟩ (fun r => (∀ c : Dev Cert.ReferenceCrossIdeal.nD,
      r.2.mem ((c.tc : Thread Cert.ReferenceCrossIdeal.nD Cert.ReferenceCrossIdeal.τ).loc Cert.ReferenceCrossIdeal.main_arg0) = m ((c.tc : Thread Cert.ReferenceCrossIdeal.nD Cert.ReferenceCrossIdeal.τ).loc Cert.ReferenceCrossIdeal.main_arg0)
      ∧ r.2.mem ((c.tc : Thread Cert.ReferenceCrossIdeal.nD Cert.ReferenceCrossIdeal.τ).loc Cert.ReferenceCrossIdeal.main_arg1) = m ((c.tc : Thread Cert.ReferenceCrossIdeal.nD Cert.ReferenceCrossIdeal.τ).loc Cert.ReferenceCrossIdeal.main_arg1)
      ∧ r.2.mem ((c.tc : Thread Cert.ReferenceCrossIdeal.nD Cert.ReferenceCrossIdeal.τ).loc Cert.ReferenceCrossIdeal.main_arg2) = m ((c.tc : Thread Cert.ReferenceCrossIdeal.nD Cert.ReferenceCrossIdeal.τ).loc Cert.ReferenceCrossIdeal.main_arg2)
      ∧ r.2.mem ((c.tc : Thread Cert.ReferenceCrossIdeal.nD Cert.ReferenceCrossIdeal.τ).loc Cert.ReferenceCrossIdeal.main_arg3) = m ((c.tc : Thread Cert.ReferenceCrossIdeal.nD Cert.ReferenceCrossIdeal.τ).loc Cert.ReferenceCrossIdeal.main_arg3)
      ∧ r.2.mem ((c.tc : Thread Cert.ReferenceCrossIdeal.nD Cert.ReferenceCrossIdeal.τ).loc Cert.ReferenceCrossIdeal.main_arg4) = m ((c.tc : Thread Cert.ReferenceCrossIdeal.nD Cert.ReferenceCrossIdeal.τ).loc Cert.ReferenceCrossIdeal.main_arg4))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1)
      ∧ r.2.mem ((c.tc : Thread Cert.KernelFox.nD Cert.KernelFox.τ).loc Cert.KernelFox.main_arg2) = m ((c.tc : Thread Cert.KernelFox.nD Cert.KernelFox.τ).loc Cert.KernelFox.main_arg2)
      ∧ r.2.mem ((c.tc : Thread Cert.KernelFox.nD Cert.KernelFox.τ).loc Cert.KernelFox.main_arg3) = m ((c.tc : Thread Cert.KernelFox.nD Cert.KernelFox.τ).loc Cert.KernelFox.main_arg3)
      ∧ r.2.mem ((c.tc : Thread Cert.KernelFox.nD Cert.KernelFox.τ).loc Cert.KernelFox.main_arg4) = m ((c.tc : Thread Cert.KernelFox.nD Cert.KernelFox.τ).loc Cert.KernelFox.main_arg4)
      ∧ r.2.mem ((c.tc : Thread Cert.KernelFox.nD Cert.KernelFox.τ).loc Cert.KernelFox.main_arg5) = m ((c.tc : Thread Cert.KernelFox.nD Cert.KernelFox.τ).loc Cert.KernelFox.main_arg5)
      ∧ r.2.mem ((c.tc : Thread Cert.KernelFox.nD Cert.KernelFox.τ).loc Cert.KernelFox.main_arg6) = m ((c.tc : Thread Cert.KernelFox.nD Cert.KernelFox.τ).loc Cert.KernelFox.main_arg6))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4)
      ∧ r.2.mem ((c.tc : Thread Cert.KernelFoxIdeal.nD Cert.KernelFoxIdeal.τ).loc Cert.KernelFoxIdeal.main_arg5) = m ((c.tc : Thread Cert.KernelFoxIdeal.nD Cert.KernelFoxIdeal.τ).loc Cert.KernelFoxIdeal.main_arg5)
      ∧ r.2.mem ((c.tc : Thread Cert.KernelFoxIdeal.nD Cert.KernelFoxIdeal.τ).loc Cert.KernelFoxIdeal.main_arg6) = m ((c.tc : Thread Cert.KernelFoxIdeal.nD Cert.KernelFoxIdeal.τ).loc Cert.KernelFoxIdeal.main_arg6))
      ∧ r.2.sem = fun _ => 0)

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v16) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v17) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v10) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v12) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)) →
    ∃ (v0 : (c : Dev Cert.KernelMixIdeal.nD) → Buf (Elt Ideal) ((c.tc : Thread Cert.KernelMixIdeal.nD Cert.KernelMixIdeal.τ).loc Cert.KernelMixIdeal.main_v2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v2) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v3) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v1) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v15) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelProj_KernelProjIdeal : Prop :=
  True

def algebraic_KernelProjIdeal_ReferenceProjIdeal_pre_finite_forget_weights [hKernelProjIdeal : Cert.KernelProjIdeal.Facts] [hReferenceProjIdeal : Cert.ReferenceProjIdeal.Facts] [hPre_finite_forget_weights : Cert.Pre_finite_forget_weights.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal_finite_forget_weights m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v1_0)) (v1 : (c : Dev Cert.KernelProjIdeal.nD) → Buf (Elt Ideal) ((c.tc : Thread Cert.KernelProjIdeal.nD Cert.KernelProjIdeal.τ).loc Cert.KernelProjIdeal.main_v1_1)) (v2 : (c : Dev Cert.KernelProjIdeal.nD) → Buf (Elt Ideal) ((c.tc : Thread Cert.KernelProjIdeal.nD Cert.KernelProjIdeal.τ).loc Cert.KernelProjIdeal.main_v1_2)) (v3 : (c : Dev Cert.KernelProjIdeal.nD) → Buf (Elt Ideal) ((c.tc : Thread Cert.KernelProjIdeal.nD Cert.KernelProjIdeal.τ).loc Cert.KernelProjIdeal.main_v1_3)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v1_0) = v0 c
          ∧ r.2.mem ((c.tc : Thread Cert.KernelProjIdeal.nD Cert.KernelProjIdeal.τ).loc Cert.KernelProjIdeal.main_v1_1) = v1 c
          ∧ r.2.mem ((c.tc : Thread Cert.KernelProjIdeal.nD Cert.KernelProjIdeal.τ).loc Cert.KernelProjIdeal.main_v1_2) = v2 c
          ∧ r.2.mem ((c.tc : Thread Cert.KernelProjIdeal.nD Cert.KernelProjIdeal.τ).loc Cert.KernelProjIdeal.main_v1_3) = v3 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v38) = v0 c
          ∧ r.2.mem ((c.tc : Thread Cert.ReferenceProjIdeal.nD Cert.ReferenceProjIdeal.τ).loc Cert.ReferenceProjIdeal.main_v45) = v1 c
          ∧ r.2.mem ((c.tc : Thread Cert.ReferenceProjIdeal.nD Cert.ReferenceProjIdeal.τ).loc Cert.ReferenceProjIdeal.main_v46) = v2 c
          ∧ r.2.mem ((c.tc : Thread Cert.ReferenceProjIdeal.nD Cert.ReferenceProjIdeal.τ).loc Cert.ReferenceProjIdeal.main_v47) = v3 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_Kernel_KernelIdeal : Prop :=
  True

def preserves_KernelCross_KernelCrossIdeal : Prop :=
  IdealRules.named_const.Statement Cert.KernelCrossIdeal.κ "query_scale" .f32 0x3E0293EE#32 (((Real.sqrt 128)⁻¹ * (Real.log 2)⁻¹ : ℝ) : EReal)

def algebraic_KernelCrossIdeal_ReferenceCrossIdeal_pre_finite_gains_queries_keys [hKernelCrossIdeal : Cert.KernelCrossIdeal.Facts] [hReferenceCrossIdeal : Cert.ReferenceCrossIdeal.Facts] [hPre_finite_gains_queries_keys : Cert.Pre_finite_gains_queries_keys.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg)
    (m' : (ℓ : Loc Cert.ReferenceCrossIdeal.nD Cert.ReferenceCrossIdeal.τ Cert.ReferenceCrossIdeal.sig) → Buf (Elt Ideal) ℓ) (g' : Dev Cert.ReferenceCrossIdeal.nD → PrngReg), Pre_KernelCrossIdeal_finite_gains_queries_keys m →
    (∀ c : Dev Cert.KernelCrossIdeal.nD,
      m' ((c.tc : Thread Cert.ReferenceCrossIdeal.nD Cert.ReferenceCrossIdeal.τ).loc Cert.ReferenceCrossIdeal.main_arg0) = m ((c.tc : Thread Cert.KernelCrossIdeal.nD Cert.KernelCrossIdeal.τ).loc Cert.KernelCrossIdeal.main_arg0)
      ∧ m' ((c.tc : Thread Cert.ReferenceCrossIdeal.nD Cert.ReferenceCrossIdeal.τ).loc Cert.ReferenceCrossIdeal.main_arg1) = m ((c.tc : Thread Cert.KernelCrossIdeal.nD Cert.KernelCrossIdeal.τ).loc Cert.KernelCrossIdeal.main_arg1)
      ∧ m' ((c.tc : Thread Cert.ReferenceCrossIdeal.nD Cert.ReferenceCrossIdeal.τ).loc Cert.ReferenceCrossIdeal.main_arg2) = m ((c.tc : Thread Cert.KernelCrossIdeal.nD Cert.KernelCrossIdeal.τ).loc Cert.KernelCrossIdeal.main_arg2)
      ∧ m' ((c.tc : Thread Cert.ReferenceCrossIdeal.nD Cert.ReferenceCrossIdeal.τ).loc Cert.ReferenceCrossIdeal.main_arg3) = m ((c.tc : Thread Cert.KernelCrossIdeal.nD Cert.KernelCrossIdeal.τ).loc Cert.KernelCrossIdeal.main_arg3)
      ∧ m' ((c.tc : Thread Cert.ReferenceCrossIdeal.nD Cert.ReferenceCrossIdeal.τ).loc Cert.ReferenceCrossIdeal.main_arg4) = m ((c.tc : Thread Cert.KernelCrossIdeal.nD Cert.KernelCrossIdeal.τ).loc Cert.KernelCrossIdeal.main_arg4)) →
    ∃ (v0 : (c : Dev Cert.KernelCrossIdeal.nD) → Buf (Elt Ideal) ((c.tc : Thread Cert.KernelCrossIdeal.nD Cert.KernelCrossIdeal.τ).loc Cert.KernelCrossIdeal.main_v2)),
      θ_run (Cert.KernelCrossIdeal.defs (F := Ideal)) (onTc (τ := Cert.KernelCrossIdeal.τ) (Cert.KernelCrossIdeal.main (F := Ideal))) ⟨m, fun _ => 0, g⟩ (fun r => ∀ c : Dev Cert.KernelCrossIdeal.nD,
          r.2.mem ((c.tc : Thread Cert.KernelCrossIdeal.nD Cert.KernelCrossIdeal.τ).loc Cert.KernelCrossIdeal.main_v2) = v0 c
          ∧ r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
          ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
          ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2)
          ∧ r.2.mem ((c.tc : Thread Cert.KernelCrossIdeal.nD Cert.KernelCrossIdeal.τ).loc Cert.KernelCrossIdeal.main_arg3) = m ((c.tc : Thread Cert.KernelCrossIdeal.nD Cert.KernelCrossIdeal.τ).loc Cert.KernelCrossIdeal.main_arg3)
          ∧ r.2.mem ((c.tc : Thread Cert.KernelCrossIdeal.nD Cert.KernelCrossIdeal.τ).loc Cert.KernelCrossIdeal.main_arg4) = m ((c.tc : Thread Cert.KernelCrossIdeal.nD Cert.KernelCrossIdeal.τ).loc Cert.KernelCrossIdeal.main_arg4))
      ∧ θ_run (Cert.ReferenceCrossIdeal.defs (F := Ideal)) (onTc (τ := Cert.ReferenceCrossIdeal.τ) (Cert.ReferenceCrossIdeal.main (F := Ideal))) ⟨m', fun _ => 0, g'⟩ (fun r => ∀ c : Dev Cert.ReferenceCrossIdeal.nD,
          r.2.mem ((c.tc : Thread Cert.ReferenceCrossIdeal.nD Cert.ReferenceCrossIdeal.τ).loc Cert.ReferenceCrossIdeal.main_v47) = v0 c
          ∧ r.2.mem ((c.tc : Thread Cert.ReferenceCrossIdeal.nD Cert.ReferenceCrossIdeal.τ).loc Cert.ReferenceCrossIdeal.main_arg0) = m' ((c.tc : Thread Cert.ReferenceCrossIdeal.nD Cert.ReferenceCrossIdeal.τ).loc Cert.ReferenceCrossIdeal.main_arg0)
          ∧ r.2.mem ((c.tc : Thread Cert.ReferenceCrossIdeal.nD Cert.ReferenceCrossIdeal.τ).loc Cert.ReferenceCrossIdeal.main_arg1) = m' ((c.tc : Thread Cert.ReferenceCrossIdeal.nD Cert.ReferenceCrossIdeal.τ).loc Cert.ReferenceCrossIdeal.main_arg1)
          ∧ r.2.mem ((c.tc : Thread Cert.ReferenceCrossIdeal.nD Cert.ReferenceCrossIdeal.τ).loc Cert.ReferenceCrossIdeal.main_arg2) = m' ((c.tc : Thread Cert.ReferenceCrossIdeal.nD Cert.ReferenceCrossIdeal.τ).loc Cert.ReferenceCrossIdeal.main_arg2)
          ∧ r.2.mem ((c.tc : Thread Cert.ReferenceCrossIdeal.nD Cert.ReferenceCrossIdeal.τ).loc Cert.ReferenceCrossIdeal.main_arg3) = m' ((c.tc : Thread Cert.ReferenceCrossIdeal.nD Cert.ReferenceCrossIdeal.τ).loc Cert.ReferenceCrossIdeal.main_arg3)
          ∧ r.2.mem ((c.tc : Thread Cert.ReferenceCrossIdeal.nD Cert.ReferenceCrossIdeal.τ).loc Cert.ReferenceCrossIdeal.main_arg4) = m' ((c.tc : Thread Cert.ReferenceCrossIdeal.nD Cert.ReferenceCrossIdeal.τ).loc Cert.ReferenceCrossIdeal.main_arg4))

def preserves_KernelFox_KernelFoxIdeal : Prop :=
  True

def Claim : Prop :=
  ∃ (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelGate : Cert.KernelGate.Facts) (hKernelGateIdeal : Cert.KernelGateIdeal.Facts) (hReferenceGateIdeal : Cert.ReferenceGateIdeal.Facts) (hKernelMerge : Cert.KernelMerge.Facts) (hKernelMergeIdeal : Cert.KernelMergeIdeal.Facts) (hReferenceMergeIdeal : Cert.ReferenceMergeIdeal.Facts) (hKernelMix : Cert.KernelMix.Facts) (hKernelMixIdeal : Cert.KernelMixIdeal.Facts) (hReferenceMixIdeal : Cert.ReferenceMixIdeal.Facts) (hKernelKv : Cert.KernelKv.Facts) (hKernelKvIdeal : Cert.KernelKvIdeal.Facts) (hReferenceKvIdeal : Cert.ReferenceKvIdeal.Facts) (hKernelProj : Cert.KernelProj.Facts) (hKernelProjIdeal : Cert.KernelProjIdeal.Facts) (hReferenceProjIdeal : Cert.ReferenceProjIdeal.Facts) (hKernel : Cert.Kernel.Facts) (hKernelIdeal : Cert.KernelIdeal.Facts) (hKernelCross : Cert.KernelCross.Facts) (hKernelCrossIdeal : Cert.KernelCrossIdeal.Facts) (hReferenceCrossIdeal : Cert.ReferenceCrossIdeal.Facts) (hKernelFox : Cert.KernelFox.Facts) (hKernelFoxIdeal : Cert.KernelFoxIdeal.Facts) (hPre_finite_forget_weights : Cert.Pre_finite_forget_weights.Facts) (hPre_finite_gains_queries_keys : Cert.Pre_finite_gains_queries_keys.Facts),
    quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelProj (hKernelProj := hKernelProj)
    ∧ quiescent_KernelProjIdeal (hKernelProjIdeal := hKernelProjIdeal)
    ∧ quiescent_KernelProjIdeal_pre_finite_forget_weights (hKernelProjIdeal := hKernelProjIdeal) (hPre_finite_forget_weights := hPre_finite_forget_weights)
    ∧ quiescent_ReferenceProjIdeal (hReferenceProjIdeal := hReferenceProjIdeal)
    ∧ quiescent_ReferenceProjIdeal_pre_finite_forget_weights (hReferenceProjIdeal := hReferenceProjIdeal) (hPre_finite_forget_weights := hPre_finite_forget_weights)
    ∧ quiescent_Kernel (hKernel := hKernel)
    ∧ quiescent_KernelIdeal (hKernelIdeal := hKernelIdeal)
    ∧ quiescent_KernelCross (hKernelCross := hKernelCross)
    ∧ quiescent_KernelCrossIdeal (hKernelCrossIdeal := hKernelCrossIdeal)
    ∧ quiescent_KernelCrossIdeal_pre_finite_gains_queries_keys (hKernelCrossIdeal := hKernelCrossIdeal) (hPre_finite_gains_queries_keys := hPre_finite_gains_queries_keys)
    ∧ quiescent_ReferenceCrossIdeal (hReferenceCrossIdeal := hReferenceCrossIdeal)
    ∧ quiescent_ReferenceCrossIdeal_pre_finite_gains_queries_keys (hReferenceCrossIdeal := hReferenceCrossIdeal) (hPre_finite_gains_queries_keys := hPre_finite_gains_queries_keys)
    ∧ quiescent_KernelFox (hKernelFox := hKernelFox)
    ∧ quiescent_KernelFoxIdeal (hKernelFoxIdeal := hKernelFoxIdeal)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelGate_KernelGateIdeal
    ∧ algebraic_KernelGateIdeal_ReferenceGateIdeal (hKernelGateIdeal := hKernelGateIdeal) (hReferenceGateIdeal := hReferenceGateIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMix_KernelMixIdeal
    ∧ algebraic_KernelMixIdeal_ReferenceMixIdeal (hKernelMixIdeal := hKernelMixIdeal) (hReferenceMixIdeal := hReferenceMixIdeal)
    ∧ preserves_KernelKv_KernelKvIdeal
    ∧ algebraic_KernelKvIdeal_ReferenceKvIdeal (hKernelKvIdeal := hKernelKvIdeal) (hReferenceKvIdeal := hReferenceKvIdeal)
    ∧ preserves_KernelProj_KernelProjIdeal
    ∧ algebraic_KernelProjIdeal_ReferenceProjIdeal_pre_finite_forget_weights (hKernelProjIdeal := hKernelProjIdeal) (hReferenceProjIdeal := hReferenceProjIdeal) (hPre_finite_forget_weights := hPre_finite_forget_weights)
    ∧ preserves_Kernel_KernelIdeal
    ∧ preserves_KernelCross_KernelCrossIdeal
    ∧ algebraic_KernelCrossIdeal_ReferenceCrossIdeal_pre_finite_gains_queries_keys (hKernelCrossIdeal := hKernelCrossIdeal) (hReferenceCrossIdeal := hReferenceCrossIdeal) (hPre_finite_gains_queries_keys := hPre_finite_gains_queries_keys)
    ∧ preserves_KernelFox_KernelFoxIdeal
-- ==== Pre_finite_forget_weights.lean ====
abbrev S16384x2048 : Shape := ⟨2, ![16384, 2048]⟩
abbrev S2048 : Shape := ⟨1, ![2048]⟩
abbrev S6144x2048 : Shape := ⟨2, ![6144, 2048]⟩
abbrev S2048x128 : Shape := ⟨2, ![2048, 128]⟩
abbrev S_ : Shape := ⟨0, ![]⟩

class Facts : Prop where
  bcast_S_S2048x128 : S_.BroadcastsInDim S2048x128 (![] : Fin 0 → Fin S2048x128.rank)

variable [Facts]

def fn {F : FTy → Type} [FloatOps F] (main_arg0 : FVec F S16384x2048 .f32) (main_arg1 : FVec F S2048 .f32) (main_arg2 : FVec F S6144x2048 .bf16) (main_arg3 : FVec F S2048x128 .f32) : IVec S2048x128 1 :=
  let main_v0 : FVec F S2048x128 .f32 := Host.absf main_arg3
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  main_v2
-- ==== Pre_finite_gains_queries_keys.lean ====
abbrev S16384x2048 : Shape := ⟨2, ![16384, 2048]⟩
abbrev S2048 : Shape := ⟨1, ![2048]⟩
abbrev S2048x512 : Shape := ⟨2, ![2048, 512]⟩
abbrev S512x1024 : Shape := ⟨2, ![512, 1024]⟩
abbrev S512x2048 : Shape := ⟨2, ![512, 2048]⟩
abbrev S_ : Shape := ⟨0, ![]⟩
abbrev S512x512 : Shape := ⟨2, ![512, 512]⟩

class Facts : Prop where
  bcast_S_S2048 : S_.BroadcastsInDim S2048 (![] : Fin 0 → Fin S2048.rank)
  reducesTo_S2048_S_d0 : S2048.ReducesTo [0] S_
  h_S_ : 0 < S_.numel
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  slices_S512x1024_S512x512_0_0 : S512x1024.Slices ![0, 0] S512x512
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16384x2048 .f32) (main_arg1 : FVec F S2048 .f32) (main_arg2 : FVec F S2048x512 .bf16) (main_arg3 : FVec F S512x1024 .bf16) (main_arg4 : FVec F S512x2048 .bf16) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x512 .f32 := (extf .f32 · bitsLt_bf16_f32) main_arg2
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v3 main_v8
  let main_v10 : FVec F S512x512 .bf16 := (extractStridedSlice S512x512 ![0, 0] · slices_S512x1024_S512x512_0_0) main_arg3
  let main_v11 : FVec F S512x512 .f32 := (extf .f32 · bitsLt_bf16_f32) main_v10
  let main_v12 : FVec F S512x512 .f32 := Host.absf main_v11
  let main_cst_2 : FVec F S_ .f32 := constant S_ .f32 0x7F800000#32
  let main_v13 : FVec F S512x512 .f32 := broadcastInDim S512x512 ![] bcast_S_S512x512 main_cst_2
  let main_v14 : IVec S512x512 1 := cmpf .olt main_v12 main_v13
  let main_c_3 : IVec S_ 1 := constantI S_ 1 1#1
  let main_v15 : IVec S_ 1 := (fun x v => Host.reduce IntOp.andi x v reducesTo_S512x512_S_d0_1 h_S_) main_v14 main_c_3
  let main_v16 : IVec S_ 1 := andi main_v9 main_v15
  main_v16
-- ==== KernelDown.lean ====
abbrev S16384x8192 : Shape := ⟨2, ![16384, 8192]⟩
abbrev S8192x2048 : Shape := ⟨2, ![8192, 2048]⟩
abbrev S16384x2048 : Shape := ⟨2, ![16384, 2048]⟩
abbrev S2048 : Shape := ⟨1, ![2048]⟩
abbrev S1x2048 : Shape := ⟨2, ![1, 2048]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x8192, .bf16⟩
  | .hbm, ⟨1, _⟩ => ⟨S8192x2048, .bf16⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceDownIdeal.lean ====
abbrev S16384x8192 : Shape := ⟨2, ![16384, 8192]⟩
abbrev S8192x2048 : Shape := ⟨2, ![8192, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x2048, .bf16⟩
  | .hbm, ⟨2, _⟩ => ⟨S16384x2048, .f32⟩
  | .hbm, ⟨3, _⟩ => ⟨S2048, .f32⟩
  | .hbm, ⟨4, _⟩ => ⟨S16384x8192, .f32⟩
  | .hbm, ⟨5, _⟩ => ⟨S8192x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelUp.lean ====
abbrev S16384x2048 : Shape := ⟨2, ![16384, 2048]⟩
abbrev S2048 : Shape := ⟨1, ![2048]⟩
abbrev S2048x8192 : Shape := ⟨2, ![2048, 8192]⟩
abbrev S1x2048 : Shape := ⟨2, ![1, 2048]⟩
abbrev S16384x8192 : Shape := ⟨2, ![16384, 8192]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S1x2048, .f32⟩
  | .hbm, ⟨4, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S16384x2048 : Shape := ⟨2, ![16384, 2048]⟩
abbrev S2048 : Shape := ⟨1, ![2048]⟩
abbrev S2048x8192 : Shape := ⟨2, ![2048, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x8192, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x8192, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelGate.lean ====
abbrev S16384x2048 : Shape := ⟨2, ![16384, 2048]⟩
abbrev S4096x2048 : Shape := ⟨2, ![4096, 2048]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S4096x2048, .bf16⟩
  | .hbm, ⟨2, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateIdeal.lean ====
abbrev S16384x2048 : Shape := ⟨2, ![16384, 2048]⟩
abbrev S4096x2048 : Shape := ⟨2, ![4096, 2048]⟩
abbrev S2048x4096 : Shape := ⟨2, ![2048, 4096]⟩
abbrev S16384x4096 : Shape := ⟨2, ![16384, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4096x2048, .bf16⟩
  | .hbm, ⟨2, _⟩ => ⟨S2048x4096, .bf16⟩
  | .hbm, ⟨3, _⟩ => ⟨S16384x2048, .f32⟩
  | .hbm, ⟨4, _⟩ => ⟨S2048x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelMerge.lean ====
abbrev S16384x1024 : Shape := ⟨2, ![16384, 1024]⟩
abbrev S1024x2048 : Shape := ⟨2, ![1024, 2048]⟩
abbrev S16384x4096 : Shape := ⟨2, ![16384, 4096]⟩
abbrev S16384x2048 : Shape := ⟨2, ![16384, 2048]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .bf16⟩
  | .hbm, ⟨3, _⟩ => ⟨S1024x2048, .bf16⟩
  | .hbm, ⟨4, _⟩ => ⟨S16384x4096, .bf16⟩
  | .hbm, ⟨5, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMergeIdeal.lean ====
abbrev S16384x1024 : Shape := ⟨2, ![16384, 1024]⟩
abbrev S1024x2048 : Shape := ⟨2, ![1024, 2048]⟩
abbrev S16384x4096 : Shape := ⟨2, ![16384, 4096]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .bf16⟩
  | .hbm, ⟨3, _⟩ => ⟨S1024x2048, .bf16⟩
  | .hbm, ⟨4, _⟩ => ⟨S16384x4096, .bf16⟩
  | .hbm, ⟨5, _⟩ => ⟨S16384x4096, .f32⟩
  | .hbm, ⟨6, _⟩ => ⟨S16384x2048, .f32⟩
  | .hbm, ⟨7, _⟩ => ⟨S16384x2048, .f32⟩
  | .hbm, ⟨8, _⟩ => ⟨S16384x1024, .f32⟩
  | .hbm, ⟨9, _⟩ => ⟨S1024x2048, .f32⟩
  | .hbm, ⟨10, _⟩ => ⟨S16384x2048, .f32⟩
  | .hbm, ⟨11, _⟩ => ⟨S16384x2048, .f32⟩
  | .hbm, ⟨12, _⟩ => ⟨S16384x1024, .f32⟩
  | .hbm, ⟨13, _⟩ => ⟨S1024x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelMix.lean ====
abbrev S16384x2048 : Shape := ⟨2, ![16384, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S1024x1024 : Shape := ⟨2, ![1024, 1024]⟩
abbrev S1024x2048 : Shape := ⟨2, ![1024, 2048]⟩

abbrev nBuf : Space → Nat
  | .hbm => 7
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceMixIdeal.lean ====
abbrev S16384x2048 : Shape := ⟨2, ![16384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelKv.lean ====
abbrev S512x2048 : Shape := ⟨2, ![512, 2048]⟩
abbrev S2048 : Shape := ⟨1, ![2048]⟩
abbrev S2048x1024 : Shape := ⟨2, ![2048, 1024]⟩
abbrev S1x2048 : Shape := ⟨2, ![1, 2048]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .bf16⟩
  | .hbm, ⟨3, _⟩ => ⟨S1x2048, .f32⟩
  | .hbm, ⟨4, _⟩ => ⟨S512x1024, .bf16⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S512x1024, .bf16⟩
  | .local _ .vmem, ⟨4, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== ReferenceKvIdeal.lean ====
abbrev S512x2048 : Shape := ⟨2, ![512, 2048]⟩
abbrev S2048 : Shape := ⟨1, ![2048]⟩
abbrev S2048x1024 : Shape := ⟨2, ![2048, 1024]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x1024 : Shape := ⟨2, ![512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .bf16⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S2048x1024, .f32⟩
  | .hbm, ⟨20, _⟩ => ⟨S512x1024, .f32⟩
  | .hbm, ⟨21, _⟩ => ⟨S512x1024, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelProj.lean ====
abbrev S16384x2048 : Shape := ⟨2, ![16384, 2048]⟩
abbrev S2048 : Shape := ⟨1, ![2048]⟩
abbrev S6144x2048 : Shape := ⟨2, ![6144, 2048]⟩
abbrev S2048x128 : Shape := ⟨2, ![2048, 128]⟩
abbrev S1x2048 : Shape := ⟨2, ![1, 2048]⟩
abbrev S32x64x128x256 : Shape := ⟨4, ![32, 64, 128, 256]⟩
abbrev S16x16384x128 : Shape := ⟨3, ![16, 16384, 128]⟩
abbrev S16384x128 : Shape := ⟨2, ![16384, 128]⟩
abbrev S1024x2048 : Shape := ⟨2, ![1024, 2048]⟩
abbrev S8x4x128x256 : Shape := ⟨4, ![8, 4, 128, 256]⟩
abbrev S8x1024x128 : Shape := ⟨3, ![8, 1024, 128]⟩
abbrev S1024x128 : Shape := ⟨2, ![1024, 128]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1024x1024 : Shape := ⟨2, ![1024, 1024]⟩
abbrev S256x128 : Shape := ⟨2, ![256, 128]⟩
abbrev S128x256 : Shape := ⟨2, ![128, 256]⟩
abbrev S1x1x128x256 : Shape := ⟨4, ![1, 1, 128, 256]⟩
abbrev S1x1024x128 : Shape := ⟨3, ![1, 1024, 128]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6144x2048, .bf16⟩
  | .hbm, ⟨3, _⟩ => ⟨S2048x128, .f32⟩
  | .hbm, ⟨4, _⟩ => ⟨S1x2048, .f32⟩
  | .hbm, ⟨5, _⟩ => ⟨S32x64x128x256, .bf16⟩
  | .hbm, ⟨6, _⟩ => ⟨S16x16384x128, .bf16⟩
  | .hbm, ⟨7, _⟩ => ⟨S16384x128, .f32⟩
  | .hbm, ⟨8, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x128, .f32⟩
  | .local _ .vmem, ⟨6, _⟩ => ⟨S8x4x128x256, .bf16⟩
  | .local _ .vmem, ⟨7, _⟩ => ⟨S8x4x128x256, .bf16⟩
  | .local _ .vmem, ⟨8, _⟩ => ⟨S8x1024x128, .bf16⟩
  | .local _ .vmem, ⟨9, _⟩ => ⟨S8x1024x128, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg1 c4_i32
  let c1_i32 : BitVec 32 := 1#32
  let c4_i32_0 : BitVec 32 := 4#32
  let v1 : BitVec 32 := Scalar.select v0 c1_i32 c4_i32_0
  let c3_i32 : BitVec 32 := 3#32
  let v2 : BitVec 1 := Scalar.cmpi .eq arg1 c3_i32
  let c5_i32 : BitVec 32 := 5#32
  let v3 : BitVec 32 := Scalar.select v2 c5_i32 v1
  let c2_i32 : BitVec 32 := 2#32
  let v4 : BitVec 1 := Scalar.cmpi .eq arg1 c2_i32
  let c2_i32_1 : BitVec 32 := 2#32
  let v5 : BitVec 32 := Scalar.select v4 c2_i32_1 v3
  let c1_i32_2 : BitVec 32 := 1#32
  let v6 : BitVec 1 := Scalar.cmpi .eq arg1 c1_i32_2
  let c3_i32_3 : BitVec 32 := 3#32
  let v7 : BitVec 32 := Scalar.select v6 c3_i32_3 v5
  let c0_i32 : BitVec 32 := 0#32
  let v8 : BitVec 1 := Scalar.cmpi .eq arg1 c0_i32
  let c0_i32_4 : BitVec 32 := 0#32
  let v9 : BitVec 32 := Scalar.select v8 c0_i32_4 v7
  let c0_i32_5 : BitVec 32 := 0#32
  let c0_i32_6 : BitVec 32 := 0#32
  ![v9.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceProjIdeal.lean ====
abbrev S16384x2048 : Shape := ⟨2, ![16384, 2048]⟩
abbrev S2048 : Shape := ⟨1, ![2048]⟩
abbrev S6144x2048 : Shape := ⟨2, ![6144, 2048]⟩
abbrev S2048x128 : Shape := ⟨2, ![2048, 128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x6144 : Shape := ⟨2, ![2048, 6144]⟩
abbrev S16384x6144 : Shape := ⟨2, ![16384, 6144]⟩
abbrev S16384x1024 : Shape := ⟨2, ![16384, 1024]⟩
abbrev S64x256x8x128 : Shape := ⟨4, ![64, 256, 8, 128]⟩
abbrev S8x64x128x256 : Shape := ⟨4, ![8, 64, 128, 256]⟩
abbrev S32x64x128x256 : Shape := ⟨4, ![32, 64, 128, 256]⟩
abbrev S16384x8x128 : Shape := ⟨3, ![16384, 8, 128]⟩
abbrev S8x16384x128 : Shape := ⟨3, ![8, 16384, 128]⟩
abbrev S16x16384x128 : Shape := ⟨3, ![16, 16384, 128]⟩
abbrev S16384x128 : Shape := ⟨2, ![16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6144x2048, .bf16⟩
  | .hbm, ⟨3, _⟩ => ⟨S2048x128, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x6144, .bf16⟩
  | .hbm, ⟨21, _⟩ => ⟨S2048x6144, .f32⟩
  | .hbm, ⟨22, _⟩ => ⟨S16384x6144, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S64x256x8x128, .f32⟩
  | .hbm, ⟨33, _⟩ => ⟨S8x64x128x256, .f32⟩
  | .hbm, ⟨34, _⟩ => ⟨S8x64x128x256, .bf16⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S64x256x8x128, .f32⟩
  | .hbm, ⟨39, _⟩ => ⟨S8x64x128x256, .f32⟩
  | .hbm, ⟨40, _⟩ => ⟨S8x64x128x256, .bf16⟩
  | .hbm, ⟨41, _⟩ => ⟨S64x256x8x128, .f32⟩
  | .hbm, ⟨42, _⟩ => ⟨S8x64x128x256, .f32⟩
  | .hbm, ⟨43, _⟩ => ⟨S8x64x128x256, .bf16⟩
  | .hbm, ⟨44, _⟩ => ⟨S64x256x8x128, .f32⟩
  | .hbm, ⟨45, _⟩ => ⟨S8x64x128x256, .f32⟩
  | .hbm, ⟨46, _⟩ => ⟨S8x64x128x256, .bf16⟩
  | .hbm, ⟨47, _⟩ => ⟨S32x64x128x256, .bf16⟩
  | .hbm, ⟨48, _⟩ => ⟨S16384x8x128, .f32⟩
  | .hbm, ⟨49, _⟩ => ⟨S8x16384x128, .f32⟩
  | .hbm, ⟨50, _⟩ => ⟨S8x16384x128, .bf16⟩
  | .hbm, ⟨51, _⟩ => ⟨S16384x8x128, .f32⟩
  | .hbm, ⟨52, _⟩ => ⟨S8x16384x128, .f32⟩
  | .hbm, ⟨53, _⟩ => ⟨S8x16384x128, .bf16⟩
  | .hbm, ⟨54, _⟩ => ⟨S16x16384x128, .bf16⟩
  | .hbm, ⟨55, _⟩ => ⟨S16384x128, .f32⟩
  | .hbm, ⟨56, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel.lean ====
abbrev S32x64x128x256 : Shape := ⟨4, ![32, 64, 128, 256]⟩
abbrev S16x64x256x128 : Shape := ⟨4, ![16, 64, 256, 128]⟩
abbrev S8x3x512x512 : Shape := ⟨4, ![8, 3, 512, 512]⟩
abbrev S8x32 : Shape := ⟨2, ![8, 32]⟩
abbrev S2048x8192 : Shape := ⟨2, ![2048, 8192]⟩
abbrev S2048x2048 : Shape := ⟨2, ![2048, 2048]⟩
abbrev S1024x2048 : Shape := ⟨2, ![1024, 2048]⟩
abbrev S16384x1024 : Shape := ⟨2, ![16384, 1024]⟩
abbrev S2x2x128x256 : Shape := ⟨4, ![2, 2, 128, 256]⟩
abbrev S2x32x256x128 : Shape := ⟨4, ![2, 32, 256, 128]⟩
abbrev S2x32x128x256 : Shape := ⟨4, ![2, 32, 128, 256]⟩
abbrev S2x3x512x512 : Shape := ⟨4, ![2, 3, 512, 512]⟩
abbrev S16x8192 : Shape := ⟨2, ![16, 8192]⟩
abbrev S16x2048 : Shape := ⟨2, ![16, 2048]⟩
abbrev S512x256 : Shape := ⟨2, ![512, 256]⟩
abbrev S2x16x512x256 : Shape := ⟨4, ![2, 16, 512, 256]⟩
abbrev S2x32x128 : Shape := ⟨3, ![2, 32, 128]⟩
abbrev S2x96x128 : Shape := ⟨3, ![2, 96, 128]⟩
abbrev S2x2x512x512 : Shape := ⟨4, ![2, 2, 512, 512]⟩
abbrev S2x1x512 : Shape := ⟨3, ![2, 1, 512]⟩
abbrev S2x128x512 : Shape := ⟨3, ![2, 128, 512]⟩
abbrev S512x128 : Shape := ⟨2, ![512, 128]⟩
abbrev S1x1x256x128 : Shape := ⟨4, ![1, 1, 256, 128]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S1x32x128 : Shape := ⟨3, ![1, 32, 128]⟩
abbrev S32x128 : Shape := ⟨2, ![32, 128]⟩
abbrev S1x2x256x128 : Shape := ⟨4, ![1, 2, 256, 128]⟩
abbrev S2x256x128 : Shape := ⟨3, ![2, 256, 128]⟩
abbrev S1x1x512x256 : Shape := ⟨4, ![1, 1, 512, 256]⟩
abbrev S32x512 : Shape := ⟨2, ![32, 512]⟩
abbrev S16x512 : Shape := ⟨2, ![16, 512]⟩
abbrev S1x1x128x256 : Shape := ⟨4, ![1, 1, 128, 256]⟩
abbrev S128x256 : Shape := ⟨2, ![128, 256]⟩
abbrev S128x512 : Shape := ⟨2, ![128, 512]⟩
abbrev S1x96x128 : Shape := ⟨3, ![1, 96, 128]⟩
abbrev S96x128 : Shape := ⟨2, ![96, 128]⟩
abbrev S96x512 : Shape := ⟨2, ![96, 512]⟩
abbrev S512 : Shape := ⟨1, ![512]⟩
abbrev S1x512 : Shape := ⟨2, ![1, 512]⟩
abbrev S1x1 : Shape := ⟨2, ![1, 1]⟩
abbrev S80x512 : Shape := ⟨2, ![80, 512]⟩
abbrev S256x512 : Shape := ⟨2, ![256, 512]⟩
abbrev S512x512 : Shape := ⟨2, ![512, 512]⟩
abbrev S1x1x512x512 : Shape := ⟨4, ![1, 1, 512, 512]⟩
abbrev S1x1x256x512 : Shape := ⟨4, ![1, 1, 256, 512]⟩
abbrev S1x1x512 : Shape := ⟨3, ![1, 1, 512]⟩
abbrev S1x128x512 : Shape := ⟨3, ![1, 128, 512]⟩
abbrev S1x2x512x512 : Shape := ⟨4, ![1, 2, 512, 512]⟩
abbrev S2x512x512 : Shape := ⟨3, ![2, 512, 512]⟩
abbrev S1x512x256 : Shape := ⟨3, ![1, 512, 256]⟩
abbrev S1x256 : Shape := ⟨2, ![1, 256]⟩
abbrev S256 : Shape := ⟨1, ![256]⟩

abbrev nBuf : Space → Nat
  | .hbm => 13
  | .vmem => 33
  | .smem => 1
  | _ => 0

abbrev bufTy : (tb : Table) → Fin (tcTables nBuf tb) → BufTy
  | .hbm, ⟨0, _⟩ => ⟨S32x64x128x256, .bf16⟩
  | .hbm, ⟨1, _⟩ => ⟨S16x64x256x128, .bf16⟩
  | .hbm, ⟨2, _⟩ => ⟨S8x3x512x512, .f32⟩
  | .hbm, ⟨3, _⟩ => ⟨S8x32, .f32⟩
  | .hbm, ⟨4, _⟩ => ⟨S2048x8192, .f32⟩
  | .hbm, ⟨5, _⟩ => ⟨S2048x2048, .f32⟩
  | .hbm, ⟨6, _⟩ => ⟨S1024x2048, .f32⟩
  | .hbm, ⟨7, _⟩ => ⟨S1024x2048, .f32⟩
  | .hbm, ⟨8, _⟩ => ⟨S16384x1024, .bf16⟩
  | .hbm, ⟨9, _⟩ => ⟨S2048x8192, .bf16⟩
  | .hbm, ⟨10, _⟩ => ⟨S2048x2048, .bf16⟩
  | .hbm, ⟨11, _⟩ => ⟨S1024x2048, .bf16⟩
  | .hbm, ⟨12, _⟩ => ⟨S1024x2048, .bf16⟩
  | .local _ .vmem, ⟨0, _⟩ => ⟨S2x2x128x256, .bf16⟩
  | .local _ .vmem, ⟨1, _⟩ => ⟨S2x2x128x256, .bf16⟩
  | .local _ .vmem, ⟨2, _⟩ => ⟨S2x32x256x128, .bf16⟩
  | .local _ .vmem, ⟨3, _⟩ => ⟨S2x32x256x128, .bf16⟩
  | .local _ .vmem, ⟨4, _⟩ => ⟨S2x32x128x256, .bf16⟩
  | .local _ .vmem, ⟨5, _⟩ => ⟨S2x32x128x256, .bf16⟩
  | .local _ .vmem, ⟨6, _⟩ => ⟨S2x3x512x512, .f32⟩
  | .local _ .vmem, ⟨7, _⟩ => ⟨S2x3x512x512, .f32⟩
  | .local _ .vmem, ⟨8, _⟩ => ⟨S16x8192, .f32⟩
  | .local _ .vmem, ⟨9, _⟩ => ⟨S16x8192, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | .local _ .vmem, ⟨16, _⟩ => ⟨S512x256, .bf16⟩
  | .local _ .vmem, ⟨17, _⟩ => ⟨S512x256, .bf16⟩
  | .local _ .vmem, ⟨18, _⟩ => ⟨S16x8192, .bf16⟩
  | .local _ .vmem, ⟨19, _⟩ => ⟨S16x8192, .bf16⟩
  | .local _ .vmem, ⟨20, _⟩ => ⟨S16x2048, .bf16⟩
  | .local _ .vmem, ⟨21, _⟩ => ⟨S16x2048, .bf16⟩
  | .local _ .vmem, ⟨22, _⟩ => ⟨S16x2048, .bf16⟩
  | .local _ .vmem, ⟨23, _⟩ => ⟨S16x2048, .bf16⟩
  | .local _ .vmem, ⟨24, _⟩ => ⟨S16x2048, .bf16⟩
  | .local _ .vmem, ⟨25, _⟩ => ⟨S16x2048, .bf16⟩
  | .local _ .vmem, ⟨26, _⟩ => ⟨S2x16x512x256, .bf16⟩
  | .local _ .vmem, ⟨27, _⟩ => ⟨S2x32x128, .f32⟩
  | .local _ .vmem, ⟨28, _⟩ => ⟨S2x96x128, .bf16⟩
  | .local _ .vmem, ⟨29, _⟩ => ⟨S2x2x512x512, .f32⟩
  | .local _ .vmem, ⟨30, _⟩ => ⟨S2x1x512, .f32⟩
  | .local _ .vmem, ⟨31, _⟩ => ⟨S2x1x512, .f32⟩
  | .local _ .vmem, ⟨32, _⟩ => ⟨S2x128x512, .f32⟩
  | .local _ .smem, ⟨0, _⟩ => ⟨S8x32, .f32⟩
  | _, _ => ⟨S32x64x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![2, 4, 16], ![false, false, false]⟩

def k0_off1 (i : grid0.Coords) (c0_i32_53 : BitVec 32) : Fin 2 → Nat :=
  let arg1 : BitVec 32 := BitVec.ofNat 32 (i 1).val
  let c2_i32_52 : BitVec 32 := 2#32
  let v96 : BitVec 32 := Scalar.muli arg1 c2_i32_52
  let v97 : BitVec 32 := Scalar.addi v96 c0_i32_53
  let v98 : Index := Scalar.indexCast v97
  let c31 : Index := 31#32
  ![v98.toNat, 31]
def k0_off2 (i : grid0.Coords) : Fin 4 → Nat :=
  let c0_65 : Index := 0#32
  let c2_i32_64 : BitVec 32 := 2#32
  let arg2 : BitVec 32 := BitVec.ofNat 32 (i 2).val
  let v128 : BitVec 32 := Scalar.muli c2_i32_64 arg2
  let v129 : Index := Scalar.indexCast v128
  let c0_66 : Index := 0#32
  let c0_67 : Index := 0#32
  ![0, v129.toNat, 0, 0]
def k0_off3 (i : grid0.Coords) : Fin 4 → Nat :=
  let c1_135 : Index := 1#32
  let c2_i32_134 : BitVec 32 := 2#32
  let arg2 : BitVec 32 := BitVec.ofNat 32 (i 2).val
  let v250 : BitVec 32 := Scalar.muli c2_i32_134 arg2
  let v251 : Index := Scalar.indexCast v250
  let c0_136 : Index := 0#32
  let c0_137 : Index := 0#32
  ![1, v251.toNat, 0, 0]
def k0_off4 (i : grid0.Coords) (c1_i32_17 : BitVec 32) (c1_i32_18 : BitVec 32) : Fin 4 → Nat :=
  let c0_163 : Index := 0#32
  let arg2 : BitVec 32 := BitVec.ofNat 32 (i 2).val
  let v27 : BitVec 1 := Scalar.cmpi .sge arg2 c1_i32_17
  let v28 : BitVec 32 := Scalar.subi arg2 c1_i32_18
  let c1_i32_19 : BitVec 32 := 1#32
  let v29 : BitVec 32 := Scalar.addi arg2 c1_i32_19
  let v30 : BitVec 32 := Scalar.select v27 v28 v29
  let v281 : Index := Scalar.indexCast v30
  let c0_164 : Index := 0#32
  let c0_165 : Index := 0#32
  ![0, v281.toNat, 0, 0]
def k0_off4_at (r : Fin 2) : BitVec 32 × BitVec 32 :=
  if r.val < 1 then
    (1#32, 1#32)
  else
    (2#32, 2#32)
def k0_off5 (i : grid0.Coords) : Fin 4 → Nat :=
  let c0_194 : Index := 0#32
  let c2_i32_193 : BitVec 32 := 2#32
  let arg2 : BitVec 32 := BitVec.ofNat 32 (i 2).val
  let v311 : BitVec 32 := Scalar.muli c2_i32_193 arg2
  let v312 : Index := Scalar.indexCast v311
  let c0_195 : Index := 0#32
  let c0_196 : Index := 0#32
  ![0, v312.toNat, 0, 0]
def k0_off6 (i : grid0.Coords) : Fin 4 → Nat :=
  let c0_199 : Index := 0#32
  let c2_i32_197 : BitVec 32 := 2#32
  let arg2 : BitVec 32 := BitVec.ofNat 32 (i 2).val
  let v315 : BitVec 32 := Scalar.muli c2_i32_197 arg2
  let c1_i32_198 : BitVec 32 := 1#32
  let v316 : BitVec 32 := Scalar.addi v315 c1_i32_198
  let v317 : Index := Scalar.indexCast v316
  let c0_200 : Index := 0#32
  let c0_201 : Index := 0#32
  ![0, v317.toNat, 0, 0]
def k0_off7 (i : grid0.Coords) (c1_i32_17 : BitVec 32) (c1_i32_18 : BitVec 32) : Fin 4 → Nat :=
  let c1_273 : Index := 1#32
  let arg2 : BitVec 32 := BitVec.ofNat 32 (i 2).val
  let v27 : BitVec 1 := Scalar.cmpi .sge arg2 c1_i32_17
  let v28 : BitVec 32 := Scalar.subi arg2 c1_i32_18
  let c1_i32_19 : BitVec 32 := 1#32
  let v29 : BitVec 32 := Scalar.addi arg2 c1_i32_19
  let v30 : BitVec 32 := Scalar.select v27 v28 v29
  let v401 : Index := Scalar.indexCast v30
  let c0_274 : Index := 0#32
  let c0_275 : Index := 0#32
  ![1, v401.toNat, 0, 0]
def k0_off7_at (r : Fin 2) : BitVec 32 × BitVec 32 :=
  if r.val < 1 then
    (1#32, 1#32)
  else
    (2#32, 2#32)
def k0_off8 (i : grid0.Coords) : Fin 4 → Nat :=
  let c1_304 : Index := 1#32
  let c2_i32_303 : BitVec 32 := 2#32
  let arg2 : BitVec 32 := BitVec.ofNat 32 (i 2).val
  let v431 : BitVec 32 := Scalar.muli c2_i32_303 arg2
  let v432 : Index := Scalar.indexCast v431
  let c0_305 : Index := 0#32
  let c0_306 : Index := 0#32
  ![1, v432.toNat, 0, 0]
def k0_off9 (i : grid0.Coords) : Fin 4 → Nat :=
  let c1_309 : Index := 1#32
  let c2_i32_307 : BitVec 32 := 2#32
  let arg2 : BitVec 32 := BitVec.ofNat 32 (i 2).val
  let v435 : BitVec 32 := Scalar.muli c2_i32_307 arg2
  let c1_i32_308 : BitVec 32 := 1#32
  let v436 : BitVec 32 := Scalar.addi v435 c1_i32_308
  let v437 : Index := Scalar.indexCast v436
  let c0_310 : Index := 0#32
  let c0_311 : Index := 0#32
  ![1, v437.toNat, 0, 0]
def k0_off10 (i : grid0.Coords) (c1_i32_17 : BitVec 32) (c1_i32_18 : BitVec 32) : Fin 4 → Nat :=
  let c0_413 : Index := 0#32
  let c2_i32_412 : BitVec 32 := 2#32
  let arg2 : BitVec 32 := BitVec.ofNat 32 (i 2).val
  let v27 : BitVec 1 := Scalar.cmpi .sge arg2 c1_i32_17
  let v28 : BitVec 32 := Scalar.subi arg2 c1_i32_18
  let c1_i32_19 : BitVec 32 := 1#32
  let v29 : BitVec 32 := Scalar.addi arg2 c1_i32_19
  let v30 : BitVec 32 := Scalar.select v27 v28 v29
  let v551 : BitVec 32 := Scalar.muli c2_i32_412 v30
  let v552 : Index := Scalar.indexCast v551
  let c0_414 : Index := 0#32
  let c0_415 : Index := 0#32
  ![0, v552.toNat, 0, 0]
def k0_off10_at (r : Fin 2) : BitVec 32 × BitVec 32 :=
  if r.val < 1 then
    (1#32, 1#32)
  else
    (2#32, 2#32)
def k0_off11 (i : grid0.Coords) (c1_i32_17 : BitVec 32) (c1_i32_18 : BitVec 32) : Fin 4 → Nat :=
  let c0_418 : Index := 0#32
  let c2_i32_416 : BitVec 32 := 2#32
  let arg2 : BitVec 32 := BitVec.ofNat 32 (i 2).val
  let v27 : BitVec 1 := Scalar.cmpi .sge arg2 c1_i32_17
  let v28 : BitVec 32 := Scalar.subi arg2 c1_i32_18
  let c1_i32_19 : BitVec 32 := 1#32
  let v29 : BitVec 32 := Scalar.addi arg2 c1_i32_19
  let v30 : BitVec 32 := Scalar.select v27 v28 v29
  let v555 : BitVec 32 := Scalar.muli c2_i32_416 v30
  let c1_i32_417 : BitVec 32 := 1#32
  let v556 : BitVec 32 := Scalar.addi v555 c1_i32_417
  let v557 : Index := Scalar.indexCast v556
  let c0_419 : Index := 0#32
  let c0_420 : Index := 0#32
  ![0, v557.toNat, 0, 0]
def k0_off11_at (r : Fin 2) : BitVec 32 × BitVec 32 :=
  if r.val < 1 then
    (1#32, 1#32)
  else
    (2#32, 2#32)
def k0_off12 (i : grid0.Coords) (c1_i32_17 : BitVec 32) (c1_i32_18 : BitVec 32) : Fin 4 → Nat :=
  let c1_523 : Index := 1#32
  let c2_i32_522 : BitVec 32 := 2#32
  let arg2 : BitVec 32 := BitVec.ofNat 32 (i 2).val
  let v27 : BitVec 1 := Scalar.cmpi .sge arg2 c1_i32_17
  let v28 : BitVec 32 := Scalar.subi arg2 c1_i32_18
  let c1_i32_19 : BitVec 32 := 1#32
  let v29 : BitVec 32 := Scalar.addi arg2 c1_i32_19
  let v30 : BitVec 32 := Scalar.select v27 v28 v29
  let v671 : BitVec 32 := Scalar.muli c2_i32_522 v30
  let v672 : Index := Scalar.indexCast v671
  let c0_524 : Index := 0#32
  let c0_525 : Index := 0#32
  ![1, v672.toNat, 0, 0]
def k0_off12_at (r : Fin 2) : BitVec 32 × BitVec 32 :=
  if r.val < 1 then
    (1#32, 1#32)
  else
    (2#32, 2#32)
def k0_off13 (i : grid0.Coords) (c1_i32_17 : BitVec 32) (c1_i32_18 : BitVec 32) : Fin 4 → Nat :=
  let c1_528 : Index := 1#32
  let c2_i32_526 : BitVec 32 := 2#32
  let arg2 : BitVec 32 := BitVec.ofNat 32 (i 2).val
  let v27 : BitVec 1 := Scalar.cmpi .sge arg2 c1_i32_17
  let v28 : BitVec 32 := Scalar.subi arg2 c1_i32_18
  let c1_i32_19 : BitVec 32 := 1#32
  let v29 : BitVec 32 := Scalar.addi arg2 c1_i32_19
  let v30 : BitVec 32 := Scalar.select v27 v28 v29
  let v675 : BitVec 32 := Scalar.muli c2_i32_526 v30
  let c1_i32_527 : BitVec 32 := 1#32
  let v676 : BitVec 32 := Scalar.addi v675 c1_i32_527
  let v677 : Index := Scalar.indexCast v676
  let c0_529 : Index := 0#32
  let c0_530 : Index := 0#32
  ![1, v677.toNat, 0, 0]
def k0_off13_at (r : Fin 2) : BitVec 32 × BitVec 32 :=
  if r.val < 1 then
    (1#32, 1#32)
  else
    (2#32, 2#32)
@[reducible] def k0_t1_loop (i : grid0.Coords) : Scf.Loop 32 :=
  let c0_i32_831 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c0_i32_816 : BitVec 32 := 0#32
  let v994 : BitVec 1 := Scalar.cmpi .sgt v36 c0_i32_816
  let v995 : BitVec 32 := Scalar.extui v994
  let c0_i32_817 : BitVec 32 := 0#32
  let v996 : BitVec 1 := Scalar.cmpi .slt v36 c0_i32_817
  let v997 : BitVec 32 := Scalar.extui v996
  let v998 : BitVec 32 := Scalar.subi v995 v997
  let c4_i32 : BitVec 32 := 4#32
  let c0_i32_818 : BitVec 32 := 0#32
  let v999 : BitVec 1 := Scalar.cmpi .sgt c4_i32 c0_i32_818
  let v1000 : BitVec 32 := Scalar.extui v999
  let c0_i32_819 : BitVec 32 := 0#32
  let v1001 : BitVec 1 := Scalar.cmpi .slt c4_i32 c0_i32_819
  let v1002 : BitVec 32 := Scalar.extui v1001
  let v1003 : BitVec 32 := Scalar.subi v1000 v1002
  let v1004 : BitVec 1 := Scalar.cmpi .ne v998 v1003
  let v1005 : BitVec 32 := Scalar.remsi v36 c4_i32
  let c0_i32_820 : BitVec 32 := 0#32
  let v1006 : BitVec 1 := Scalar.cmpi .ne v1005 c0_i32_820
  let v1007 : BitVec 1 := Scalar.andi v1004 v1006
  let v993 : BitVec 32 := Scalar.divsi v36 c4_i32
  let c1_i32_821 : BitVec 32 := 1#32
  let v1008 : BitVec 32 := Scalar.subi v993 c1_i32_821
  let v1009 : BitVec 32 := Scalar.select v1007 v1008 v993
  let v1010 : BitVec 32 := Scalar.subi v1009 c0_i32_831
  let c1_i32_832 : BitVec 32 := 1#32
  let v1012 : BitVec 32 := Scalar.divsi v1010 c1_i32_832
  let v1013 : BitVec 32 := Scalar.muli v1012 c1_i32_832
  let v1014 : BitVec 32 := Scalar.addi c0_i32_831 v1013
  let c1_i32_833 : BitVec 32 := 1#32
  ⟨c0_i32_831, v1014, c1_i32_833⟩
def k0_off14 (i : grid0.Coords) (k0_t1 : Fin (k0_t1_loop i).trips) (c0_i32_885 : BitVec 32) : Fin 4 → Nat :=
  let c0_888 : Index := 0#32
  let c0_i32_886 : BitVec 32 := 0#32
  let c4_i32_884 : BitVec 32 := 4#32
  let c0_i32_831 : BitVec 32 := 0#32
  let c1_i32_833 : BitVec 32 := 1#32
  let arg24 : BitVec 32 := Scf.iv c0_i32_831 c1_i32_833 k0_t1
  let v1064 : BitVec 32 := Scalar.muli c4_i32_884 arg24
  let v1065 : BitVec 32 := Scalar.addi v1064 c0_i32_885
  let v1066 : BitVec 32 := Scalar.addi c0_i32_886 v1065
  let c1_i32_887 : BitVec 32 := 1#32
  let v1067 : BitVec 32 := Scalar.addi v1066 c1_i32_887
  let c15_i32 : BitVec 32 := 15#32
  let v1068 : BitVec 32 := Scalar.minsi v1067 c15_i32
  let v1069 : Index := Scalar.indexCast v1068
  let c0_889 : Index := 0#32
  let c0_890 : Index := 0#32
  ![0, v1069.toNat, 0, 0]
def k0_off15 (i : grid0.Coords) (k0_t1 : Fin (k0_t1_loop i).trips) (c0_i32_885 : BitVec 32) : Fin 4 → Nat :=
  let c0_913 : Index := 0#32
  let c2_i32_912 : BitVec 32 := 2#32
  let c0_i32_896 : BitVec 32 := 0#32
  let c4_i32_884 : BitVec 32 := 4#32
  let c0_i32_831 : BitVec 32 := 0#32
  let c1_i32_833 : BitVec 32 := 1#32
  let arg24 : BitVec 32 := Scf.iv c0_i32_831 c1_i32_833 k0_t1
  let v1064 : BitVec 32 := Scalar.muli c4_i32_884 arg24
  let v1065 : BitVec 32 := Scalar.addi v1064 c0_i32_885
  let v1076 : BitVec 32 := Scalar.addi c0_i32_896 v1065
  let v1097 : BitVec 32 := Scalar.muli c2_i32_912 v1076
  let v1098 : Index := Scalar.indexCast v1097
  let c0_914 : Index := 0#32
  let c0_915 : Index := 0#32
  ![0, v1098.toNat, 0, 0]
def k0_off16 (i : grid0.Coords) (k0_t1 : Fin (k0_t1_loop i).trips) (c0_i32_885 : BitVec 32) : Fin 4 → Nat :=
  let c0_918 : Index := 0#32
  let c2_i32_916 : BitVec 32 := 2#32
  let c0_i32_896 : BitVec 32 := 0#32
  let c4_i32_884 : BitVec 32 := 4#32
  let c0_i32_831 : BitVec 32 := 0#32
  let c1_i32_833 : BitVec 32 := 1#32
  let arg24 : BitVec 32 := Scf.iv c0_i32_831 c1_i32_833 k0_t1
  let v1064 : BitVec 32 := Scalar.muli c4_i32_884 arg24
  let v1065 : BitVec 32 := Scalar.addi v1064 c0_i32_885
  let v1076 : BitVec 32 := Scalar.addi c0_i32_896 v1065
  let v1101 : BitVec 32 := Scalar.muli c2_i32_916 v1076
  let c1_i32_917 : BitVec 32 := 1#32
  let v1102 : BitVec 32 := Scalar.addi v1101 c1_i32_917
  let v1103 : Index := Scalar.indexCast v1102
  let c0_919 : Index := 0#32
  let c0_920 : Index := 0#32
  ![0, v1103.toNat, 0, 0]
def k0_off17 (i : grid0.Coords) (k0_t1 : Fin (k0_t1_loop i).trips) (c0_i32_885 : BitVec 32) : Fin 4 → Nat :=
  let c1_984 : Index := 1#32
  let c0_i32_981 : BitVec 32 := 0#32
  let c4_i32_884 : BitVec 32 := 4#32
  let c0_i32_831 : BitVec 32 := 0#32
  let c1_i32_833 : BitVec 32 := 1#32
  let arg24 : BitVec 32 := Scf.iv c0_i32_831 c1_i32_833 k0_t1
  let v1064 : BitVec 32 := Scalar.muli c4_i32_884 arg24
  let v1065 : BitVec 32 := Scalar.addi v1064 c0_i32_885
  let v1187 : BitVec 32 := Scalar.addi c0_i32_981 v1065
  let c1_i32_982 : BitVec 32 := 1#32
  let v1188 : BitVec 32 := Scalar.addi v1187 c1_i32_982
  let c15_i32_983 : BitVec 32 := 15#32
  let v1189 : BitVec 32 := Scalar.minsi v1188 c15_i32_983
  let v1190 : Index := Scalar.indexCast v1189
  let c0_985 : Index := 0#32
  let c0_986 : Index := 0#32
  ![1, v1190.toNat, 0, 0]
def k0_off18 (i : grid0.Coords) (k0_t1 : Fin (k0_t1_loop i).trips) (c0_i32_885 : BitVec 32) : Fin 4 → Nat :=
  let c1_1009 : Index := 1#32
  let c2_i32_1008 : BitVec 32 := 2#32
  let c0_i32_992 : BitVec 32 := 0#32
  let c4_i32_884 : BitVec 32 := 4#32
  let c0_i32_831 : BitVec 32 := 0#32
  let c1_i32_833 : BitVec 32 := 1#32
  let arg24 : BitVec 32 := Scf.iv c0_i32_831 c1_i32_833 k0_t1
  let v1064 : BitVec 32 := Scalar.muli c4_i32_884 arg24
  let v1065 : BitVec 32 := Scalar.addi v1064 c0_i32_885
  let v1197 : BitVec 32 := Scalar.addi c0_i32_992 v1065
  let v1218 : BitVec 32 := Scalar.muli c2_i32_1008 v1197
  let v1219 : Index := Scalar.indexCast v1218
  let c0_1010 : Index := 0#32
  let c0_1011 : Index := 0#32
  ![1, v1219.toNat, 0, 0]
def k0_off19 (i : grid0.Coords) (k0_t1 : Fin (k0_t1_loop i).trips) (c0_i32_885 : BitVec 32) : Fin 4 → Nat :=
  let c1_1014 : Index := 1#32
  let c2_i32_1012 : BitVec 32 := 2#32
  let c0_i32_992 : BitVec 32 := 0#32
  let c4_i32_884 : BitVec 32 := 4#32
  let c0_i32_831 : BitVec 32 := 0#32
  let c1_i32_833 : BitVec 32 := 1#32
  let arg24 : BitVec 32 := Scf.iv c0_i32_831 c1_i32_833 k0_t1
  let v1064 : BitVec 32 := Scalar.muli c4_i32_884 arg24
  let v1065 : BitVec 32 := Scalar.addi v1064 c0_i32_885
  let v1197 : BitVec 32 := Scalar.addi c0_i32_992 v1065
  let v1222 : BitVec 32 := Scalar.muli c2_i32_1012 v1197
  let c1_i32_1013 : BitVec 32 := 1#32
  let v1223 : BitVec 32 := Scalar.addi v1222 c1_i32_1013
  let v1224 : Index := Scalar.indexCast v1223
  let c0_1015 : Index := 0#32
  let c0_1016 : Index := 0#32
  ![1, v1224.toNat, 0, 0]
@[reducible] def k0_t2_loop (i : grid0.Coords) : Scf.Loop 32 :=
  let c0_i32_831 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c0_i32_816 : BitVec 32 := 0#32
  let v994 : BitVec 1 := Scalar.cmpi .sgt v36 c0_i32_816
  let v995 : BitVec 32 := Scalar.extui v994
  let c0_i32_817 : BitVec 32 := 0#32
  let v996 : BitVec 1 := Scalar.cmpi .slt v36 c0_i32_817
  let v997 : BitVec 32 := Scalar.extui v996
  let v998 : BitVec 32 := Scalar.subi v995 v997
  let c4_i32 : BitVec 32 := 4#32
  let c0_i32_818 : BitVec 32 := 0#32
  let v999 : BitVec 1 := Scalar.cmpi .sgt c4_i32 c0_i32_818
  let v1000 : BitVec 32 := Scalar.extui v999
  let c0_i32_819 : BitVec 32 := 0#32
  let v1001 : BitVec 1 := Scalar.cmpi .slt c4_i32 c0_i32_819
  let v1002 : BitVec 32 := Scalar.extui v1001
  let v1003 : BitVec 32 := Scalar.subi v1000 v1002
  let v1004 : BitVec 1 := Scalar.cmpi .ne v998 v1003
  let v1005 : BitVec 32 := Scalar.remsi v36 c4_i32
  let c0_i32_820 : BitVec 32 := 0#32
  let v1006 : BitVec 1 := Scalar.cmpi .ne v1005 c0_i32_820
  let v1007 : BitVec 1 := Scalar.andi v1004 v1006
  let v993 : BitVec 32 := Scalar.divsi v36 c4_i32
  let c1_i32_821 : BitVec 32 := 1#32
  let v1008 : BitVec 32 := Scalar.subi v993 c1_i32_821
  let v1009 : BitVec 32 := Scalar.select v1007 v1008 v993
  let v1010 : BitVec 32 := Scalar.subi v1009 c0_i32_831
  let c1_i32_832 : BitVec 32 := 1#32
  let v1012 : BitVec 32 := Scalar.divsi v1010 c1_i32_832
  let v1013 : BitVec 32 := Scalar.muli v1012 c1_i32_832
  let v1014 : BitVec 32 := Scalar.addi c0_i32_831 v1013
  let v1011 : BitVec 32 := Scalar.addi c0_i32_831 v1010
  let c1_i32_834 : BitVec 32 := 1#32
  ⟨v1014, v1011, c1_i32_834⟩
def k0_off20 (i : grid0.Coords) (k0_t2 : Fin (k0_t2_loop i).trips) (c0_i32_885 : BitVec 32) : Fin 4 → Nat :=
  let c0_888 : Index := 0#32
  let c0_i32_886 : BitVec 32 := 0#32
  let c4_i32_884 : BitVec 32 := 4#32
  let c0_i32_831 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c0_i32_816 : BitVec 32 := 0#32
  let v994 : BitVec 1 := Scalar.cmpi .sgt v36 c0_i32_816
  let v995 : BitVec 32 := Scalar.extui v994
  let c0_i32_817 : BitVec 32 := 0#32
  let v996 : BitVec 1 := Scalar.cmpi .slt v36 c0_i32_817
  let v997 : BitVec 32 := Scalar.extui v996
  let v998 : BitVec 32 := Scalar.subi v995 v997
  let c4_i32 : BitVec 32 := 4#32
  let c0_i32_818 : BitVec 32 := 0#32
  let v999 : BitVec 1 := Scalar.cmpi .sgt c4_i32 c0_i32_818
  let v1000 : BitVec 32 := Scalar.extui v999
  let c0_i32_819 : BitVec 32 := 0#32
  let v1001 : BitVec 1 := Scalar.cmpi .slt c4_i32 c0_i32_819
  let v1002 : BitVec 32 := Scalar.extui v1001
  let v1003 : BitVec 32 := Scalar.subi v1000 v1002
  let v1004 : BitVec 1 := Scalar.cmpi .ne v998 v1003
  let v1005 : BitVec 32 := Scalar.remsi v36 c4_i32
  let c0_i32_820 : BitVec 32 := 0#32
  let v1006 : BitVec 1 := Scalar.cmpi .ne v1005 c0_i32_820
  let v1007 : BitVec 1 := Scalar.andi v1004 v1006
  let v993 : BitVec 32 := Scalar.divsi v36 c4_i32
  let c1_i32_821 : BitVec 32 := 1#32
  let v1008 : BitVec 32 := Scalar.subi v993 c1_i32_821
  let v1009 : BitVec 32 := Scalar.select v1007 v1008 v993
  let v1010 : BitVec 32 := Scalar.subi v1009 c0_i32_831
  let c1_i32_832 : BitVec 32 := 1#32
  let v1012 : BitVec 32 := Scalar.divsi v1010 c1_i32_832
  let v1013 : BitVec 32 := Scalar.muli v1012 c1_i32_832
  let v1014 : BitVec 32 := Scalar.addi c0_i32_831 v1013
  let c1_i32_834 : BitVec 32 := 1#32
  let arg24 : BitVec 32 := Scf.iv v1014 c1_i32_834 k0_t2
  let v1064 : BitVec 32 := Scalar.muli c4_i32_884 arg24
  let v1065 : BitVec 32 := Scalar.addi v1064 c0_i32_885
  let v1066 : BitVec 32 := Scalar.addi c0_i32_886 v1065
  let c1_i32_887 : BitVec 32 := 1#32
  let v1067 : BitVec 32 := Scalar.addi v1066 c1_i32_887
  let c15_i32 : BitVec 32 := 15#32
  let v1068 : BitVec 32 := Scalar.minsi v1067 c15_i32
  let v1069 : Index := Scalar.indexCast v1068
  let c0_889 : Index := 0#32
  let c0_890 : Index := 0#32
  ![0, v1069.toNat, 0, 0]
def k0_off21 (i : grid0.Coords) (k0_t2 : Fin (k0_t2_loop i).trips) (c0_i32_885 : BitVec 32) : Fin 4 → Nat :=
  let c0_913 : Index := 0#32
  let c2_i32_912 : BitVec 32 := 2#32
  let c0_i32_896 : BitVec 32 := 0#32
  let c4_i32_884 : BitVec 32 := 4#32
  let c0_i32_831 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c0_i32_816 : BitVec 32 := 0#32
  let v994 : BitVec 1 := Scalar.cmpi .sgt v36 c0_i32_816
  let v995 : BitVec 32 := Scalar.extui v994
  let c0_i32_817 : BitVec 32 := 0#32
  let v996 : BitVec 1 := Scalar.cmpi .slt v36 c0_i32_817
  let v997 : BitVec 32 := Scalar.extui v996
  let v998 : BitVec 32 := Scalar.subi v995 v997
  let c4_i32 : BitVec 32 := 4#32
  let c0_i32_818 : BitVec 32 := 0#32
  let v999 : BitVec 1 := Scalar.cmpi .sgt c4_i32 c0_i32_818
  let v1000 : BitVec 32 := Scalar.extui v999
  let c0_i32_819 : BitVec 32 := 0#32
  let v1001 : BitVec 1 := Scalar.cmpi .slt c4_i32 c0_i32_819
  let v1002 : BitVec 32 := Scalar.extui v1001
  let v1003 : BitVec 32 := Scalar.subi v1000 v1002
  let v1004 : BitVec 1 := Scalar.cmpi .ne v998 v1003
  let v1005 : BitVec 32 := Scalar.remsi v36 c4_i32
  let c0_i32_820 : BitVec 32 := 0#32
  let v1006 : BitVec 1 := Scalar.cmpi .ne v1005 c0_i32_820
  let v1007 : BitVec 1 := Scalar.andi v1004 v1006
  let v993 : BitVec 32 := Scalar.divsi v36 c4_i32
  let c1_i32_821 : BitVec 32 := 1#32
  let v1008 : BitVec 32 := Scalar.subi v993 c1_i32_821
  let v1009 : BitVec 32 := Scalar.select v1007 v1008 v993
  let v1010 : BitVec 32 := Scalar.subi v1009 c0_i32_831
  let c1_i32_832 : BitVec 32 := 1#32
  let v1012 : BitVec 32 := Scalar.divsi v1010 c1_i32_832
  let v1013 : BitVec 32 := Scalar.muli v1012 c1_i32_832
  let v1014 : BitVec 32 := Scalar.addi c0_i32_831 v1013
  let c1_i32_834 : BitVec 32 := 1#32
  let arg24 : BitVec 32 := Scf.iv v1014 c1_i32_834 k0_t2
  let v1064 : BitVec 32 := Scalar.muli c4_i32_884 arg24
  let v1065 : BitVec 32 := Scalar.addi v1064 c0_i32_885
  let v1076 : BitVec 32 := Scalar.addi c0_i32_896 v1065
  let v1097 : BitVec 32 := Scalar.muli c2_i32_912 v1076
  let v1098 : Index := Scalar.indexCast v1097
  let c0_914 : Index := 0#32
  let c0_915 : Index := 0#32
  ![0, v1098.toNat, 0, 0]
def k0_off22 (i : grid0.Coords) (k0_t2 : Fin (k0_t2_loop i).trips) (c0_i32_885 : BitVec 32) : Fin 4 → Nat :=
  let c0_918 : Index := 0#32
  let c2_i32_916 : BitVec 32 := 2#32
  let c0_i32_896 : BitVec 32 := 0#32
  let c4_i32_884 : BitVec 32 := 4#32
  let c0_i32_831 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c0_i32_816 : BitVec 32 := 0#32
  let v994 : BitVec 1 := Scalar.cmpi .sgt v36 c0_i32_816
  let v995 : BitVec 32 := Scalar.extui v994
  let c0_i32_817 : BitVec 32 := 0#32
  let v996 : BitVec 1 := Scalar.cmpi .slt v36 c0_i32_817
  let v997 : BitVec 32 := Scalar.extui v996
  let v998 : BitVec 32 := Scalar.subi v995 v997
  let c4_i32 : BitVec 32 := 4#32
  let c0_i32_818 : BitVec 32 := 0#32
  let v999 : BitVec 1 := Scalar.cmpi .sgt c4_i32 c0_i32_818
  let v1000 : BitVec 32 := Scalar.extui v999
  let c0_i32_819 : BitVec 32 := 0#32
  let v1001 : BitVec 1 := Scalar.cmpi .slt c4_i32 c0_i32_819
  let v1002 : BitVec 32 := Scalar.extui v1001
  let v1003 : BitVec 32 := Scalar.subi v1000 v1002
  let v1004 : BitVec 1 := Scalar.cmpi .ne v998 v1003
  let v1005 : BitVec 32 := Scalar.remsi v36 c4_i32
  let c0_i32_820 : BitVec 32 := 0#32
  let v1006 : BitVec 1 := Scalar.cmpi .ne v1005 c0_i32_820
  let v1007 : BitVec 1 := Scalar.andi v1004 v1006
  let v993 : BitVec 32 := Scalar.divsi v36 c4_i32
  let c1_i32_821 : BitVec 32 := 1#32
  let v1008 : BitVec 32 := Scalar.subi v993 c1_i32_821
  let v1009 : BitVec 32 := Scalar.select v1007 v1008 v993
  let v1010 : BitVec 32 := Scalar.subi v1009 c0_i32_831
  let c1_i32_832 : BitVec 32 := 1#32
  let v1012 : BitVec 32 := Scalar.divsi v1010 c1_i32_832
  let v1013 : BitVec 32 := Scalar.muli v1012 c1_i32_832
  let v1014 : BitVec 32 := Scalar.addi c0_i32_831 v1013
  let c1_i32_834 : BitVec 32 := 1#32
  let arg24 : BitVec 32 := Scf.iv v1014 c1_i32_834 k0_t2
  let v1064 : BitVec 32 := Scalar.muli c4_i32_884 arg24
  let v1065 : BitVec 32 := Scalar.addi v1064 c0_i32_885
  let v1076 : BitVec 32 := Scalar.addi c0_i32_896 v1065
  let v1101 : BitVec 32 := Scalar.muli c2_i32_916 v1076
  let c1_i32_917 : BitVec 32 := 1#32
  let v1102 : BitVec 32 := Scalar.addi v1101 c1_i32_917
  let v1103 : Index := Scalar.indexCast v1102
  let c0_919 : Index := 0#32
  let c0_920 : Index := 0#32
  ![0, v1103.toNat, 0, 0]
def k0_off23 (i : grid0.Coords) (k0_t2 : Fin (k0_t2_loop i).trips) (c0_i32_885 : BitVec 32) : Fin 4 → Nat :=
  let c1_984 : Index := 1#32
  let c0_i32_981 : BitVec 32 := 0#32
  let c4_i32_884 : BitVec 32 := 4#32
  let c0_i32_831 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c0_i32_816 : BitVec 32 := 0#32
  let v994 : BitVec 1 := Scalar.cmpi .sgt v36 c0_i32_816
  let v995 : BitVec 32 := Scalar.extui v994
  let c0_i32_817 : BitVec 32 := 0#32
  let v996 : BitVec 1 := Scalar.cmpi .slt v36 c0_i32_817
  let v997 : BitVec 32 := Scalar.extui v996
  let v998 : BitVec 32 := Scalar.subi v995 v997
  let c4_i32 : BitVec 32 := 4#32
  let c0_i32_818 : BitVec 32 := 0#32
  let v999 : BitVec 1 := Scalar.cmpi .sgt c4_i32 c0_i32_818
  let v1000 : BitVec 32 := Scalar.extui v999
  let c0_i32_819 : BitVec 32 := 0#32
  let v1001 : BitVec 1 := Scalar.cmpi .slt c4_i32 c0_i32_819
  let v1002 : BitVec 32 := Scalar.extui v1001
  let v1003 : BitVec 32 := Scalar.subi v1000 v1002
  let v1004 : BitVec 1 := Scalar.cmpi .ne v998 v1003
  let v1005 : BitVec 32 := Scalar.remsi v36 c4_i32
  let c0_i32_820 : BitVec 32 := 0#32
  let v1006 : BitVec 1 := Scalar.cmpi .ne v1005 c0_i32_820
  let v1007 : BitVec 1 := Scalar.andi v1004 v1006
  let v993 : BitVec 32 := Scalar.divsi v36 c4_i32
  let c1_i32_821 : BitVec 32 := 1#32
  let v1008 : BitVec 32 := Scalar.subi v993 c1_i32_821
  let v1009 : BitVec 32 := Scalar.select v1007 v1008 v993
  let v1010 : BitVec 32 := Scalar.subi v1009 c0_i32_831
  let c1_i32_832 : BitVec 32 := 1#32
  let v1012 : BitVec 32 := Scalar.divsi v1010 c1_i32_832
  let v1013 : BitVec 32 := Scalar.muli v1012 c1_i32_832
  let v1014 : BitVec 32 := Scalar.addi c0_i32_831 v1013
  let c1_i32_834 : BitVec 32 := 1#32
  let arg24 : BitVec 32 := Scf.iv v1014 c1_i32_834 k0_t2
  let v1064 : BitVec 32 := Scalar.muli c4_i32_884 arg24
  let v1065 : BitVec 32 := Scalar.addi v1064 c0_i32_885
  let v1187 : BitVec 32 := Scalar.addi c0_i32_981 v1065
  let c1_i32_982 : BitVec 32 := 1#32
  let v1188 : BitVec 32 := Scalar.addi v1187 c1_i32_982
  let c15_i32_983 : BitVec 32 := 15#32
  let v1189 : BitVec 32 := Scalar.minsi v1188 c15_i32_983
  let v1190 : Index := Scalar.indexCast v1189
  let c0_985 : Index := 0#32
  let c0_986 : Index := 0#32
  ![1, v1190.toNat, 0, 0]
def k0_off24 (i : grid0.Coords) (k0_t2 : Fin (k0_t2_loop i).trips) (c0_i32_885 : BitVec 32) : Fin 4 → Nat :=
  let c1_1009 : Index := 1#32
  let c2_i32_1008 : BitVec 32 := 2#32
  let c0_i32_992 : BitVec 32 := 0#32
  let c4_i32_884 : BitVec 32 := 4#32
  let c0_i32_831 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c0_i32_816 : BitVec 32 := 0#32
  let v994 : BitVec 1 := Scalar.cmpi .sgt v36 c0_i32_816
  let v995 : BitVec 32 := Scalar.extui v994
  let c0_i32_817 : BitVec 32 := 0#32
  let v996 : BitVec 1 := Scalar.cmpi .slt v36 c0_i32_817
  let v997 : BitVec 32 := Scalar.extui v996
  let v998 : BitVec 32 := Scalar.subi v995 v997
  let c4_i32 : BitVec 32 := 4#32
  let c0_i32_818 : BitVec 32 := 0#32
  let v999 : BitVec 1 := Scalar.cmpi .sgt c4_i32 c0_i32_818
  let v1000 : BitVec 32 := Scalar.extui v999
  let c0_i32_819 : BitVec 32 := 0#32
  let v1001 : BitVec 1 := Scalar.cmpi .slt c4_i32 c0_i32_819
  let v1002 : BitVec 32 := Scalar.extui v1001
  let v1003 : BitVec 32 := Scalar.subi v1000 v1002
  let v1004 : BitVec 1 := Scalar.cmpi .ne v998 v1003
  let v1005 : BitVec 32 := Scalar.remsi v36 c4_i32
  let c0_i32_820 : BitVec 32 := 0#32
  let v1006 : BitVec 1 := Scalar.cmpi .ne v1005 c0_i32_820
  let v1007 : BitVec 1 := Scalar.andi v1004 v1006
  let v993 : BitVec 32 := Scalar.divsi v36 c4_i32
  let c1_i32_821 : BitVec 32 := 1#32
  let v1008 : BitVec 32 := Scalar.subi v993 c1_i32_821
  let v1009 : BitVec 32 := Scalar.select v1007 v1008 v993
  let v1010 : BitVec 32 := Scalar.subi v1009 c0_i32_831
  let c1_i32_832 : BitVec 32 := 1#32
  let v1012 : BitVec 32 := Scalar.divsi v1010 c1_i32_832
  let v1013 : BitVec 32 := Scalar.muli v1012 c1_i32_832
  let v1014 : BitVec 32 := Scalar.addi c0_i32_831 v1013
  let c1_i32_834 : BitVec 32 := 1#32
  let arg24 : BitVec 32 := Scf.iv v1014 c1_i32_834 k0_t2
  let v1064 : BitVec 32 := Scalar.muli c4_i32_884 arg24
  let v1065 : BitVec 32 := Scalar.addi v1064 c0_i32_885
  let v1197 : BitVec 32 := Scalar.addi c0_i32_992 v1065
  let v1218 : BitVec 32 := Scalar.muli c2_i32_1008 v1197
  let v1219 : Index := Scalar.indexCast v1218
  let c0_1010 : Index := 0#32
  let c0_1011 : Index := 0#32
  ![1, v1219.toNat, 0, 0]
def k0_off25 (i : grid0.Coords) (k0_t2 : Fin (k0_t2_loop i).trips) (c0_i32_885 : BitVec 32) : Fin 4 → Nat :=
  let c1_1014 : Index := 1#32
  let c2_i32_1012 : BitVec 32 := 2#32
  let c0_i32_992 : BitVec 32 := 0#32
  let c4_i32_884 : BitVec 32 := 4#32
  let c0_i32_831 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c0_i32_816 : BitVec 32 := 0#32
  let v994 : BitVec 1 := Scalar.cmpi .sgt v36 c0_i32_816
  let v995 : BitVec 32 := Scalar.extui v994
  let c0_i32_817 : BitVec 32 := 0#32
  let v996 : BitVec 1 := Scalar.cmpi .slt v36 c0_i32_817
  let v997 : BitVec 32 := Scalar.extui v996
  let v998 : BitVec 32 := Scalar.subi v995 v997
  let c4_i32 : BitVec 32 := 4#32
  let c0_i32_818 : BitVec 32 := 0#32
  let v999 : BitVec 1 := Scalar.cmpi .sgt c4_i32 c0_i32_818
  let v1000 : BitVec 32 := Scalar.extui v999
  let c0_i32_819 : BitVec 32 := 0#32
  let v1001 : BitVec 1 := Scalar.cmpi .slt c4_i32 c0_i32_819
  let v1002 : BitVec 32 := Scalar.extui v1001
  let v1003 : BitVec 32 := Scalar.subi v1000 v1002
  let v1004 : BitVec 1 := Scalar.cmpi .ne v998 v1003
  let v1005 : BitVec 32 := Scalar.remsi v36 c4_i32
  let c0_i32_820 : BitVec 32 := 0#32
  let v1006 : BitVec 1 := Scalar.cmpi .ne v1005 c0_i32_820
  let v1007 : BitVec 1 := Scalar.andi v1004 v1006
  let v993 : BitVec 32 := Scalar.divsi v36 c4_i32
  let c1_i32_821 : BitVec 32 := 1#32
  let v1008 : BitVec 32 := Scalar.subi v993 c1_i32_821
  let v1009 : BitVec 32 := Scalar.select v1007 v1008 v993
  let v1010 : BitVec 32 := Scalar.subi v1009 c0_i32_831
  let c1_i32_832 : BitVec 32 := 1#32
  let v1012 : BitVec 32 := Scalar.divsi v1010 c1_i32_832
  let v1013 : BitVec 32 := Scalar.muli v1012 c1_i32_832
  let v1014 : BitVec 32 := Scalar.addi c0_i32_831 v1013
  let c1_i32_834 : BitVec 32 := 1#32
  let arg24 : BitVec 32 := Scf.iv v1014 c1_i32_834 k0_t2
  let v1064 : BitVec 32 := Scalar.muli c4_i32_884 arg24
  let v1065 : BitVec 32 := Scalar.addi v1064 c0_i32_885
  let v1197 : BitVec 32 := Scalar.addi c0_i32_992 v1065
  let v1222 : BitVec 32 := Scalar.muli c2_i32_1012 v1197
  let c1_i32_1013 : BitVec 32 := 1#32
  let v1223 : BitVec 32 := Scalar.addi v1222 c1_i32_1013
  let v1224 : Index := Scalar.indexCast v1223
  let c0_1015 : Index := 0#32
  let c0_1016 : Index := 0#32
  ![1, v1224.toNat, 0, 0]
def k0_cond2 (i : grid0.Coords) : BitVec 1 :=
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let c2_i32_841 : BitVec 32 := 2#32
  let v1026 : BitVec 1 := Scalar.cmpi .sge v1024 c2_i32_841
  let v1027 : BitVec 32 := Scalar.extui v1026
  let c0_i32_850 : BitVec 32 := 0#32
  let v1028 : BitVec 1 := Scalar.cmpi .ne v1027 c0_i32_850
  v1028

def k0_off26 (i : grid0.Coords) : Fin 4 → Nat :=
  let c0_886 : Index := 0#32
  let c0_i32_884 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let v1064 : BitVec 32 := Scalar.addi c0_i32_884 v1025
  let c1_i32_885 : BitVec 32 := 1#32
  let v1065 : BitVec 32 := Scalar.addi v1064 c1_i32_885
  let c15_i32 : BitVec 32 := 15#32
  let v1066 : BitVec 32 := Scalar.minsi v1065 c15_i32
  let v1067 : Index := Scalar.indexCast v1066
  let c0_887 : Index := 0#32
  let c0_888 : Index := 0#32
  ![0, v1067.toNat, 0, 0]
def k0_off27 (i : grid0.Coords) : Fin 4 → Nat :=
  let c0_911 : Index := 0#32
  let c2_i32_910 : BitVec 32 := 2#32
  let c0_i32_894 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let v1074 : BitVec 32 := Scalar.addi c0_i32_894 v1025
  let v1095 : BitVec 32 := Scalar.muli c2_i32_910 v1074
  let v1096 : Index := Scalar.indexCast v1095
  let c0_912 : Index := 0#32
  let c0_913 : Index := 0#32
  ![0, v1096.toNat, 0, 0]
def k0_off28 (i : grid0.Coords) : Fin 4 → Nat :=
  let c0_916 : Index := 0#32
  let c2_i32_914 : BitVec 32 := 2#32
  let c0_i32_894 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let v1074 : BitVec 32 := Scalar.addi c0_i32_894 v1025
  let v1099 : BitVec 32 := Scalar.muli c2_i32_914 v1074
  let c1_i32_915 : BitVec 32 := 1#32
  let v1100 : BitVec 32 := Scalar.addi v1099 c1_i32_915
  let v1101 : Index := Scalar.indexCast v1100
  let c0_917 : Index := 0#32
  let c0_918 : Index := 0#32
  ![0, v1101.toNat, 0, 0]
def k0_off29 (i : grid0.Coords) : Fin 4 → Nat :=
  let c1_982 : Index := 1#32
  let c0_i32_979 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let v1185 : BitVec 32 := Scalar.addi c0_i32_979 v1025
  let c1_i32_980 : BitVec 32 := 1#32
  let v1186 : BitVec 32 := Scalar.addi v1185 c1_i32_980
  let c15_i32_981 : BitVec 32 := 15#32
  let v1187 : BitVec 32 := Scalar.minsi v1186 c15_i32_981
  let v1188 : Index := Scalar.indexCast v1187
  let c0_983 : Index := 0#32
  let c0_984 : Index := 0#32
  ![1, v1188.toNat, 0, 0]
def k0_off30 (i : grid0.Coords) : Fin 4 → Nat :=
  let c1_1007 : Index := 1#32
  let c2_i32_1006 : BitVec 32 := 2#32
  let c0_i32_990 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let v1195 : BitVec 32 := Scalar.addi c0_i32_990 v1025
  let v1216 : BitVec 32 := Scalar.muli c2_i32_1006 v1195
  let v1217 : Index := Scalar.indexCast v1216
  let c0_1008 : Index := 0#32
  let c0_1009 : Index := 0#32
  ![1, v1217.toNat, 0, 0]
def k0_off31 (i : grid0.Coords) : Fin 4 → Nat :=
  let c1_1012 : Index := 1#32
  let c2_i32_1010 : BitVec 32 := 2#32
  let c0_i32_990 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let v1195 : BitVec 32 := Scalar.addi c0_i32_990 v1025
  let v1220 : BitVec 32 := Scalar.muli c2_i32_1010 v1195
  let c1_i32_1011 : BitVec 32 := 1#32
  let v1221 : BitVec 32 := Scalar.addi v1220 c1_i32_1011
  let v1222 : Index := Scalar.indexCast v1221
  let c0_1013 : Index := 0#32
  let c0_1014 : Index := 0#32
  ![1, v1222.toNat, 0, 0]
def k0_off32 (i : grid0.Coords) : Fin 4 → Nat :=
  let c0_1079 : Index := 0#32
  let c0_i32_1076 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let c1_i32_1075 : BitVec 32 := 1#32
  let v1306 : BitVec 32 := Scalar.addi v1025 c1_i32_1075
  let v1307 : BitVec 32 := Scalar.addi c0_i32_1076 v1306
  let c1_i32_1077 : BitVec 32 := 1#32
  let v1308 : BitVec 32 := Scalar.addi v1307 c1_i32_1077
  let c15_i32_1078 : BitVec 32 := 15#32
  let v1309 : BitVec 32 := Scalar.minsi v1308 c15_i32_1078
  let v1310 : Index := Scalar.indexCast v1309
  let c0_1080 : Index := 0#32
  let c0_1081 : Index := 0#32
  ![0, v1310.toNat, 0, 0]
def k0_off33 (i : grid0.Coords) : Fin 4 → Nat :=
  let c0_1104 : Index := 0#32
  let c2_i32_1103 : BitVec 32 := 2#32
  let c0_i32_1087 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let c1_i32_1075 : BitVec 32 := 1#32
  let v1306 : BitVec 32 := Scalar.addi v1025 c1_i32_1075
  let v1317 : BitVec 32 := Scalar.addi c0_i32_1087 v1306
  let v1338 : BitVec 32 := Scalar.muli c2_i32_1103 v1317
  let v1339 : Index := Scalar.indexCast v1338
  let c0_1105 : Index := 0#32
  let c0_1106 : Index := 0#32
  ![0, v1339.toNat, 0, 0]
def k0_off34 (i : grid0.Coords) : Fin 4 → Nat :=
  let c0_1109 : Index := 0#32
  let c2_i32_1107 : BitVec 32 := 2#32
  let c0_i32_1087 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let c1_i32_1075 : BitVec 32 := 1#32
  let v1306 : BitVec 32 := Scalar.addi v1025 c1_i32_1075
  let v1317 : BitVec 32 := Scalar.addi c0_i32_1087 v1306
  let v1342 : BitVec 32 := Scalar.muli c2_i32_1107 v1317
  let c1_i32_1108 : BitVec 32 := 1#32
  let v1343 : BitVec 32 := Scalar.addi v1342 c1_i32_1108
  let v1344 : Index := Scalar.indexCast v1343
  let c0_1110 : Index := 0#32
  let c0_1111 : Index := 0#32
  ![0, v1344.toNat, 0, 0]
def k0_off35 (i : grid0.Coords) : Fin 4 → Nat :=
  let c1_1175 : Index := 1#32
  let c0_i32_1172 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let c1_i32_1075 : BitVec 32 := 1#32
  let v1306 : BitVec 32 := Scalar.addi v1025 c1_i32_1075
  let v1428 : BitVec 32 := Scalar.addi c0_i32_1172 v1306
  let c1_i32_1173 : BitVec 32 := 1#32
  let v1429 : BitVec 32 := Scalar.addi v1428 c1_i32_1173
  let c15_i32_1174 : BitVec 32 := 15#32
  let v1430 : BitVec 32 := Scalar.minsi v1429 c15_i32_1174
  let v1431 : Index := Scalar.indexCast v1430
  let c0_1176 : Index := 0#32
  let c0_1177 : Index := 0#32
  ![1, v1431.toNat, 0, 0]
def k0_off36 (i : grid0.Coords) : Fin 4 → Nat :=
  let c1_1200 : Index := 1#32
  let c2_i32_1199 : BitVec 32 := 2#32
  let c0_i32_1183 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let c1_i32_1075 : BitVec 32 := 1#32
  let v1306 : BitVec 32 := Scalar.addi v1025 c1_i32_1075
  let v1438 : BitVec 32 := Scalar.addi c0_i32_1183 v1306
  let v1459 : BitVec 32 := Scalar.muli c2_i32_1199 v1438
  let v1460 : Index := Scalar.indexCast v1459
  let c0_1201 : Index := 0#32
  let c0_1202 : Index := 0#32
  ![1, v1460.toNat, 0, 0]
def k0_off37 (i : grid0.Coords) : Fin 4 → Nat :=
  let c1_1205 : Index := 1#32
  let c2_i32_1203 : BitVec 32 := 2#32
  let c0_i32_1183 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let v1025 : BitVec 32 := Scalar.subi v36 v1024
  let c1_i32_1075 : BitVec 32 := 1#32
  let v1306 : BitVec 32 := Scalar.addi v1025 c1_i32_1075
  let v1438 : BitVec 32 := Scalar.addi c0_i32_1183 v1306
  let v1463 : BitVec 32 := Scalar.muli c2_i32_1203 v1438
  let c1_i32_1204 : BitVec 32 := 1#32
  let v1464 : BitVec 32 := Scalar.addi v1463 c1_i32_1204
  let v1465 : Index := Scalar.indexCast v1464
  let c0_1206 : Index := 0#32
  let c0_1207 : Index := 0#32
  ![1, v1465.toNat, 0, 0]
def k0_cond3 (i : grid0.Coords) : BitVec 1 :=
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c4_i32_835 : BitVec 32 := 4#32
  let c0_i32_836 : BitVec 32 := 0#32
  let v1015 : BitVec 1 := Scalar.cmpi .eq c4_i32_835 c0_i32_836
  let c1_i32_837 : BitVec 32 := 1#32
  let v1016 : BitVec 32 := Scalar.select v1015 c1_i32_837 c4_i32_835
  let v1017 : BitVec 32 := Scalar.remsi v36 v1016
  let c0_i32_839 : BitVec 32 := 0#32
  let v1019 : BitVec 1 := Scalar.cmpi .slt v1017 c0_i32_839
  let c0_i32_840 : BitVec 32 := 0#32
  let v1020 : BitVec 1 := Scalar.cmpi .slt v1016 c0_i32_840
  let v1021 : BitVec 1 := Scalar.xori v1019 v1020
  let c0_i32_838 : BitVec 32 := 0#32
  let v1018 : BitVec 1 := Scalar.cmpi .ne v1017 c0_i32_838
  let v1022 : BitVec 1 := Scalar.andi v1021 v1018
  let v1023 : BitVec 32 := Scalar.addi v1017 v1016
  let v1024 : BitVec 32 := Scalar.select v1022 v1023 v1017
  let c2_i32_851 : BitVec 32 := 2#32
  let c0_i32_852 : BitVec 32 := 0#32
  let v1029 : BitVec 1 := Scalar.cmpi .eq c2_i32_851 c0_i32_852
  let c1_i32_853 : BitVec 32 := 1#32
  let v1030 : BitVec 32 := Scalar.select v1029 c1_i32_853 c2_i32_851
  let v1031 : BitVec 32 := Scalar.remsi v1024 v1030
  let c0_i32_855 : BitVec 32 := 0#32
  let v1033 : BitVec 1 := Scalar.cmpi .slt v1031 c0_i32_855
  let c0_i32_856 : BitVec 32 := 0#32
  let v1034 : BitVec 1 := Scalar.cmpi .slt v1030 c0_i32_856
  let v1035 : BitVec 1 := Scalar.xori v1033 v1034
  let c0_i32_854 : BitVec 32 := 0#32
  let v1032 : BitVec 1 := Scalar.cmpi .ne v1031 c0_i32_854
  let v1036 : BitVec 1 := Scalar.andi v1035 v1032
  let v1037 : BitVec 32 := Scalar.addi v1031 v1030
  let v1038 : BitVec 32 := Scalar.select v1036 v1037 v1031
  let c1_i32_857 : BitVec 32 := 1#32
  let v1039 : BitVec 1 := Scalar.cmpi .eq v1038 c1_i32_857
  let v1040 : BitVec 32 := Scalar.extui v1039
  let c0_i32_866 : BitVec 32 := 0#32
  let v1041 : BitVec 1 := Scalar.cmpi .ne v1040 c0_i32_866
  v1041

def k0_off38 (i : grid0.Coords) : Fin 4 → Nat :=
  let c0_902 : Index := 0#32
  let c2_i32_901 : BitVec 32 := 2#32
  let c0_i32_885 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c1_i32_884 : BitVec 32 := 1#32
  let v1064 : BitVec 32 := Scalar.subi v36 c1_i32_884
  let v1065 : BitVec 32 := Scalar.addi c0_i32_885 v1064
  let v1086 : BitVec 32 := Scalar.muli c2_i32_901 v1065
  let v1087 : Index := Scalar.indexCast v1086
  let c0_903 : Index := 0#32
  let c0_904 : Index := 0#32
  ![0, v1087.toNat, 0, 0]
def k0_off39 (i : grid0.Coords) : Fin 4 → Nat :=
  let c0_907 : Index := 0#32
  let c2_i32_905 : BitVec 32 := 2#32
  let c0_i32_885 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c1_i32_884 : BitVec 32 := 1#32
  let v1064 : BitVec 32 := Scalar.subi v36 c1_i32_884
  let v1065 : BitVec 32 := Scalar.addi c0_i32_885 v1064
  let v1090 : BitVec 32 := Scalar.muli c2_i32_905 v1065
  let c1_i32_906 : BitVec 32 := 1#32
  let v1091 : BitVec 32 := Scalar.addi v1090 c1_i32_906
  let v1092 : Index := Scalar.indexCast v1091
  let c0_908 : Index := 0#32
  let c0_909 : Index := 0#32
  ![0, v1092.toNat, 0, 0]
def k0_off40 (i : grid0.Coords) : Fin 4 → Nat :=
  let c1_987 : Index := 1#32
  let c2_i32_986 : BitVec 32 := 2#32
  let c0_i32_970 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c1_i32_884 : BitVec 32 := 1#32
  let v1064 : BitVec 32 := Scalar.subi v36 c1_i32_884
  let v1176 : BitVec 32 := Scalar.addi c0_i32_970 v1064
  let v1197 : BitVec 32 := Scalar.muli c2_i32_986 v1176
  let v1198 : Index := Scalar.indexCast v1197
  let c0_988 : Index := 0#32
  let c0_989 : Index := 0#32
  ![1, v1198.toNat, 0, 0]
def k0_off41 (i : grid0.Coords) : Fin 4 → Nat :=
  let c1_992 : Index := 1#32
  let c2_i32_990 : BitVec 32 := 2#32
  let c0_i32_970 : BitVec 32 := 0#32
  let arg2 : BitVec 32 := BitVec.ofNat 32 (i 2).val
  let c2_i32_23 : BitVec 32 := 2#32
  let v35 : BitVec 32 := Scalar.subi arg2 c2_i32_23
  let c0_i32_24 : BitVec 32 := 0#32
  let v36 : BitVec 32 := Scalar.maxsi v35 c0_i32_24
  let c1_i32_884 : BitVec 32 := 1#32
  let v1064 : BitVec 32 := Scalar.subi v36 c1_i32_884
  let v1176 : BitVec 32 := Scalar.addi c0_i32_970 v1064
  let v1201 : BitVec 32 := Scalar.muli c2_i32_990 v1176
  let c1_i32_991 : BitVec 32 := 1#32
  let v1202 : BitVec 32 := Scalar.addi v1201 c1_i32_991
  let v1203 : Index := Scalar.indexCast v1202
  let c0_993 : Index := 0#32
  let c0_994 : Index := 0#32
  ![1, v1203.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c16_i32 : BitVec 32 := 16#32
  let v1 : BitVec 32 := Scalar.muli arg0 c16_i32
  let v2 : BitVec 32 := Scalar.addi v1 arg2
  let c0_i32_0 : BitVec 32 := 0#32
  let c0_i32_1 : BitVec 32 := 0#32
  let c0_i32_2 : BitVec 32 := 0#32
  ![v0.toNat, v2.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  ![v20.toNat, c0_i32_4.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2x2x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x32x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x3x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S16x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelCross.lean ====
abbrev S16384x2048 : Shape := ⟨2, ![16384, 2048]⟩
abbrev S2048 : Shape := ⟨1, ![2048]⟩
abbrev S2048x512 : Shape := ⟨2, ![2048, 512]⟩
abbrev S512x1024 : Shape := ⟨2, ![512, 1024]⟩
abbrev S512x2048 : Shape := ⟨2, ![512, 2048]⟩
abbrev S2x256x1024 : Shape := ⟨3, ![2, 256, 1024]⟩
abbrev S1x2048 : Shape := ⟨2, ![1, 2048]⟩
abbrev S1024x2048 : Shape := ⟨2, ![1024, 2048]⟩
abbrev S1x256x1024 : Shape := ⟨3, ![1, 256, 1024]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x512, .bf16⟩
  | .hbm, ⟨3, _⟩ => ⟨S512x1024, .bf16⟩
  | .hbm, ⟨4, _⟩ => ⟨S512x2048, .bf16⟩
  | .hbm, ⟨5, _⟩ => ⟨S2x256x1024, .bf16⟩
  | .hbm, ⟨6, _⟩ => ⟨S1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x2048, .bf16⟩
  | .local _ .vmem, ⟨7, _⟩ => ⟨S1024x2048, .f32⟩
  | .local _ .vmem, ⟨8, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelCrossIdeal.lean ====
variable {F : FTy → Type} [FloatOps F] [Named F]
def κ : String → Option EReal := fun
  | "query_scale" => some (((Real.sqrt 128)⁻¹ * (Real.log 2)⁻¹ : ℝ) : EReal)
  | _ => none
-- ==== ReferenceCrossIdeal.lean ====
abbrev S16384x2048 : Shape := ⟨2, ![16384, 2048]⟩
abbrev S2048 : Shape := ⟨1, ![2048]⟩
abbrev S2048x512 : Shape := ⟨2, ![2048, 512]⟩
abbrev S512x1024 : Shape := ⟨2, ![512, 1024]⟩
abbrev S512x2048 : Shape := ⟨2, ![512, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x512 : Shape := ⟨2, ![16384, 512]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4x256x128 : Shape := ⟨4, ![2, 4, 256, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x512, .bf16⟩
  | .hbm, ⟨3, _⟩ => ⟨S512x1024, .bf16⟩
  | .hbm, ⟨4, _⟩ => ⟨S512x2048, .bf16⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x512, .f32⟩
  | .hbm, ⟨22, _⟩ => ⟨S16384x512, .f32⟩
  | .hbm, ⟨23, _⟩ => ⟨S2x8192x512, .f32⟩
  | .hbm, ⟨24, _⟩ => ⟨S2x8192x4x128, .f32⟩
  | .hbm, ⟨25, _⟩ => ⟨S2x4x8192x128, .f32⟩
  | .hbm, ⟨26, _⟩ => ⟨S512x1024, .f32⟩
  | .hbm, ⟨27, _⟩ => ⟨S2x256x1024, .f32⟩
  | .hbm, ⟨28, _⟩ => ⟨S2x256x512, .f32⟩
  | .hbm, ⟨29, _⟩ => ⟨S2x256x512, .f32⟩
  | .hbm, ⟨30, _⟩ => ⟨S2x256x4x128, .f32⟩
  | .hbm, ⟨31, _⟩ => ⟨S2x4x256x128, .f32⟩
  | .hbm, ⟨32, _⟩ => ⟨S2x256x4x128, .f32⟩
  | .hbm, ⟨33, _⟩ => ⟨S2x4x256x128, .f32⟩
  | .hbm, ⟨34, _⟩ => ⟨S2x4x8192x256, .f32⟩
  | .hbm, ⟨35, _⟩ => ⟨S_, .f32⟩
  | .hbm, ⟨36, _⟩ => ⟨S_, .f32⟩
  | .hbm, ⟨37, _⟩ => ⟨S2x4x8192x256, .f32⟩
  | .hbm, ⟨38, _⟩ => ⟨S2x4x8192x256, .f32⟩
  | .hbm, ⟨39, _⟩ => ⟨S_, .f32⟩
  | .hbm, ⟨40, _⟩ => ⟨S2x4x8192, .f32⟩
  | .hbm, ⟨41, _⟩ => ⟨S_, .f32⟩
  | .hbm, ⟨42, _⟩ => ⟨S2x4x8192, .f32⟩
  | .hbm, ⟨43, _⟩ => ⟨S2x4x8192, .f32⟩
  | .hbm, ⟨44, _⟩ => ⟨S2x4x8192x1, .f32⟩
  | .hbm, ⟨45, _⟩ => ⟨S2x4x8192x256, .f32⟩
  | .hbm, ⟨46, _⟩ => ⟨S2x4x8192x256, .f32⟩
  | .hbm, ⟨47, _⟩ => ⟨S2x4x8192x256, .f32⟩
  | .hbm, ⟨48, _⟩ => ⟨S_, .f32⟩
  | .hbm, ⟨49, _⟩ => ⟨S2x4x8192, .f32⟩
  | .hbm, ⟨50, _⟩ => ⟨S2x4x8192x1, .f32⟩
  | .hbm, ⟨51, _⟩ => ⟨S2x4x8192x256, .f32⟩
  | .hbm, ⟨52, _⟩ => ⟨S2x4x8192x256, .f32⟩
  | .hbm, ⟨53, _⟩ => ⟨S2x4x8192x128, .f32⟩
  | .hbm, ⟨54, _⟩ => ⟨S2x8192x4x128, .f32⟩
  | .hbm, ⟨55, _⟩ => ⟨S2x8192x512, .f32⟩
  | .hbm, ⟨56, _⟩ => ⟨S16384x512, .f32⟩
  | .hbm, ⟨57, _⟩ => ⟨S512x2048, .f32⟩
  | .hbm, ⟨58, _⟩ => ⟨S16384x2048, .f32⟩
  | .hbm, ⟨59, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== KernelFox.lean ====
abbrev S32x64x128x256 : Shape := ⟨4, ![32, 64, 128, 256]⟩
abbrev S16x64x256x128 : Shape := ⟨4, ![16, 64, 256, 128]⟩
abbrev S16384x128 : Shape := ⟨2, ![16384, 128]⟩
abbrev S8192x2048 : Shape := ⟨2, ![8192, 2048]⟩
abbrev S10248x2048 : Shape := ⟨2, ![10248, 2048]⟩
abbrev S2048x512 : Shape := ⟨2, ![2048, 512]⟩
abbrev S512x2048 : Shape := ⟨2, ![512, 2048]⟩
abbrev S16384x1024 : Shape := ⟨2, ![16384, 1024]⟩
abbrev S4096x2048 : Shape := ⟨2, ![4096, 2048]⟩
abbrev S2x2x128x256 : Shape := ⟨4, ![2, 2, 128, 256]⟩
abbrev S2x32x256x128 : Shape := ⟨4, ![2, 32, 256, 128]⟩
abbrev S2x32x128x256 : Shape := ⟨4, ![2, 32, 128, 256]⟩
abbrev S8192x128 : Shape := ⟨2, ![8192, 128]⟩
abbrev S64x2048 : Shape := ⟨2, ![64, 2048]⟩
abbrev S32x2048 : Shape := ⟨2, ![32, 2048]⟩
abbrev S16x512 : Shape := ⟨2, ![16, 512]⟩
abbrev S16x2048 : Shape := ⟨2, ![16, 2048]⟩
abbrev S512x256 : Shape := ⟨2, ![512, 256]⟩
abbrev S2x16x512x256 : Shape := ⟨4, ![2, 16, 512, 256]⟩
abbrev S2x8x128 : Shape := ⟨3, ![2, 8, 128]⟩
abbrev S2x2x512x512 : Shape := ⟨4, ![2, 2, 512, 512]⟩
abbrev S2x1x512 : Shape := ⟨3, ![2, 1, 512]⟩
abbrev S2x128x512 : Shape := ⟨3, ![2, 128, 512]⟩
abbrev S1x128 : Shape := ⟨2, ![1, 128]⟩
abbrev S384x256 : Shape := ⟨2, ![384, 256]⟩
abbrev S512x1 : Shape := ⟨2, ![512, 1]⟩
abbrev S512x128 : Shape := ⟨2, ![512, 128]⟩
abbrev S512x384 : Shape := ⟨2, ![512, 384]⟩
abbrev S1x2x256x128 : Shape := ⟨4, ![1, 2, 256, 128]⟩
abbrev S2x256x128 : Shape := ⟨3, ![2, 256, 128]⟩
abbrev S1x1x512x256 : Shape := ⟨4, ![1, 1, 512, 256]⟩
abbrev S512 : Shape := ⟨1, ![512]⟩
abbrev S2x128 : Shape := ⟨2, ![2, 128]⟩
abbrev S2 : Shape := ⟨1, ![2]⟩
abbrev S2x1 : Shape := ⟨2, ![2, 1]⟩
abbrev S1x1 : Shape := ⟨2, ![1, 1]⟩
abbrev S1x1x128 : Shape := ⟨3, ![1, 1, 128]⟩
abbrev S1 : Shape := ⟨1, ![1]⟩
abbrev S128x512 : Shape := ⟨2, ![128, 512]⟩
abbrev S1x1x128x256 : Shape := ⟨4, ![1, 1, 128, 256]⟩
abbrev S128x256 : Shape := ⟨2, ![128, 256]⟩
abbrev S256x512 : Shape := ⟨2, ![256, 512]⟩
abbrev S1x512 : Shape := ⟨2, ![1, 512]⟩
abbrev S512x512 : Shape := ⟨2, ![512, 512]⟩
abbrev S1x1x512x512 : Shape := ⟨4, ![1, 1, 512, 512]⟩
abbrev S1x1x512 : Shape := ⟨3, ![1, 1, 512]⟩
abbrev S1x128x512 : Shape := ⟨3, ![1, 128, 512]⟩
abbrev S1x2x512x512 : Shape := ⟨4, ![1, 2, 512, 512]⟩
abbrev S2x512x512 : Shape := ⟨3, ![2, 512, 512]⟩
abbrev S1x512x256 : Shape := ⟨3, ![1, 512, 256]⟩
abbrev S1x256 : Shape := ⟨2, ![1, 256]⟩
abbrev S256 : Shape := ⟨1, ![256]⟩

abbrev nBuf : Space → Nat
  | .hbm => 12
  | .vmem => 32
  | .smem => 0
  | _ => 0

abbrev bufTy : (tb : Table) → Fin (tcTables nBuf tb) → BufTy
  | .hbm, ⟨0, _⟩ => ⟨S32x64x128x256, .bf16⟩
  | .hbm, ⟨1, _⟩ => ⟨S16x64x256x128, .bf16⟩
  | .hbm, ⟨2, _⟩ => ⟨S16384x128, .f32⟩
  | .hbm, ⟨3, _⟩ => ⟨S8192x2048, .f32⟩
  | .hbm, ⟨4, _⟩ => ⟨S10248x2048, .f32⟩
  | .hbm, ⟨5, _⟩ => ⟨S2048x512, .f32⟩
  | .hbm, ⟨6, _⟩ => ⟨S512x2048, .f32⟩
  | .hbm, ⟨7, _⟩ => ⟨S16384x1024, .bf16⟩
  | .hbm, ⟨8, _⟩ => ⟨S8192x2048, .bf16⟩
  | .hbm, ⟨9, _⟩ => ⟨S4096x2048, .bf16⟩
  | .hbm, ⟨10, _⟩ => ⟨S2048x512, .bf16⟩
  | .hbm, ⟨11, _⟩ => ⟨S512x2048, .bf16⟩
  | .local _ .vmem, ⟨0, _⟩ => ⟨S2x2x128x256, .bf16⟩
  | .local _ .vmem, ⟨1, _⟩ => ⟨S2x2x128x256, .bf16⟩
  | .local _ .vmem, ⟨2, _⟩ => ⟨S2x32x256x128, .bf16⟩
  | .local _ .vmem, ⟨3, _⟩ => ⟨S2x32x256x128, .bf16⟩
  | .local _ .vmem, ⟨4, _⟩ => ⟨S2x32x128x256, .bf16⟩
  | .local _ .vmem, ⟨5, _⟩ => ⟨S2x32x128x256, .bf16⟩
  | .local _ .vmem, ⟨6, _⟩ => ⟨S8192x128, .f32⟩
  | .local _ .vmem, ⟨7, _⟩ => ⟨S8192x128, .f32⟩
  | .local _ .vmem, ⟨8, _⟩ => ⟨S64x2048, .f32⟩
  | .local _ .vmem, ⟨9, _⟩ => ⟨S64x2048, .f32⟩
  | .local _ .vmem, ⟨10, _⟩ => ⟨S32x2048, .f32⟩
  | .local _ .vmem, ⟨11, _⟩ => ⟨S32x2048, .f32⟩
  | .local _ .vmem, ⟨12, _⟩ => ⟨S16x512, .f32⟩
  | .local _ .vmem, ⟨13, _⟩ => ⟨S16x512, .f32⟩
  | .local _ .vmem, ⟨14, _⟩ => ⟨S16x2048, .f32⟩
  | .local _ .vmem, ⟨15, _⟩ => ⟨S16x2048, .f32⟩
  | .local _ .vmem, ⟨16, _⟩ => ⟨S512x256, .bf16⟩
  | .local _ .vmem, ⟨17, _⟩ => ⟨S512x256, .bf16⟩
  | .local _ .vmem, ⟨18, _⟩ => ⟨S64x2048, .bf16⟩
  | .local _ .vmem, ⟨19, _⟩ => ⟨S64x2048, .bf16⟩
  | .local _ .vmem, ⟨20, _⟩ => ⟨S32x2048, .bf16⟩
  | .local _ .vmem, ⟨21, _⟩ => ⟨S32x2048, .bf16⟩
  | .local _ .vmem, ⟨22, _⟩ => ⟨S16x512, .bf16⟩
  | .local _ .vmem, ⟨23, _⟩ => ⟨S16x512, .bf16⟩
  | .local _ .vmem, ⟨24, _⟩ => ⟨S16x2048, .bf16⟩
  | .local _ .vmem, ⟨25, _⟩ => ⟨S16x2048, .bf16⟩
  | .local _ .vmem, ⟨26, _⟩ => ⟨S2x16x512x256, .bf16⟩
  | .local _ .vmem, ⟨27, _⟩ => ⟨S2x8x128, .f32⟩
  | .local _ .vmem, ⟨28, _⟩ => ⟨S2x2x512x512, .f32⟩
  | .local _ .vmem, ⟨29, _⟩ => ⟨S2x1x512, .f32⟩
  | .local _ .vmem, ⟨30, _⟩ => ⟨S2x1x512, .f32⟩
  | .local _ .vmem, ⟨31, _⟩ => ⟨S2x128x512, .f32⟩
  | _, _ => ⟨S32x64x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let c6152_i32 : BitVec 32 := 6152#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c1_i32 : BitVec 32 := 1#32
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let v4 : BitVec 32 := Scalar.divsi v3 c1_i32
  let c1_i32_4 : BitVec 32 := 1#32
  let v19 : BitVec 32 := Scalar.subi v4 c1_i32_4
  let v20 : BitVec 32 := Scalar.select v18 v19 v4
  let c32_i32 : BitVec 32 := 32#32
  let v21 : BitVec 32 := Scalar.muli v20 c32_i32
  let v22 : BitVec 32 := Scalar.addi c6152_i32 v21
  v22
def k0_off1 (i : grid0.Coords) : Fin 4 → Nat :=
  let c0_69 : Index := 0#32
  let arg2 : BitVec 32 := BitVec.ofNat 32 (i 2).val
  let v120 : Index := Scalar.indexCast arg2
  let c0_70 : Index := 0#32
  let c0_71 : Index := 0#32
  ![0, v120.toNat, 0, 0]
def k0_off2 (i : grid0.Coords) : Fin 4 → Nat :=
  let c1_89 : Index := 1#32
  let arg2 : BitVec 32 := BitVec.ofNat 32 (i 2).val
  let v139 : Index := Scalar.indexCast arg2
  let c0_90 : Index := 0#32
  let c0_91 : Index := 0#32
  ![1, v139.toNat, 0, 0]
def k0_off3 (v118 : BitVec 32) : Fin 4 → Nat :=
  let c0_109 : Index := 0#32
  let v158 : Index := Scalar.indexCast v118
  let c0_110 : Index := 0#32
  let c0_111 : Index := 0#32
  ![0, v158.toNat, 0, 0]

def k0_off4 (i : grid0.Coords) : Fin 4 → Nat :=
  let c0_136 : Index := 0#32
  let c2_i32 : BitVec 32 := 2#32
  let arg2 : BitVec 32 := BitVec.ofNat 32 (i 2).val
  let v188 : BitVec 32 := Scalar.muli c2_i32 arg2
  let v189 : Index := Scalar.indexCast v188
  let c0_137 : Index := 0#32
  let c0_138 : Index := 0#32
  ![0, v189.toNat, 0, 0]
def k0_off5 (i : grid0.Coords) : Fin 4 → Nat :=
  let c0_140 : Index := 0#32
  let c2_i32_139 : BitVec 32 := 2#32
  let arg2 : BitVec 32 := BitVec.ofNat 32 (i 2).val
  let v192 : BitVec 32 := Scalar.muli c2_i32_139 arg2
  let c1_i32 : BitVec 32 := 1#32
  let v193 : BitVec 32 := Scalar.addi v192 c1_i32
  let v194 : Index := Scalar.indexCast v193
  let c0_141 : Index := 0#32
  let c0_142 : Index := 0#32
  ![0, v194.toNat, 0, 0]
def k0_off6 (v118 : BitVec 32) : Fin 4 → Nat :=
  let c1_214 : Index := 1#32
  let v281 : Index := Scalar.indexCast v118
  let c0_215 : Index := 0#32
  let c0_216 : Index := 0#32
  ![1, v281.toNat, 0, 0]
def k0_off7 (i : grid0.Coords) : Fin 4 → Nat :=
  let c1_242 : Index := 1#32
  let c2_i32_241 : BitVec 32 := 2#32
  let arg2 : BitVec 32 := BitVec.ofNat 32 (i 2).val
  let v311 : BitVec 32 := Scalar.muli c2_i32_241 arg2
  let v312 : Index := Scalar.indexCast v311
  let c0_243 : Index := 0#32
  let c0_244 : Index := 0#32
  ![1, v312.toNat, 0, 0]
def k0_off8 (i : grid0.Coords) : Fin 4 → Nat :=
  let c1_247 : Index := 1#32
  let c2_i32_245 : BitVec 32 := 2#32
  let arg2 : BitVec 32 := BitVec.ofNat 32 (i 2).val
  let v315 : BitVec 32 := Scalar.muli c2_i32_245 arg2
  let c1_i32_246 : BitVec 32 := 1#32
  let v316 : BitVec 32 := Scalar.addi v315 c1_i32_246
  let v317 : Index := Scalar.indexCast v316
  let c0_248 : Index := 0#32
  let c0_249 : Index := 0#32
  ![1, v317.toNat, 0, 0]
@[reducible] def k0_t1_loop (i : grid0.Coords) (v118 : BitVec 32) : Scf.Loop 32 :=
  let c0_i32_337 : BitVec 32 := 0#32
  let arg2 : BitVec 32 := BitVec.ofNat 32 (i 2).val
  let v119 : BitVec 32 := Scalar.subi arg2 v118
  let c0_i32_322 : BitVec 32 := 0#32
  let v405 : BitVec 1 := Scalar.cmpi .sgt v119 c0_i32_322
  let v406 : BitVec 32 := Scalar.extui v405
  let c0_i32_323 : BitVec 32 := 0#32
  let v407 : BitVec 1 := Scalar.cmpi .slt v119 c0_i32_323
  let v408 : BitVec 32 := Scalar.extui v407
  let v409 : BitVec 32 := Scalar.subi v406 v408
  let c4_i32 : BitVec 32 := 4#32
  let c0_i32_324 : BitVec 32 := 0#32
  let v410 : BitVec 1 := Scalar.cmpi .sgt c4_i32 c0_i32_324
  let v411 : BitVec 32 := Scalar.extui v410
  let c0_i32_325 : BitVec 32 := 0#32
  let v412 : BitVec 1 := Scalar.cmpi .slt c4_i32 c0_i32_325
  let v413 : BitVec 32 := Scalar.extui v412
  let v414 : BitVec 32 := Scalar.subi v411 v413
  let v415 : BitVec 1 := Scalar.cmpi .ne v409 v414
  let v416 : BitVec 32 := Scalar.remsi v119 c4_i32
  let c0_i32_326 : BitVec 32 := 0#32
  let v417 : BitVec 1 := Scalar.cmpi .ne v416 c0_i32_326
  let v418 : BitVec 1 := Scalar.andi v415 v417
  let v404 : BitVec 32 := Scalar.divsi v119 c4_i32
  let c1_i32_327 : BitVec 32 := 1#32
  let v419 : BitVec 32 := Scalar.subi v404 c1_i32_327
  let v420 : BitVec 32 := Scalar.select v418 v419 v404
  let v421 : BitVec 32 := Scalar.subi v420 c0_i32_337
  let c1_i32_338 : BitVec 32 := 1#32
  let v423 : BitVec 32 := Scalar.divsi v421 c1_i32_338
  let v424 : BitVec 32 := Scalar.muli v423 c1_i32_338
  let v425 : BitVec 32 := Scalar.addi c0_i32_337 v424
  let c1_i32_339 : BitVec 32 := 1#32
  ⟨c0_i32_337, v425, c1_i32_339⟩
def k0_off9 (i : grid0.Coords) (v118 : BitVec 32) (k0_t1 : Fin (k0_t1_loop i v118).trips) (c0_i32_391 : BitVec 32) : Fin 4 → Nat :=
  let c0_393 : Index := 0#32
  let c4_i32_390 : BitVec 32 := 4#32
  let c0_i32_337 : BitVec 32 := 0#32
  let c1_i32_339 : BitVec 32 := 1#32
  let arg22 : BitVec 32 := Scf.iv c0_i32_337 c1_i32_339 k0_t1
  let v475 : BitVec 32 := Scalar.muli c4_i32_390 arg22
  let v476 : BitVec 32 := Scalar.addi v475 c0_i32_391
  let v477 : BitVec 32 := Scalar.addi v118 v476
  let c1_i32_392 : BitVec 32 := 1#32
  let v478 : BitVec 32 := Scalar.addi v477 c1_i32_392
  let c15_i32 : BitVec 32 := 15#32
  let v479 : BitVec 32 := Scalar.minsi v478 c15_i32
  let v480 : Index := Scalar.indexCast v479
  let c0_394 : Index := 0#32
  let c0_395 : Index := 0#32
  ![0, v480.toNat, 0, 0]
def k0_off10 (i : grid0.Coords) (v118 : BitVec 32) (k0_t1 : Fin (k0_t1_loop i v118).trips) (c0_i32_391 : BitVec 32) : Fin 4 → Nat :=
  let c0_417 : Index := 0#32
  let c2_i32_416 : BitVec 32 := 2#32
  let c4_i32_390 : BitVec 32 := 4#32
  let c0_i32_337 : BitVec 32 := 0#32
  let c1_i32_339 : BitVec 32 := 1#32
  let arg22 : BitVec 32 := Scf.iv c0_i32_337 c1_i32_339 k0_t1
  let v475 : BitVec 32 := Scalar.muli c4_i32_390 arg22
  let v476 : BitVec 32 := Scalar.addi v475 c0_i32_391
  let v487 : BitVec 32 := Scalar.addi v118 v476
  let v508 : BitVec 32 := Scalar.muli c2_i32_416 v487
  let v509 : Index := Scalar.indexCast v508
  let c0_418 : Index := 0#32
  let c0_419 : Index := 0#32
  ![0, v509.toNat, 0, 0]
def k0_off11 (i : grid0.Coords) (v118 : BitVec 32) (k0_t1 : Fin (k0_t1_loop i v118).trips) (c0_i32_391 : BitVec 32) : Fin 4 → Nat :=
  let c0_422 : Index := 0#32
  let c2_i32_420 : BitVec 32 := 2#32
  let c4_i32_390 : BitVec 32 := 4#32
  let c0_i32_337 : BitVec 32 := 0#32
  let c1_i32_339 : BitVec 32 := 1#32
  let arg22 : BitVec 32 := Scf.iv c0_i32_337 c1_i32_339 k0_t1
  let v475 : BitVec 32 := Scalar.muli c4_i32_390 arg22
  let v476 : BitVec 32 := Scalar.addi v475 c0_i32_391
  let v487 : BitVec 32 := Scalar.addi v118 v476
  let v512 : BitVec 32 := Scalar.muli c2_i32_420 v487
  let c1_i32_421 : BitVec 32 := 1#32
  let v513 : BitVec 32 := Scalar.addi v512 c1_i32_421
  let v514 : Index := Scalar.indexCast v513
  let c0_423 : Index := 0#32
  let c0_424 : Index := 0#32
  ![0, v514.toNat, 0, 0]
def k0_off12 (i : grid0.Coords) (v118 : BitVec 32) (k0_t1 : Fin (k0_t1_loop i v118).trips) (c0_i32_391 : BitVec 32) : Fin 4 → Nat :=
  let c1_487 : Index := 1#32
  let c4_i32_390 : BitVec 32 := 4#32
  let c0_i32_337 : BitVec 32 := 0#32
  let c1_i32_339 : BitVec 32 := 1#32
  let arg22 : BitVec 32 := Scf.iv c0_i32_337 c1_i32_339 k0_t1
  let v475 : BitVec 32 := Scalar.muli c4_i32_390 arg22
  let v476 : BitVec 32 := Scalar.addi v475 c0_i32_391
  let v598 : BitVec 32 := Scalar.addi v118 v476
  let c1_i32_485 : BitVec 32 := 1#32
  let v599 : BitVec 32 := Scalar.addi v598 c1_i32_485
  let c15_i32_486 : BitVec 32 := 15#32
  let v600 : BitVec 32 := Scalar.minsi v599 c15_i32_486
  let v601 : Index := Scalar.indexCast v600
  let c0_488 : Index := 0#32
  let c0_489 : Index := 0#32
  ![1, v601.toNat, 0, 0]
def k0_off13 (i : grid0.Coords) (v118 : BitVec 32) (k0_t1 : Fin (k0_t1_loop i v118).trips) (c0_i32_391 : BitVec 32) : Fin 4 → Nat :=
  let c1_511 : Index := 1#32
  let c2_i32_510 : BitVec 32 := 2#32
  let c4_i32_390 : BitVec 32 := 4#32
  let c0_i32_337 : BitVec 32 := 0#32
  let c1_i32_339 : BitVec 32 := 1#32
  let arg22 : BitVec 32 := Scf.iv c0_i32_337 c1_i32_339 k0_t1
  let v475 : BitVec 32 := Scalar.muli c4_i32_390 arg22
  let v476 : BitVec 32 := Scalar.addi v475 c0_i32_391
  let v608 : BitVec 32 := Scalar.addi v118 v476
  let v629 : BitVec 32 := Scalar.muli c2_i32_510 v608
  let v630 : Index := Scalar.indexCast v629
  let c0_512 : Index := 0#32
  let c0_513 : Index := 0#32
  ![1, v630.toNat, 0, 0]
def k0_off14 (i : grid0.Coords) (v118 : BitVec 32) (k0_t1 : Fin (k0_t1_loop i v118).trips) (c0_i32_391 : BitVec 32) : Fin 4 → Nat :=
  let c1_516 : Index := 1#32
  let c2_i32_514 : BitVec 32 := 2#32
  let c4_i32_390 : BitVec 32 := 4#32
  let c0_i32_337 : BitVec 32 := 0#32
  let c1_i32_339 : BitVec 32 := 1#32
  let arg22 : BitVec 32 := Scf.iv c0_i32_337 c1_i32_339 k0_t1
  let v475 : BitVec 32 := Scalar.muli c4_i32_390 arg22
  let v476 : BitVec 32 := Scalar.addi v475 c0_i32_391
  let v608 : BitVec 32 := Scalar.addi v118 v476
  let v633 : BitVec 32 := Scalar.muli c2_i32_514 v608
  let c1_i32_515 : BitVec 32 := 1#32
  let v634 : BitVec 32 := Scalar.addi v633 c1_i32_515
  let v635 : Index := Scalar.indexCast v634
  let c0_517 : Index := 0#32
  let c0_518 : Index := 0#32
  ![1, v635.toNat, 0, 0]
@[reducible] def k0_t2_loop (i : grid0.Coords) (v118 : BitVec 32) : Scf.Loop 32 :=
  let c0_i32_337 : BitVec 32 := 0#32
  let arg2 : BitVec 32 := BitVec.ofNat 32 (i 2).val
  let v119 : BitVec 32 := Scalar.subi arg2 v118
  let c0_i32_322 : BitVec 32 := 0#32
  let v405 : BitVec 1 := Scalar.cmpi .sgt v119 c0_i32_322
  let v406 : BitVec 32 := Scalar.extui v405
  let c0_i32_323 : BitVec 32 := 0#32
  let v407 : BitVec 1 := Scalar.cmpi .slt v119 c0_i32_323
  let v408 : BitVec 32 := Scalar.extui v407
  let v409 : BitVec 32 := Scalar.subi v406 v408
  let c4_i32 : BitVec 32 := 4#32
  let c0_i32_324 : BitVec 32 := 0#32
  let v410 : BitVec 1 := Scalar.cmpi .sgt c4_i32 c0_i32_324
  let v411 : BitVec 32 := Scalar.extui v410
  let c0_i32_325 : BitVec 32 := 0#32
  let v412 : BitVec 1 := Scalar.cmpi .slt c4_i32 c0_i32_325
  let v413 : BitVec 32 := Scalar.extui v412
  let v414 : BitVec 32 := Scalar.subi v411 v413
  let v415 : BitVec 1 := Scalar.cmpi .ne v409 v414
  let v416 : BitVec 32 := Scalar.remsi v119 c4_i32
  let c0_i32_326 : BitVec 32 := 0#32
  let v417 : BitVec 1 := Scalar.cmpi .ne v416 c0_i32_326
  let v418 : BitVec 1 := Scalar.andi v415 v417
  let v404 : BitVec 32 := Scalar.divsi v119 c4_i32
  let c1_i32_327 : BitVec 32 := 1#32
  let v419 : BitVec 32 := Scalar.subi v404 c1_i32_327
  let v420 : BitVec 32 := Scalar.select v418 v419 v404
  let v421 : BitVec 32 := Scalar.subi v420 c0_i32_337
  let c1_i32_338 : BitVec 32 := 1#32
  let v423 : BitVec 32 := Scalar.divsi v421 c1_i32_338
  let v424 : BitVec 32 := Scalar.muli v423 c1_i32_338
  let v425 : BitVec 32 := Scalar.addi c0_i32_337 v424
  let v422 : BitVec 32 := Scalar.addi c0_i32_337 v421
  let c1_i32_340 : BitVec 32 := 1#32
  ⟨v425, v422, c1_i32_340⟩
def k0_off15 (i : grid0.Coords) (v118 : BitVec 32) (k0_t2 : Fin (k0_t2_loop i v118).trips) (c0_i32_391 : BitVec 32) : Fin 4 → Nat :=
  let c0_393 : Index := 0#32
  let c4_i32_390 : BitVec 32 := 4#32
  let c0_i32_337 : BitVec 32 := 0#32
  let arg2 : BitVec 32 := BitVec.ofNat 32 (i 2).val
  let v119 : BitVec 32 := Scalar.subi arg2 v118
  let c0_i32_322 : BitVec 32 := 0#32
  let v405 : BitVec 1 := Scalar.cmpi .sgt v119 c0_i32_322
  let v406 : BitVec 32 := Scalar.extui v405
  let c0_i32_323 : BitVec 32 := 0#32
  let v407 : BitVec 1 := Scalar.cmpi .slt v119 c0_i32_323
  let v408 : BitVec 32 := Scalar.extui v407
  let v409 : BitVec 32 := Scalar.subi v406 v408
  let c4_i32 : BitVec 32 := 4#32
  let c0_i32_324 : BitVec 32 := 0#32
  let v410 : BitVec 1 := Scalar.cmpi .sgt c4_i32 c0_i32_324
  let v411 : BitVec 32 := Scalar.extui v410
  let c0_i32_325 : BitVec 32 := 0#32
  let v412 : BitVec 1 := Scalar.cmpi .slt c4_i32 c0_i32_325
  let v413 : BitVec 32 := Scalar.extui v412
  let v414 : BitVec 32 := Scalar.subi v411 v413
  let v415 : BitVec 1 := Scalar.cmpi .ne v409 v414
  let v416 : BitVec 32 := Scalar.remsi v119 c4_i32
  let c0_i32_326 : BitVec 32 := 0#32
  let v417 : BitVec 1 := Scalar.cmpi .ne v416 c0_i32_326
  let v418 : BitVec 1 := Scalar.andi v415 v417
  let v404 : BitVec 32 := Scalar.divsi v119 c4_i32
  let c1_i32_327 : BitVec 32 := 1#32
  let v419 : BitVec 32 := Scalar.subi v404 c1_i32_327
  let v420 : BitVec 32 := Scalar.select v418 v419 v404
  let v421 : BitVec 32 := Scalar.subi v420 c0_i32_337
  let c1_i32_338 : BitVec 32 := 1#32
  let v423 : BitVec 32 := Scalar.divsi v421 c1_i32_338
  let v424 : BitVec 32 := Scalar.muli v423 c1_i32_338
  let v425 : BitVec 32 := Scalar.addi c0_i32_337 v424
  let c1_i32_340 : BitVec 32 := 1#32
  let arg22 : BitVec 32 := Scf.iv v425 c1_i32_340 k0_t2
  let v475 : BitVec 32 := Scalar.muli c4_i32_390 arg22
  let v476 : BitVec 32 := Scalar.addi v475 c0_i32_391
  let v477 : BitVec 32 := Scalar.addi v118 v476
  let c1_i32_392 : BitVec 32 := 1#32
  let v478 : BitVec 32 := Scalar.addi v477 c1_i32_392
  let c15_i32 : BitVec 32 := 15#32
  let v479 : BitVec 32 := Scalar.minsi v478 c15_i32
  let v480 : Index := Scalar.indexCast v479
  let c0_394 : Index := 0#32
  let c0_395 : Index := 0#32
  ![0, v480.toNat, 0, 0]
def k0_off16 (i : grid0.Coords) (v118 : BitVec 32) (k0_t2 : Fin (k0_t2_loop i v118).trips) (c0_i32_391 : BitVec 32) : Fin 4 → Nat :=
  let c0_417 : Index := 0#32
  let c2_i32_416 : BitVec 32 := 2#32
  let c4_i32_390 : BitVec 32 := 4#32
  let c0_i32_337 : BitVec 32 := 0#32
  let arg2 : BitVec 32 := BitVec.ofNat 32 (i 2).val
  let v119 : BitVec 32 := Scalar.subi arg2 v118
  let c0_i32_322 : BitVec 32 := 0#32
  let v405 : BitVec 1 := Scalar.cmpi .sgt v119 c0_i32_322
  let v406 : BitVec 32 := Scalar.extui v405
  let c0_i32_323 : BitVec 32 := 0#32
  let v407 : BitVec 1 := Scalar.cmpi .slt v119 c0_i32_323
  let v408 : BitVec 32 := Scalar.extui v407
  let v409 : BitVec 32 := Scalar.subi v406 v408
  let c4_i32 : BitVec 32 := 4#32
  let c0_i32_324 : BitVec 32 := 0#32
  let v410 : BitVec 1 := Scalar.cmpi .sgt c4_i32 c0_i32_324
  let v411 : BitVec 32 := Scalar.extui v410
  let c0_i32_325 : BitVec 32 := 0#32
  let v412 : BitVec 1 := Scalar.cmpi .slt c4_i32 c0_i32_325
  let v413 : BitVec 32 := Scalar.extui v412
  let v414 : BitVec 32 := Scalar.subi v411 v413
  let v415 : BitVec 1 := Scalar.cmpi .ne v409 v414
  let v416 : BitVec 32 := Scalar.remsi v119 c4_i32
  let c0_i32_326 : BitVec 32 := 0#32
  let v417 : BitVec 1 := Scalar.cmpi .ne v416 c0_i32_326
  let v418 : BitVec 1 := Scalar.andi v415 v417
  let v404 : BitVec 32 := Scalar.divsi v119 c4_i32
  let c1_i32_327 : BitVec 32 := 1#32
  let v419 : BitVec 32 := Scalar.subi v404 c1_i32_327
  let v420 : BitVec 32 := Scalar.select v418 v419 v404
  let v421 : BitVec 32 := Scalar.subi v420 c0_i32_337
  let c1_i32_338 : BitVec 32 := 1#32
  let v423 : BitVec 32 := Scalar.divsi v421 c1_i32_338
  let v424 : BitVec 32 := Scalar.muli v423 c1_i32_338
  let v425 : BitVec 32 := Scalar.addi c0_i32_337 v424
  let c1_i32_340 : BitVec 32 := 1#32
  let arg22 : BitVec 32 := Scf.iv v425 c1_i32_340 k0_t2
  let v475 : BitVec 32 := Scalar.muli c4_i32_390 arg22
  let v476 : BitVec 32 := Scalar.addi v475 c0_i32_391
  let v487 : BitVec 32 := Scalar.addi v118 v476
  let v508 : BitVec 32 := Scalar.muli c2_i32_416 v487
  let v509 : Index := Scalar.indexCast v508
  let c0_418 : Index := 0#32
  let c0_419 : Index := 0#32
  ![0, v509.toNat, 0, 0]
def k0_off17 (i : grid0.Coords) (v118 : BitVec 32) (k0_t2 : Fin (k0_t2_loop i v118).trips) (c0_i32_391 : BitVec 32) : Fin 4 → Nat :=
  let c0_422 : Index := 0#32
  let c2_i32_420 : BitVec 32 := 2#32
  let c4_i32_390 : BitVec 32 := 4#32
  let c0_i32_337 : BitVec 32 := 0#32
  let arg2 : BitVec 32 := BitVec.ofNat 32 (i 2).val
  let v119 : BitVec 32 := Scalar.subi arg2 v118
  let c0_i32_322 : BitVec 32 := 0#32
  let v405 : BitVec 1 := Scalar.cmpi .sgt v119 c0_i32_322
  let v406 : BitVec 32 := Scalar.extui v405
  let c0_i32_323 : BitVec 32 := 0#32
  let v407 : BitVec 1 := Scalar.cmpi .slt v119 c0_i32_323
  let v408 : BitVec 32 := Scalar.extui v407
  let v409 : BitVec 32 := Scalar.subi v406 v408
  let c4_i32 : BitVec 32 := 4#32
  let c0_i32_324 : BitVec 32 := 0#32
  let v410 : BitVec 1 := Scalar.cmpi .sgt c4_i32 c0_i32_324
  let v411 : BitVec 32 := Scalar.extui v410
  let c0_i32_325 : BitVec 32 := 0#32
  let v412 : BitVec 1 := Scalar.cmpi .slt c4_i32 c0_i32_325
  let v413 : BitVec 32 := Scalar.extui v412
  let v414 : BitVec 32 := Scalar.subi v411 v413
  let v415 : BitVec 1 := Scalar.cmpi .ne v409 v414
  let v416 : BitVec 32 := Scalar.remsi v119 c4_i32
  let c0_i32_326 : BitVec 32 := 0#32
  let v417 : BitVec 1 := Scalar.cmpi .ne v416 c0_i32_326
  let v418 : BitVec 1 := Scalar.andi v415 v417
  let v404 : BitVec 32 := Scalar.divsi v119 c4_i32
  let c1_i32_327 : BitVec 32 := 1#32
  let v419 : BitVec 32 := Scalar.subi v404 c1_i32_327
  let v420 : BitVec 32 := Scalar.select v418 v419 v404
  let v421 : BitVec 32 := Scalar.subi v420 c0_i32_337
  let c1_i32_338 : BitVec 32 := 1#32
  let v423 : BitVec 32 := Scalar.divsi v421 c1_i32_338
  let v424 : BitVec 32 := Scalar.muli v423 c1_i32_338
  let v425 : BitVec 32 := Scalar.addi c0_i32_337 v424
  let c1_i32_340 : BitVec 32 := 1#32
  let arg22 : BitVec 32 := Scf.iv v425 c1_i32_340 k0_t2
  let v475 : BitVec 32 := Scalar.muli c4_i32_390 arg22
  let v476 : BitVec 32 := Scalar.addi v475 c0_i32_391
  let v487 : BitVec 32 := Scalar.addi v118 v476
  let v512 : BitVec 32 := Scalar.muli c2_i32_420 v487
  let c1_i32_421 : BitVec 32 := 1#32
  let v513 : BitVec 32 := Scalar.addi v512 c1_i32_421
  let v514 : Index := Scalar.indexCast v513
  let c0_423 : Index := 0#32
  let c0_424 : Index := 0#32
  ![0, v514.toNat, 0, 0]
def k0_off18 (i : grid0.Coords) (v118 : BitVec 32) (k0_t2 : Fin (k0_t2_loop i v118).trips) (c0_i32_391 : BitVec 32) : Fin 4 → Nat :=
  let c1_487 : Index := 1#32
  let c4_i32_390 : BitVec 32 := 4#32
  let c0_i32_337 : BitVec 32 := 0#32
  let arg2 : BitVec 32 := BitVec.ofNat 32 (i 2).val
  let v119 : BitVec 32 := Scalar.subi arg2 v118
  let c0_i32_322 : BitVec 32 := 0#32
  let v405 : BitVec 1 := Scalar.cmpi .sgt v119 c0_i32_322
  let v406 : BitVec 32 := Scalar.extui v405
  let c0_i32_323 : BitVec 32 := 0#32
  let v407 : BitVec 1 := Scalar.cmpi .slt v119 c0_i32_323
  let v408 : BitVec 32 := Scalar.extui v407
  let v409 : BitVec 32 := Scalar.subi v406 v408
  let c4_i32 : BitVec 32 := 4#32
  let c0_i32_324 : BitVec 32 := 0#32
  let v410 : BitVec 1 := Scalar.cmpi .sgt c4_i32 c0_i32_324
  let v411 : BitVec 32 := Scalar.extui v410
  let c0_i32_325 : BitVec 32 := 0#32
  let v412 : BitVec 1 := Scalar.cmpi .slt c4_i32 c0_i32_325
  let v413 : BitVec 32 := Scalar.extui v412
  let v414 : BitVec 32 := Scalar.subi v411 v413
  let v415 : BitVec 1 := Scalar.cmpi .ne v409 v414
  let v416 : BitVec 32 := Scalar.remsi v119 c4_i32
  let c0_i32_326 : BitVec 32 := 0#32
  let v417 : BitVec 1 := Scalar.cmpi .ne v416 c0_i32_326
  let v418 : BitVec 1 := Scalar.andi v415 v417
  let v404 : BitVec 32 := Scalar.divsi v119 c4_i32
  let c1_i32_327 : BitVec 32 := 1#32
  let v419 : BitVec 32 := Scalar.subi v404 c1_i32_327
  let v420 : BitVec 32 := Scalar.select v418 v419 v404
  let v421 : BitVec 32 := Scalar.subi v420 c0_i32_337
  let c1_i32_338 : BitVec 32 := 1#32
  let v423 : BitVec 32 := Scalar.divsi v421 c1_i32_338
  let v424 : BitVec 32 := Scalar.muli v423 c1_i32_338
  let v425 : BitVec 32 := Scalar.addi c0_i32_337 v424
  let c1_i32_340 : BitVec 32 := 1#32
  let arg22 : BitVec 32 := Scf.iv v425 c1_i32_340 k0_t2
  let v475 : BitVec 32 := Scalar.muli c4_i32_390 arg22
  let v476 : BitVec 32 := Scalar.addi v475 c0_i32_391
  let v598 : BitVec 32 := Scalar.addi v118 v476
  let c1_i32_485 : BitVec 32 := 1#32
  let v599 : BitVec 32 := Scalar.addi v598 c1_i32_485
  let c15_i32_486 : BitVec 32 := 15#32
  let v600 : BitVec 32 := Scalar.minsi v599 c15_i32_486
  let v601 : Index := Scalar.indexCast v600
  let c0_488 : Index := 0#32
  let c0_489 : Index := 0#32
  ![1, v601.toNat, 0, 0]
def k0_off19 (i : grid0.Coords) (v118 : BitVec 32) (k0_t2 : Fin (k0_t2_loop i v118).trips) (c0_i32_391 : BitVec 32) : Fin 4 → Nat :=
  let c1_511 : Index := 1#32
  let c2_i32_510 : BitVec 32 := 2#32
  let c4_i32_390 : BitVec 32 := 4#32
  let c0_i32_337 : BitVec 32 := 0#32
  let arg2 : BitVec 32 := BitVec.ofNat 32 (i 2).val
  let v119 : BitVec 32 := Scalar.subi arg2 v118
  let c0_i32_322 : BitVec 32 := 0#32
  let v405 : BitVec 1 := Scalar.cmpi .sgt v119 c0_i32_322
  let v406 : BitVec 32 := Scalar.extui v405
  let c0_i32_323 : BitVec 32 := 0#32
  let v407 : BitVec 1 := Scalar.cmpi .slt v119 c0_i32_323
  let v408 : BitVec 32 := Scalar.extui v407
  let v409 : BitVec 32 := Scalar.subi v406 v408
  let c4_i32 : BitVec 32 := 4#32
  let c0_i32_324 : BitVec 32 := 0#32
  let v410 : BitVec 1 := Scalar.cmpi .sgt c4_i32 c0_i32_324
  let v411 : BitVec 32 := Scalar.extui v410
  let c0_i32_325 : BitVec 32 := 0#32
  let v412 : BitVec 1 := Scalar.cmpi .slt c4_i32 c0_i32_325
  let v413 : BitVec 32 := Scalar.extui v412
  let v414 : BitVec 32 := Scalar.subi v411 v413
  let v415 : BitVec 1 := Scalar.cmpi .ne v409 v414
  let v416 : BitVec 32 := Scalar.remsi v119 c4_i32
  let c0_i32_326 : BitVec 32 := 0#32
  let v417 : BitVec 1 := Scalar.cmpi .ne v416 c0_i32_326
  let v418 : BitVec 1 := Scalar.andi v415 v417
  let v404 : BitVec 32 := Scalar.divsi v119 c4_i32
  let c1_i32_327 : BitVec 32 := 1#32
  let v419 : BitVec 32 := Scalar.subi v404 c1_i32_327
  let v420 : BitVec 32 := Scalar.select v418 v419 v404
  let v421 : BitVec 32 := Scalar.subi v420 c0_i32_337
  let c1_i32_338 : BitVec 32 := 1#32
  let v423 : BitVec 32 := Scalar.divsi v421 c1_i32_338
  let v424 : BitVec 32 := Scalar.muli v423 c1_i32_338
  let v425 : BitVec 32 := Scalar.addi c0_i32_337 v424
  let c1_i32_340 : BitVec 32 := 1#32
  let arg22 : BitVec 32 := Scf.iv v425 c1_i32_340 k0_t2
  let v475 : BitVec 32 := Scalar.muli c4_i32_390 arg22
  let v476 : BitVec 32 := Scalar.addi v475 c0_i32_391
  let v608 : BitVec 32 := Scalar.addi v118 v476
  let v629 : BitVec 32 := Scalar.muli c2_i32_510 v608
  let v630 : Index := Scalar.indexCast v629
  let c0_512 : Index := 0#32
  let c0_513 : Index := 0#32
  ![1, v630.toNat, 0, 0]
def k0_off20 (i : grid0.Coords) (v118 : BitVec 32) (k0_t2 : Fin (k0_t2_loop i v118).trips) (c0_i32_391 : BitVec 32) : Fin 4 → Nat :=
  let c1_516 : Index := 1#32
  let c2_i32_514 : BitVec 32 := 2#32
  let c4_i32_390 : BitVec 32 := 4#32
  let c0_i32_337 : BitVec 32 := 0#32
  let arg2 : BitVec 32 := BitVec.ofNat 32 (i 2).val
  let v119 : BitVec 32 := Scalar.subi arg2 v118
  let c0_i32_322 : BitVec 32 := 0#32
  let v405 : BitVec 1 := Scalar.cmpi .sgt v119 c0_i32_322
  let v406 : BitVec 32 := Scalar.extui v405
  let c0_i32_323 : BitVec 32 := 0#32
  let v407 : BitVec 1 := Scalar.cmpi .slt v119 c0_i32_323
  let v408 : BitVec 32 := Scalar.extui v407
  let v409 : BitVec 32 := Scalar.subi v406 v408
  let c4_i32 : BitVec 32 := 4#32
  let c0_i32_324 : BitVec 32 := 0#32
  let v410 : BitVec 1 := Scalar.cmpi .sgt c4_i32 c0_i32_324
  let v411 : BitVec 32 := Scalar.extui v410
  let c0_i32_325 : BitVec 32 := 0#32
  let v412 : BitVec 1 := Scalar.cmpi .slt c4_i32 c0_i32_325
  let v413 : BitVec 32 := Scalar.extui v412
  let v414 : BitVec 32 := Scalar.subi v411 v413
  let v415 : BitVec 1 := Scalar.cmpi .ne v409 v414
  let v416 : BitVec 32 := Scalar.remsi v119 c4_i32
  let c0_i32_326 : BitVec 32 := 0#32
  let v417 : BitVec 1 := Scalar.cmpi .ne v416 c0_i32_326
  let v418 : BitVec 1 := Scalar.andi v415 v417
  let v404 : BitVec 32 := Scalar.divsi v119 c4_i32
  let c1_i32_327 : BitVec 32 := 1#32
  let v419 : BitVec 32 := Scalar.subi v404 c1_i32_327
  let v420 : BitVec 32 := Scalar.select v418 v419 v404
  let v421 : BitVec 32 := Scalar.subi v420 c0_i32_337
  let c1_i32_338 : BitVec 32 := 1#32
  let v423 : BitVec 32 := Scalar.divsi v421 c1_i32_338
  let v424 : BitVec 32 := Scalar.muli v423 c1_i32_338
  let v425 : BitVec 32 := Scalar.addi c0_i32_337 v424
  let c1_i32_340 : BitVec 32 := 1#32
  let arg22 : BitVec 32 := Scf.iv v425 c1_i32_340 k0_t2
  let v475 : BitVec 32 := Scalar.muli c4_i32_390 arg22
  let v476 : BitVec 32 := Scalar.addi v475 c0_i32_391
  let v608 : BitVec 32 := Scalar.addi v118 v476
  let v633 : BitVec 32 := Scalar.muli c2_i32_514 v608
  let c1_i32_515 : BitVec 32 := 1#32
  let v634 : BitVec 32 := Scalar.addi v633 c1_i32_515
  let v635 : Index := Scalar.indexCast v634
  let c0_517 : Index := 0#32
  let c0_518 : Index := 0#32
  ![1, v635.toNat, 0, 0]
def k0_off21 (i : grid0.Coords) (v118 : BitVec 32) : Fin 4 → Nat :=
  let c0_391 : Index := 0#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let v475 : BitVec 32 := Scalar.addi v118 v436
  let c1_i32_390 : BitVec 32 := 1#32
  let v476 : BitVec 32 := Scalar.addi v475 c1_i32_390
  let c15_i32 : BitVec 32 := 15#32
  let v477 : BitVec 32 := Scalar.minsi v476 c15_i32
  let v478 : Index := Scalar.indexCast v477
  let c0_392 : Index := 0#32
  let c0_393 : Index := 0#32
  ![0, v478.toNat, 0, 0]
def k0_cond2 (i : grid0.Coords) (v118 : BitVec 32) : BitVec 1 :=
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let c2_i32_347 : BitVec 32 := 2#32
  let v437 : BitVec 1 := Scalar.cmpi .sge v435 c2_i32_347
  let v438 : BitVec 32 := Scalar.extui v437
  let c0_i32_356 : BitVec 32 := 0#32
  let v439 : BitVec 1 := Scalar.cmpi .ne v438 c0_i32_356
  v439

def k0_off22 (i : grid0.Coords) (v118 : BitVec 32) : Fin 4 → Nat :=
  let c0_415 : Index := 0#32
  let c2_i32_414 : BitVec 32 := 2#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let v485 : BitVec 32 := Scalar.addi v118 v436
  let v506 : BitVec 32 := Scalar.muli c2_i32_414 v485
  let v507 : Index := Scalar.indexCast v506
  let c0_416 : Index := 0#32
  let c0_417 : Index := 0#32
  ![0, v507.toNat, 0, 0]
def k0_off23 (i : grid0.Coords) (v118 : BitVec 32) : Fin 4 → Nat :=
  let c0_420 : Index := 0#32
  let c2_i32_418 : BitVec 32 := 2#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let v485 : BitVec 32 := Scalar.addi v118 v436
  let v510 : BitVec 32 := Scalar.muli c2_i32_418 v485
  let c1_i32_419 : BitVec 32 := 1#32
  let v511 : BitVec 32 := Scalar.addi v510 c1_i32_419
  let v512 : Index := Scalar.indexCast v511
  let c0_421 : Index := 0#32
  let c0_422 : Index := 0#32
  ![0, v512.toNat, 0, 0]
def k0_off24 (i : grid0.Coords) (v118 : BitVec 32) : Fin 4 → Nat :=
  let c1_485 : Index := 1#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let v596 : BitVec 32 := Scalar.addi v118 v436
  let c1_i32_483 : BitVec 32 := 1#32
  let v597 : BitVec 32 := Scalar.addi v596 c1_i32_483
  let c15_i32_484 : BitVec 32 := 15#32
  let v598 : BitVec 32 := Scalar.minsi v597 c15_i32_484
  let v599 : Index := Scalar.indexCast v598
  let c0_486 : Index := 0#32
  let c0_487 : Index := 0#32
  ![1, v599.toNat, 0, 0]
def k0_off25 (i : grid0.Coords) (v118 : BitVec 32) : Fin 4 → Nat :=
  let c1_509 : Index := 1#32
  let c2_i32_508 : BitVec 32 := 2#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let v606 : BitVec 32 := Scalar.addi v118 v436
  let v627 : BitVec 32 := Scalar.muli c2_i32_508 v606
  let v628 : Index := Scalar.indexCast v627
  let c0_510 : Index := 0#32
  let c0_511 : Index := 0#32
  ![1, v628.toNat, 0, 0]
def k0_off26 (i : grid0.Coords) (v118 : BitVec 32) : Fin 4 → Nat :=
  let c1_514 : Index := 1#32
  let c2_i32_512 : BitVec 32 := 2#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let v606 : BitVec 32 := Scalar.addi v118 v436
  let v631 : BitVec 32 := Scalar.muli c2_i32_512 v606
  let c1_i32_513 : BitVec 32 := 1#32
  let v632 : BitVec 32 := Scalar.addi v631 c1_i32_513
  let v633 : Index := Scalar.indexCast v632
  let c0_515 : Index := 0#32
  let c0_516 : Index := 0#32
  ![1, v633.toNat, 0, 0]
def k0_off27 (i : grid0.Coords) (v118 : BitVec 32) : Fin 4 → Nat :=
  let c0_580 : Index := 0#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let c1_i32_577 : BitVec 32 := 1#32
  let v717 : BitVec 32 := Scalar.addi v436 c1_i32_577
  let v718 : BitVec 32 := Scalar.addi v118 v717
  let c1_i32_578 : BitVec 32 := 1#32
  let v719 : BitVec 32 := Scalar.addi v718 c1_i32_578
  let c15_i32_579 : BitVec 32 := 15#32
  let v720 : BitVec 32 := Scalar.minsi v719 c15_i32_579
  let v721 : Index := Scalar.indexCast v720
  let c0_581 : Index := 0#32
  let c0_582 : Index := 0#32
  ![0, v721.toNat, 0, 0]
def k0_off28 (i : grid0.Coords) (v118 : BitVec 32) : Fin 4 → Nat :=
  let c0_604 : Index := 0#32
  let c2_i32_603 : BitVec 32 := 2#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let c1_i32_577 : BitVec 32 := 1#32
  let v717 : BitVec 32 := Scalar.addi v436 c1_i32_577
  let v728 : BitVec 32 := Scalar.addi v118 v717
  let v749 : BitVec 32 := Scalar.muli c2_i32_603 v728
  let v750 : Index := Scalar.indexCast v749
  let c0_605 : Index := 0#32
  let c0_606 : Index := 0#32
  ![0, v750.toNat, 0, 0]
def k0_off29 (i : grid0.Coords) (v118 : BitVec 32) : Fin 4 → Nat :=
  let c0_609 : Index := 0#32
  let c2_i32_607 : BitVec 32 := 2#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let c1_i32_577 : BitVec 32 := 1#32
  let v717 : BitVec 32 := Scalar.addi v436 c1_i32_577
  let v728 : BitVec 32 := Scalar.addi v118 v717
  let v753 : BitVec 32 := Scalar.muli c2_i32_607 v728
  let c1_i32_608 : BitVec 32 := 1#32
  let v754 : BitVec 32 := Scalar.addi v753 c1_i32_608
  let v755 : Index := Scalar.indexCast v754
  let c0_610 : Index := 0#32
  let c0_611 : Index := 0#32
  ![0, v755.toNat, 0, 0]
def k0_off30 (i : grid0.Coords) (v118 : BitVec 32) : Fin 4 → Nat :=
  let c1_674 : Index := 1#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let c1_i32_577 : BitVec 32 := 1#32
  let v717 : BitVec 32 := Scalar.addi v436 c1_i32_577
  let v839 : BitVec 32 := Scalar.addi v118 v717
  let c1_i32_672 : BitVec 32 := 1#32
  let v840 : BitVec 32 := Scalar.addi v839 c1_i32_672
  let c15_i32_673 : BitVec 32 := 15#32
  let v841 : BitVec 32 := Scalar.minsi v840 c15_i32_673
  let v842 : Index := Scalar.indexCast v841
  let c0_675 : Index := 0#32
  let c0_676 : Index := 0#32
  ![1, v842.toNat, 0, 0]
def k0_off31 (i : grid0.Coords) (v118 : BitVec 32) : Fin 4 → Nat :=
  let c1_698 : Index := 1#32
  let c2_i32_697 : BitVec 32 := 2#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let c1_i32_577 : BitVec 32 := 1#32
  let v717 : BitVec 32 := Scalar.addi v436 c1_i32_577
  let v849 : BitVec 32 := Scalar.addi v118 v717
  let v870 : BitVec 32 := Scalar.muli c2_i32_697 v849
  let v871 : Index := Scalar.indexCast v870
  let c0_699 : Index := 0#32
  let c0_700 : Index := 0#32
  ![1, v871.toNat, 0, 0]
def k0_off32 (i : grid0.Coords) (v118 : BitVec 32) : Fin 4 → Nat :=
  let c1_703 : Index := 1#32
  let c2_i32_701 : BitVec 32 := 2#32
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let v436 : BitVec 32 := Scalar.subi v119 v435
  let c1_i32_577 : BitVec 32 := 1#32
  let v717 : BitVec 32 := Scalar.addi v436 c1_i32_577
  let v849 : BitVec 32 := Scalar.addi v118 v717
  let v874 : BitVec 32 := Scalar.muli c2_i32_701 v849
  let c1_i32_702 : BitVec 32 := 1#32
  let v875 : BitVec 32 := Scalar.addi v874 c1_i32_702
  let v876 : Index := Scalar.indexCast v875
  let c0_704 : Index := 0#32
  let c0_705 : Index := 0#32
  ![1, v876.toNat, 0, 0]
def k0_off33 (i : grid0.Coords) (v118 : BitVec 32) : Fin 4 → Nat :=
  let c0_407 : Index := 0#32
  let c2_i32_406 : BitVec 32 := 2#32
  let arg2 : BitVec 32 := BitVec.ofNat 32 (i 2).val
  let v119 : BitVec 32 := Scalar.subi arg2 v118
  let c1_i32_390 : BitVec 32 := 1#32
  let v475 : BitVec 32 := Scalar.subi v119 c1_i32_390
  let v476 : BitVec 32 := Scalar.addi v118 v475
  let v497 : BitVec 32 := Scalar.muli c2_i32_406 v476
  let v498 : Index := Scalar.indexCast v497
  let c0_408 : Index := 0#32
  let c0_409 : Index := 0#32
  ![0, v498.toNat, 0, 0]
def k0_cond3 (i : grid0.Coords) (v118 : BitVec 32) : BitVec 1 :=
  let arg2 : BitVec 32 := BitVec.ofNat 32 (i 2).val
  let v119 : BitVec 32 := Scalar.subi arg2 v118
  let c4_i32_341 : BitVec 32 := 4#32
  let c0_i32_342 : BitVec 32 := 0#32
  let v426 : BitVec 1 := Scalar.cmpi .eq c4_i32_341 c0_i32_342
  let c1_i32_343 : BitVec 32 := 1#32
  let v427 : BitVec 32 := Scalar.select v426 c1_i32_343 c4_i32_341
  let v428 : BitVec 32 := Scalar.remsi v119 v427
  let c0_i32_345 : BitVec 32 := 0#32
  let v430 : BitVec 1 := Scalar.cmpi .slt v428 c0_i32_345
  let c0_i32_346 : BitVec 32 := 0#32
  let v431 : BitVec 1 := Scalar.cmpi .slt v427 c0_i32_346
  let v432 : BitVec 1 := Scalar.xori v430 v431
  let c0_i32_344 : BitVec 32 := 0#32
  let v429 : BitVec 1 := Scalar.cmpi .ne v428 c0_i32_344
  let v433 : BitVec 1 := Scalar.andi v432 v429
  let v434 : BitVec 32 := Scalar.addi v428 v427
  let v435 : BitVec 32 := Scalar.select v433 v434 v428
  let c2_i32_357 : BitVec 32 := 2#32
  let c0_i32_358 : BitVec 32 := 0#32
  let v440 : BitVec 1 := Scalar.cmpi .eq c2_i32_357 c0_i32_358
  let c1_i32_359 : BitVec 32 := 1#32
  let v441 : BitVec 32 := Scalar.select v440 c1_i32_359 c2_i32_357
  let v442 : BitVec 32 := Scalar.remsi v435 v441
  let c0_i32_361 : BitVec 32 := 0#32
  let v444 : BitVec 1 := Scalar.cmpi .slt v442 c0_i32_361
  let c0_i32_362 : BitVec 32 := 0#32
  let v445 : BitVec 1 := Scalar.cmpi .slt v441 c0_i32_362
  let v446 : BitVec 1 := Scalar.xori v444 v445
  let c0_i32_360 : BitVec 32 := 0#32
  let v443 : BitVec 1 := Scalar.cmpi .ne v442 c0_i32_360
  let v447 : BitVec 1 := Scalar.andi v446 v443
  let v448 : BitVec 32 := Scalar.addi v442 v441
  let v449 : BitVec 32 := Scalar.select v447 v448 v442
  let c1_i32_363 : BitVec 32 := 1#32
  let v450 : BitVec 1 := Scalar.cmpi .eq v449 c1_i32_363
  let v451 : BitVec 32 := Scalar.extui v450
  let c0_i32_372 : BitVec 32 := 0#32
  let v452 : BitVec 1 := Scalar.cmpi .ne v451 c0_i32_372
  v452

def k0_off34 (i : grid0.Coords) (v118 : BitVec 32) : Fin 4 → Nat :=
  let c0_412 : Index := 0#32
  let c2_i32_410 : BitVec 32 := 2#32
  let arg2 : BitVec 32 := BitVec.ofNat 32 (i 2).val
  let v119 : BitVec 32 := Scalar.subi arg2 v118
  let c1_i32_390 : BitVec 32 := 1#32
  let v475 : BitVec 32 := Scalar.subi v119 c1_i32_390
  let v476 : BitVec 32 := Scalar.addi v118 v475
  let v501 : BitVec 32 := Scalar.muli c2_i32_410 v476
  let c1_i32_411 : BitVec 32 := 1#32
  let v502 : BitVec 32 := Scalar.addi v501 c1_i32_411
  let v503 : Index := Scalar.indexCast v502
  let c0_413 : Index := 0#32
  let c0_414 : Index := 0#32
  ![0, v503.toNat, 0, 0]
def k0_off35 (i : grid0.Coords) (v118 : BitVec 32) : Fin 4 → Nat :=
  let c1_491 : Index := 1#32
  let c2_i32_490 : BitVec 32 := 2#32
  let arg2 : BitVec 32 := BitVec.ofNat 32 (i 2).val
  let v119 : BitVec 32 := Scalar.subi arg2 v118
  let c1_i32_390 : BitVec 32 := 1#32
  let v475 : BitVec 32 := Scalar.subi v119 c1_i32_390
  let v587 : BitVec 32 := Scalar.addi v118 v475
  let v608 : BitVec 32 := Scalar.muli c2_i32_490 v587
  let v609 : Index := Scalar.indexCast v608
  let c0_492 : Index := 0#32
  let c0_493 : Index := 0#32
  ![1, v609.toNat, 0, 0]
def k0_off36 (i : grid0.Coords) (v118 : BitVec 32) : Fin 4 → Nat :=
  let c1_496 : Index := 1#32
  let c2_i32_494 : BitVec 32 := 2#32
  let arg2 : BitVec 32 := BitVec.ofNat 32 (i 2).val
  let v119 : BitVec 32 := Scalar.subi arg2 v118
  let c1_i32_390 : BitVec 32 := 1#32
  let v475 : BitVec 32 := Scalar.subi v119 c1_i32_390
  let v587 : BitVec 32 := Scalar.addi v118 v475
  let v612 : BitVec 32 := Scalar.muli c2_i32_494 v587
  let c1_i32_495 : BitVec 32 := 1#32
  let v613 : BitVec 32 := Scalar.addi v612 c1_i32_495
  let v614 : Index := Scalar.indexCast v613
  let c0_497 : Index := 0#32
  let c0_498 : Index := 0#32
  ![1, v614.toNat, 0, 0]

def k0_chk1 (i : grid0.Coords) (v118 : BitVec 32) : Prop :=
  (∀ a, (k0_off3 v118) a + S1x1x512x256.size a ≤ S2x16x512x256.size a) ∧
  (∀ a, (k0_off6 v118) a + S1x1x512x256.size a ≤ S2x16x512x256.size a) ∧
  ((k0_t1_loop i v118).OK) ∧
  (∀ k0_t1 : Fin (k0_t1_loop i v118).trips, ∀ (r : Fin 4), ∀ a, (k0_off9 i v118 k0_t1 (BitVec.ofNat 32 r.val)) a + S1x1x512x256.size a ≤ S2x16x512x256.size a) ∧
  (∀ k0_t1 : Fin (k0_t1_loop i v118).trips, ∀ (r : Fin 4), ∀ a, (k0_off10 i v118 k0_t1 (BitVec.ofNat 32 r.val)) a + S1x1x128x256.size a ≤ S2x32x128x256.size a) ∧
  (∀ k0_t1 : Fin (k0_t1_loop i v118).trips, ∀ (r : Fin 4), ∀ a, (k0_off11 i v118 k0_t1 (BitVec.ofNat 32 r.val)) a + S1x1x128x256.size a ≤ S2x32x128x256.size a) ∧
  (∀ k0_t1 : Fin (k0_t1_loop i v118).trips, ∀ (r : Fin 4), ∀ a, (k0_off12 i v118 k0_t1 (BitVec.ofNat 32 r.val)) a + S1x1x512x256.size a ≤ S2x16x512x256.size a) ∧
  (∀ k0_t1 : Fin (k0_t1_loop i v118).trips, ∀ (r : Fin 4), ∀ a, (k0_off13 i v118 k0_t1 (BitVec.ofNat 32 r.val)) a + S1x1x128x256.size a ≤ S2x32x128x256.size a) ∧
  (∀ k0_t1 : Fin (k0_t1_loop i v118).trips, ∀ (r : Fin 4), ∀ a, (k0_off14 i v118 k0_t1 (BitVec.ofNat 32 r.val)) a + S1x1x128x256.size a ≤ S2x32x128x256.size a) ∧
  ((k0_t2_loop i v118).OK) ∧
  (∀ k0_t2 : Fin (k0_t2_loop i v118).trips, ∀ (r : Fin 4), ∀ a, (k0_off15 i v118 k0_t2 (BitVec.ofNat 32 r.val)) a + S1x1x512x256.size a ≤ S2x16x512x256.size a) ∧
  (∀ k0_t2 : Fin (k0_t2_loop i v118).trips, ∀ (r : Fin 4), ∀ a, (k0_off16 i v118 k0_t2 (BitVec.ofNat 32 r.val)) a + S1x1x128x256.size a ≤ S2x32x128x256.size a) ∧
  (∀ k0_t2 : Fin (k0_t2_loop i v118).trips, ∀ (r : Fin 4), ∀ a, (k0_off17 i v118 k0_t2 (BitVec.ofNat 32 r.val)) a + S1x1x128x256.size a ≤ S2x32x128x256.size a) ∧
  (∀ k0_t2 : Fin (k0_t2_loop i v118).trips, ∀ (r : Fin 4), ∀ a, (k0_off18 i v118 k0_t2 (BitVec.ofNat 32 r.val)) a + S1x1x512x256.size a ≤ S2x16x512x256.size a) ∧
  (∀ k0_t2 : Fin (k0_t2_loop i v118).trips, ∀ (r : Fin 4), ∀ a, (k0_off19 i v118 k0_t2 (BitVec.ofNat 32 r.val)) a + S1x1x128x256.size a ≤ S2x32x128x256.size a) ∧
  (∀ k0_t2 : Fin (k0_t2_loop i v118).trips, ∀ (r : Fin 4), ∀ a, (k0_off20 i v118 k0_t2 (BitVec.ofNat 32 r.val)) a + S1x1x128x256.size a ≤ S2x32x128x256.size a) ∧
  (∀ (k0_h2 : k0_cond2 i v118 = 1#1), ∀ a, (k0_off21 i v118) a + S1x1x512x256.size a ≤ S2x16x512x256.size a) ∧
  (∀ (k0_h2 : k0_cond2 i v118 = 1#1), ∀ a, (k0_off22 i v118) a + S1x1x128x256.size a ≤ S2x32x128x256.size a) ∧
  (∀ (k0_h2 : k0_cond2 i v118 = 1#1), ∀ a, (k0_off23 i v118) a + S1x1x128x256.size a ≤ S2x32x128x256.size a) ∧
  (∀ (k0_h2 : k0_cond2 i v118 = 1#1), ∀ a, (k0_off24 i v118) a + S1x1x512x256.size a ≤ S2x16x512x256.size a) ∧
  (∀ (k0_h2 : k0_cond2 i v118 = 1#1), ∀ a, (k0_off25 i v118) a + S1x1x128x256.size a ≤ S2x32x128x256.size a) ∧
  (∀ (k0_h2 : k0_cond2 i v118 = 1#1), ∀ a, (k0_off26 i v118) a + S1x1x128x256.size a ≤ S2x32x128x256.size a) ∧
  (∀ (k0_h2 : k0_cond2 i v118 = 1#1), ∀ a, (k0_off27 i v118) a + S1x1x512x256.size a ≤ S2x16x512x256.size a) ∧
  (∀ (k0_h2 : k0_cond2 i v118 = 1#1), ∀ a, (k0_off28 i v118) a + S1x1x128x256.size a ≤ S2x32x128x256.size a) ∧
  (∀ (k0_h2 : k0_cond2 i v118 = 1#1), ∀ a, (k0_off29 i v118) a + S1x1x128x256.size a ≤ S2x32x128x256.size a) ∧
  (∀ (k0_h2 : k0_cond2 i v118 = 1#1), ∀ a, (k0_off30 i v118) a + S1x1x512x256.size a ≤ S2x16x512x256.size a) ∧
  (∀ (k0_h2 : k0_cond2 i v118 = 1#1), ∀ a, (k0_off31 i v118) a + S1x1x128x256.size a ≤ S2x32x128x256.size a) ∧
  (∀ (k0_h2 : k0_cond2 i v118 = 1#1), ∀ a, (k0_off32 i v118) a + S1x1x128x256.size a ≤ S2x32x128x256.size a) ∧
  (∀ (k0_h3 : k0_cond3 i v118 = 1#1), ∀ a, (k0_off33 i v118) a + S1x1x128x256.size a ≤ S2x32x128x256.size a) ∧
  (∀ (k0_h3 : k0_cond3 i v118 = 1#1), ∀ a, (k0_off34 i v118) a + S1x1x128x256.size a ≤ S2x32x128x256.size a) ∧
  (∀ (k0_h3 : k0_cond3 i v118 = 1#1), ∀ a, (k0_off35 i v118) a + S1x1x128x256.size a ≤ S2x32x128x256.size a) ∧
  (∀ (k0_h3 : k0_cond3 i v118 = 1#1), ∀ a, (k0_off36 i v118) a + S1x1x128x256.size a ≤ S2x32x128x256.size a)
theorem k0_off3_inb : ∀ (i : grid0.Coords) (v118 : BitVec 32) (k0_hw1 : k0_chk1 i v118), ∀ a, (k0_off3 v118) a + S1x1x512x256.size a ≤ S2x16x512x256.size a := fun i v118 k0_hw1 => k0_hw1.1
theorem k0_off6_inb : ∀ (i : grid0.Coords) (v118 : BitVec 32) (k0_hw1 : k0_chk1 i v118), ∀ a, (k0_off6 v118) a + S1x1x512x256.size a ≤ S2x16x512x256.size a := fun i v118 k0_hw1 => k0_hw1.2.1
theorem k0_t1_ok : ∀ (i : grid0.Coords) (v118 : BitVec 32) (k0_hw1 : k0_chk1 i v118), (k0_t1_loop i v118).OK := fun i v118 k0_hw1 => k0_hw1.2.2.1
theorem k0_off9_inb : ∀ (i : grid0.Coords) (v118 : BitVec 32) (k0_hw1 : k0_chk1 i v118) (k0_t1 : Fin (k0_t1_loop i v118).trips), ∀ (r : Fin 4), ∀ a, (k0_off9 i v118 k0_t1 (BitVec.ofNat 32 r.val)) a + S1x1x512x256.size a ≤ S2x16x512x256.size a := fun i v118 k0_hw1 k0_t1 r => k0_hw1.2.2.2.1 k0_t1 r
theorem k0_off10_inb : ∀ (i : grid0.Coords) (v118 : BitVec 32) (k0_hw1 : k0_chk1 i v118) (k0_t1 : Fin (k0_t1_loop i v118).trips), ∀ (r : Fin 4), ∀ a, (k0_off10 i v118 k0_t1 (BitVec.ofNat 32 r.val)) a + S1x1x128x256.size a ≤ S2x32x128x256.size a := fun i v118 k0_hw1 k0_t1 r => k0_hw1.2.2.2.2.1 k0_t1 r
theorem k0_off11_inb : ∀ (i : grid0.Coords) (v118 : BitVec 32) (k0_hw1 : k0_chk1 i v118) (k0_t1 : Fin (k0_t1_loop i v118).trips), ∀ (r : Fin 4), ∀ a, (k0_off11 i v118 k0_t1 (BitVec.ofNat 32 r.val)) a + S1x1x128x256.size a ≤ S2x32x128x256.size a := fun i v118 k0_hw1 k0_t1 r => k0_hw1.2.2.2.2.2.1 k0_t1 r
theorem k0_off12_inb : ∀ (i : grid0.Coords) (v118 : BitVec 32) (k0_hw1 : k0_chk1 i v118) (k0_t1 : Fin (k0_t1_loop i v118).trips), ∀ (r : Fin 4), ∀ a, (k0_off12 i v118 k0_t1 (BitVec.ofNat 32 r.val)) a + S1x1x512x256.size a ≤ S2x16x512x256.size a := fun i v118 k0_hw1 k0_t1 r => k0_hw1.2.2.2.2.2.2.1 k0_t1 r
theorem k0_off13_inb : ∀ (i : grid0.Coords) (v118 : BitVec 32) (k0_hw1 : k0_chk1 i v118) (k0_t1 : Fin (k0_t1_loop i v118).trips), ∀ (r : Fin 4), ∀ a, (k0_off13 i v118 k0_t1 (BitVec.ofNat 32 r.val)) a + S1x1x128x256.size a ≤ S2x32x128x256.size a := fun i v118 k0_hw1 k0_t1 r => k0_hw1.2.2.2.2.2.2.2.1 k0_t1 r
theorem k0_off14_inb : ∀ (i : grid0.Coords) (v118 : BitVec 32) (k0_hw1 : k0_chk1 i v118) (k0_t1 : Fin (k0_t1_loop i v118).trips), ∀ (r : Fin 4), ∀ a, (k0_off14 i v118 k0_t1 (BitVec.ofNat 32 r.val)) a + S1x1x128x256.size a ≤ S2x32x128x256.size a := fun i v118 k0_hw1 k0_t1 r => k0_hw1.2.2.2.2.2.2.2.2.1 k0_t1 r
theorem k0_t2_ok : ∀ (i : grid0.Coords) (v118 : BitVec 32) (k0_hw1 : k0_chk1 i v118), (k0_t2_loop i v118).OK := fun i v118 k0_hw1 => k0_hw1.2.2.2.2.2.2.2.2.2.1
theorem k0_off15_inb : ∀ (i : grid0.Coords) (v118 : BitVec 32) (k0_hw1 : k0_chk1 i v118) (k0_t2 : Fin (k0_t2_loop i v118).trips), ∀ (r : Fin 4), ∀ a, (k0_off15 i v118 k0_t2 (BitVec.ofNat 32 r.val)) a + S1x1x512x256.size a ≤ S2x16x512x256.size a := fun i v118 k0_hw1 k0_t2 r => k0_hw1.2.2.2.2.2.2.2.2.2.2.1 k0_t2 r
theorem k0_off16_inb : ∀ (i : grid0.Coords) (v118 : BitVec 32) (k0_hw1 : k0_chk1 i v118) (k0_t2 : Fin (k0_t2_loop i v118).trips), ∀ (r : Fin 4), ∀ a, (k0_off16 i v118 k0_t2 (BitVec.ofNat 32 r.val)) a + S1x1x128x256.size a ≤ S2x32x128x256.size a := fun i v118 k0_hw1 k0_t2 r => k0_hw1.2.2.2.2.2.2.2.2.2.2.2.1 k0_t2 r
theorem k0_off17_inb : ∀ (i : grid0.Coords) (v118 : BitVec 32) (k0_hw1 : k0_chk1 i v118) (k0_t2 : Fin (k0_t2_loop i v118).trips), ∀ (r : Fin 4), ∀ a, (k0_off17 i v118 k0_t2 (BitVec.ofNat 32 r.val)) a + S1x1x128x256.size a ≤ S2x32x128x256.size a := fun i v118 k0_hw1 k0_t2 r => k0_hw1.2.2.2.2.2.2.2.2.2.2.2.2.1 k0_t2 r
theorem k0_off18_inb : ∀ (i : grid0.Coords) (v118 : BitVec 32) (k0_hw1 : k0_chk1 i v118) (k0_t2 : Fin (k0_t2_loop i v118).trips), ∀ (r : Fin 4), ∀ a, (k0_off18 i v118 k0_t2 (BitVec.ofNat 32 r.val)) a + S1x1x512x256.size a ≤ S2x16x512x256.size a := fun i v118 k0_hw1 k0_t2 r => k0_hw1.2.2.2.2.2.2.2.2.2.2.2.2.2.1 k0_t2 r
theorem k0_off19_inb : ∀ (i : grid0.Coords) (v118 : BitVec 32) (k0_hw1 : k0_chk1 i v118) (k0_t2 : Fin (k0_t2_loop i v118).trips), ∀ (r : Fin 4), ∀ a, (k0_off19 i v118 k0_t2 (BitVec.ofNat 32 r.val)) a + S1x1x128x256.size a ≤ S2x32x128x256.size a := fun i v118 k0_hw1 k0_t2 r => k0_hw1.2.2.2.2.2.2.2.2.2.2.2.2.2.2.1 k0_t2 r
theorem k0_off20_inb : ∀ (i : grid0.Coords) (v118 : BitVec 32) (k0_hw1 : k0_chk1 i v118) (k0_t2 : Fin (k0_t2_loop i v118).trips), ∀ (r : Fin 4), ∀ a, (k0_off20 i v118 k0_t2 (BitVec.ofNat 32 r.val)) a + S1x1x128x256.size a ≤ S2x32x128x256.size a := fun i v118 k0_hw1 k0_t2 r => k0_hw1.2.2.2.2.2.2.2.2.2.2.2.2.2.2.2.1 k0_t2 r
theorem k0_off21_inb : ∀ (i : grid0.Coords) (v118 : BitVec 32) (k0_hw1 : k0_chk1 i v118), ∀ (k0_h2 : k0_cond2 i v118 = 1#1), ∀ a, (k0_off21 i v118) a + S1x1x512x256.size a ≤ S2x16x512x256.size a := fun i v118 k0_hw1 k0_h2 => k0_hw1.2.2.2.2.2.2.2.2.2.2.2.2.2.2.2.2.1 k0_h2
theorem k0_off22_inb : ∀ (i : grid0.Coords) (v118 : BitVec 32) (k0_hw1 : k0_chk1 i v118), ∀ (k0_h2 : k0_cond2 i v118 = 1#1), ∀ a, (k0_off22 i v118) a + S1x1x128x256.size a ≤ S2x32x128x256.size a := fun i v118 k0_hw1 k0_h2 => k0_hw1.2.2.2.2.2.2.2.2.2.2.2.2.2.2.2.2.2.1 k0_h2
theorem k0_off23_inb : ∀ (i : grid0.Coords) (v118 : BitVec 32) (k0_hw1 : k0_chk1 i v118), ∀ (k0_h2 : k0_cond2 i v118 = 1#1), ∀ a, (k0_off23 i v118) a + S1x1x128x256.size a ≤ S2x32x128x256.size a := fun i v118 k0_hw1 k0_h2 => k0_hw1.2.2.2.2.2.2.2.2.2.2.2.2.2.2.2.2.2.2.1 k0_h2
theorem k0_off24_inb : ∀ (i : grid0.Coords) (v118 : BitVec 32) (k0_hw1 : k0_chk1 i v118), ∀ (k0_h2 : k0_cond2 i v118 = 1#1), ∀ a, (k0_off24 i v118) a + S1x1x512x256.size a ≤ S2x16x512x256.size a := fun i v118 k0_hw1 k0_h2 => k0_hw1.2.2.2.2.2.2.2.2.2.2.2.2.2.2.2.2.2.2.2.1 k0_h2
theorem k0_off25_inb : ∀ (i : grid0.Coords) (v118 : BitVec 32) (k0_hw1 : k0_chk1 i v118), ∀ (k0_h2 : k0_cond2 i v118 = 1#1), ∀ a, (k0_off25 i v118) a + S1x1x128x256.size a ≤ S2x32x128x256.size a := fun i v118 k0_hw1 k0_h2 => k0_hw1.2.2.2.2.2.2.2.2.2.2.2.2.2.2.2.2.2.2.2.2.1 k0_h2
theorem k0_off26_inb : ∀ (i : grid0.Coords) (v118 : BitVec 32) (k0_hw1 : k0_chk1 i v118), ∀ (k0_h2 : k0_cond2 i v118 = 1#1), ∀ a, (k0_off26 i v118) a + S1x1x128x256.size a ≤ S2x32x128x256.size a := fun i v118 k0_hw1 k0_h2 => k0_hw1.2.2.2.2.2.2.2.2.2.2.2.2.2.2.2.2.2.2.2.2.2.1 k0_h2
theorem k0_off27_inb : ∀ (i : grid0.Coords) (v118 : BitVec 32) (k0_hw1 : k0_chk1 i v118), ∀ (k0_h2 : k0_cond2 i v118 = 1#1), ∀ a, (k0_off27 i v118) a + S1x1x512x256.size a ≤ S2x16x512x256.size a := fun i v118 k0_hw1 k0_h2 => k0_hw1.2.2.2.2.2.2.2.2.2.2.2.2.2.2.2.2.2.2.2.2.2.2.1 k0_h2
theorem k0_off28_inb : ∀ (i : grid0.Coords) (v118 : BitVec 32) (k0_hw1 : k0_chk1 i v118), ∀ (k0_h2 : k0_cond2 i v118 = 1#1), ∀ a, (k0_off28 i v118) a + S1x1x128x256.size a ≤ S2x32x128x256.size a := fun i v118 k0_hw1 k0_h2 => k0_hw1.2.2.2.2.2.2.2.2.2.2.2.2.2.2.2.2.2.2.2.2.2.2.2.1 k0_h2
theorem k0_off29_inb : ∀ (i : grid0.Coords) (v118 : BitVec 32) (k0_hw1 : k0_chk1 i v118), ∀ (k0_h2 : k0_cond2 i v118 = 1#1), ∀ a, (k0_off29 i v118) a + S1x1x128x256.size a ≤ S2x32x128x256.size a := fun i v118 k0_hw1 k0_h2 => k0_hw1.2.2.2.2.2.2.2.2.2.2.2.2.2.2.2.2.2.2.2.2.2.2.2.2.1 k0_h2
theorem k0_off30_inb : ∀ (i : grid0.Coords) (v118 : BitVec 32) (k0_hw1 : k0_chk1 i v118), ∀ (k0_h2 : k0_cond2 i v118 = 1#1), ∀ a, (k0_off30 i v118) a + S1x1x512x256.size a ≤ S2x16x512x256.size a := fun i v118 k0_hw1 k0_h2 => k0_hw1.2.2.2.2.2.2.2.2.2.2.2.2.2.2.2.2.2.2.2.2.2.2.2.2.2.1 k0_h2
theorem k0_off31_inb : ∀ (i : grid0.Coords) (v118 : BitVec 32) (k0_hw1 : k0_chk1 i v118), ∀ (k0_h2 : k0_cond2 i v118 = 1#1), ∀ a, (k0_off31 i v118) a + S1x1x128x256.size a ≤ S2x32x128x256.size a := fun i v118 k0_hw1 k0_h2 => k0_hw1.2.2.2.2.2.2.2.2.2.2.2.2.2.2.2.2.2.2.2.2.2.2.2.2.2.2.1 k0_h2
theorem k0_off32_inb : ∀ (i : grid0.Coords) (v118 : BitVec 32) (k0_hw1 : k0_chk1 i v118), ∀ (k0_h2 : k0_cond2 i v118 = 1#1), ∀ a, (k0_off32 i v118) a + S1x1x128x256.size a ≤ S2x32x128x256.size a := fun i v118 k0_hw1 k0_h2 => k0_hw1.2.2.2.2.2.2.2.2.2.2.2.2.2.2.2.2.2.2.2.2.2.2.2.2.2.2.2.1 k0_h2
theorem k0_off33_inb : ∀ (i : grid0.Coords) (v118 : BitVec 32) (k0_hw1 : k0_chk1 i v118), ∀ (k0_h3 : k0_cond3 i v118 = 1#1), ∀ a, (k0_off33 i v118) a + S1x1x128x256.size a ≤ S2x32x128x256.size a := fun i v118 k0_hw1 k0_h3 => k0_hw1.2.2.2.2.2.2.2.2.2.2.2.2.2.2.2.2.2.2.2.2.2.2.2.2.2.2.2.2.1 k0_h3
theorem k0_off34_inb : ∀ (i : grid0.Coords) (v118 : BitVec 32) (k0_hw1 : k0_chk1 i v118), ∀ (k0_h3 : k0_cond3 i v118 = 1#1), ∀ a, (k0_off34 i v118) a + S1x1x128x256.size a ≤ S2x32x128x256.size a := fun i v118 k0_hw1 k0_h3 => k0_hw1.2.2.2.2.2.2.2.2.2.2.2.2.2.2.2.2.2.2.2.2.2.2.2.2.2.2.2.2.2.1 k0_h3
theorem k0_off35_inb : ∀ (i : grid0.Coords) (v118 : BitVec 32) (k0_hw1 : k0_chk1 i v118), ∀ (k0_h3 : k0_cond3 i v118 = 1#1), ∀ a, (k0_off35 i v118) a + S1x1x128x256.size a ≤ S2x32x128x256.size a := fun i v118 k0_hw1 k0_h3 => k0_hw1.2.2.2.2.2.2.2.2.2.2.2.2.2.2.2.2.2.2.2.2.2.2.2.2.2.2.2.2.2.2.1 k0_h3
theorem k0_off36_inb : ∀ (i : grid0.Coords) (v118 : BitVec 32) (k0_hw1 : k0_chk1 i v118), ∀ (k0_h3 : k0_cond3 i v118 = 1#1), ∀ a, (k0_off36 i v118) a + S1x1x128x256.size a ≤ S2x32x128x256.size a := fun i v118 k0_hw1 k0_h3 => k0_hw1.2.2.2.2.2.2.2.2.2.2.2.2.2.2.2.2.2.2.2.2.2.2.2.2.2.2.2.2.2.2.2 k0_h3

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c16_i32 : BitVec 32 := 16#32
  let v1 : BitVec 32 := Scalar.muli arg0 c16_i32
  let v2 : BitVec 32 := Scalar.addi v1 arg2
  let c0_i32 : BitVec 32 := 0#32
  let c0_i32_0 : BitVec 32 := 0#32
  let c0_i32_1 : BitVec 32 := 0#32
  ![v0.toNat, v2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c32_i32 : BitVec 32 := 32#32
  let v21 : BitVec 32 := Scalar.muli v20 c32_i32
  let c6152_i32 : BitVec 32 := 6152#32
  let v22 : BitVec 32 := Scalar.addi c6152_i32 v21
  let v23 : BitVec 32 := v22
  let c0_i32_5 : BitVec 32 := 0#32
  let c0_i32_6 : BitVec 32 := 0#32
  ![v23.toNat, c0_i32_5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

abbrev stage0_0 : Fin 2 → Memref sig .tc .vmem S2x2x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x32x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Proof.Common.lean ====
/-
  What the value proofs of the calls share: facts about offsets and about sums over the extended reals.
-/
module

public import Idealize.ShloMosaic.Lib.Pointwise

@[expose] public section

noncomputable section

namespace Idealize.ShloMosaic.Shared

/-- The offsets of an access to a whole array of two axes are zero. -/
theorem hz2 : (![0, 0] : Fin 2 → Nat) = fun _ => 0 := funext fun a => by fin_cases a <;> rfl

/-- A row `x` of 2048 elements divided by its root mean square and scaled by `g`, at element `k`; the offset under the
    root is the program's own word. -/
def norm (x g : Fin 2048 → EReal) (k : Fin 2048) : EReal :=
  x k * Ideal.rsqrt (Ideal.div (∑ l, x l * x l) (Ideal.ofBits .f32 0x45000000#32) + Ideal.ofBits .f32 0x358637BD#32) * g k

/-- The term of number `k` of a sum of `N` terms; zero past the last. -/
def term {N : ℕ} (f : Fin N → EReal) (k : ℕ) : EReal := if h : k < N then f ⟨k, h⟩ else 0

/-- A term within the sum. -/
theorem term_of_lt {N : ℕ} (f : Fin N → EReal) {k : ℕ} (h : k < N) : term f k = f ⟨k, h⟩ := dif_pos h

/-- All the terms together are the sum. -/
theorem sum_term {N : ℕ} (f : Fin N → EReal) : ∑ k ∈ Finset.range N, term f k = ∑ k : Fin N, f k := by
  rw [Finset.sum_range]
  exact Finset.sum_congr rfl fun k _ => term_of_lt f k.isLt

/-- The sum of the first `n` terms and the block of `b` terms after them. -/
theorem sum_block {N : ℕ} (f : Fin N → EReal) (n b : ℕ) (g : Fin b → EReal) (hg : ∀ k : Fin b, g k = term f (n + k.val)) :
    ∑ k ∈ Finset.range n, term f k + ∑ k : Fin b, g k = ∑ k ∈ Finset.range (n + b), term f k := by
  rw [Finset.sum_range_add, Finset.sum_range (n := b)]
  exact congrArg _ (Finset.sum_congr rfl fun k _ => hg k)

end Idealize.ShloMosaic.Shared

end
-- ==== Proof.Down.lean ====
/-
  The second half of the squared-ReLU mixer: the projection added to the stream a block of 1024 of the 8192 inner
  positions at a time, the sum kept in the result's block, which the last point of a row block normalises by the root
  mean square. Sums over extended reals may be regrouped, so every row is the reference's.
-/
module

public import proofs.«01_k».proof.Defs
public import proofs.«01_k».proof.Proof.Gen.KernelDownIdeal.Value
public import proofs.«01_k».proof.Proof.Gen.ReferenceDownIdeal.Run
public import proofs.«01_k».proof.Proof.Common

@[expose] public section

noncomputable section

open Idealize.ShloMosaic Idealize.ShloMosaic.TcCoe Idealize.SL.Sem Cert
open Idealize.ShloMosaic.Pipeline (Dat)

namespace Cert.KernelDownIdeal.Value

open Cert.KernelDownIdeal Cert.KernelDownIdeal.Gen

variable (m : (ℓ : Loc nD τ sig) → Buf (Elt Ideal) ℓ) (ρ : Dev nD → PrngReg)

/-- What point `t` reads and writes: row block `t / 8`, part `t % 8` of the inner positions. -/
theorem idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0 :=
  (by decide +kernel : ∀ t : Fin grid0.N, _)

/-- The rows and inner positions that point `t` stages. -/
theorem rows_apply (c : Dev nD) (t : Fin cfg0.N) (r : Fin 1024) (k : Fin 1024) (h : t.val / 8 * 1024 + r.val < 16384) (h' : t.val % 8 * 1024 + k.val < 8192) :
    (iblk m c 0 t : Vec Ideal S1024x1024 .bf16) (ix2 r k) = (m ((c : Thread nD τ).loc main_arg0) : Vec Ideal S16384x8192 .bf16) (ix2 ⟨t.val / 8 * 1024 + r.val, h⟩ ⟨t.val % 8 * 1024 + k.val, h'⟩) := by
  obtain ⟨e0, e1, -⟩ := idx_facts t
  show V m c main_arg0 _ = _
  rw [V_main_arg0]
  congr 1
  funext a
  apply Fin.ext
  match a with
  | ⟨0, _⟩ => show win0_0.index t 0 * 1024 + 1 * r.val = t.val / 8 * 1024 + r.val; rw [e0]; omega
  | ⟨1, _⟩ => show win0_0.index t 1 * 1024 + 1 * k.val = t.val % 8 * 1024 + k.val; rw [e1]; omega

/-- The rows of the weights that point `t` stages. -/
theorem weights_apply (c : Dev nD) (t : Fin cfg0.N) (k : Fin 1024) (q : Fin 2048) (h : t.val % 8 * 1024 + k.val < 8192) :
    (iblk m c 1 t : Vec Ideal S1024x2048 .bf16) (ix2 k q) = (m ((c : Thread nD τ).loc main_arg1) : Vec Ideal S8192x2048 .bf16) (ix2 ⟨t.val % 8 * 1024 + k.val, h⟩ q) := by
  obtain ⟨-, -, e2, e3, -⟩ := idx_facts t
  show V m c main_arg1 _ = _
  rw [V_main_arg1]
  congr 1
  funext a
  apply Fin.ext
  match a with
  | ⟨0, _⟩ => show win0_1.index t 0 * 1024 + 1 * k.val = t.val % 8 * 1024 + k.val; rw [e2]; omega
  | ⟨1, _⟩ => show win0_1.index t 1 * 2048 + 1 * q.val = q.val; rw [e3]; omega

/-- The rows of the stream that point `t` stages. -/
theorem stream_apply (c : Dev nD) (t : Fin cfg0.N) (r : Fin 1024) (q : Fin 2048) (h : t.val / 8 * 1024 + r.val < 16384) :
    (iblk m c 2 t : Vec Ideal S1024x2048 .f32) (ix2 r q) = (m ((c : Thread nD τ).loc main_arg2) : Vec Ideal S16384x2048 .f32) (ix2 ⟨t.val / 8 * 1024 + r.val, h⟩ q) := by
  obtain ⟨-, -, -, -, e4, e5, -⟩ := idx_facts t
  show V m c main_arg2 _ = _
  rw [V_main_arg2]
  congr 1
  funext a
  apply Fin.ext
  match a with
  | ⟨0, _⟩ => show win0_2.index t 0 * 1024 + 1 * r.val = t.val / 8 * 1024 + r.val; rw [e4]; omega
  | ⟨1, _⟩ => show win0_2.index t 1 * 2048 + 1 * q.val = q.val; rw [e5]; omega

/-- A vector read as a row. -/
theorem row_apply (g : Vec Ideal S2048 .f32) (k : Fin 2048) : (shapeCast S1x2048 g shapeCasts_S2048_S1x2048 : Vec Ideal S1x2048 .f32) (ix2 0 k) = g (ix1 k) := by
  pointwise

/-- The gains, as every point stages them: the argument as a row. -/
theorem gains_apply (c : Dev nD) (t : Fin cfg0.N) (k : Fin 2048) :
    (iblk m c 3 t : Vec Ideal S1x2048 .f32) (ix2 0 k) = (m ((c : Thread nD τ).loc main_arg3) : Vec Ideal S2048 .f32) (ix1 k) := by
  obtain ⟨-, -, -, -, -, -, e6, e7⟩ := idx_facts t
  have hV : V m c main_v0 = (shapeCast S1x2048 (m ((c : Thread nD τ).loc main_arg3)) shapeCasts_S2048_S1x2048 : Vec Ideal S1x2048 .f32) := by
    show StableHlo.after hostOps0 (fun b => m (c, b)) main_v0 = _
    after_results
    rfl
  show V m c main_v0 _ = _
  rw [hV]
  have e : (((cfg0.win 3).blk t).view.emb (ix2 0 k) : S1x2048.Idx) = ix2 0 k := by
    funext a
    apply Fin.ext
    match a with
    | ⟨0, _⟩ => show win0_3.index t 0 * 1 + 1 * 0 = 0; rw [e6]
    | ⟨1, _⟩ => show win0_3.index t 1 * 2048 + 1 * k.val = k.val; rw [e7]; omega
  exact (congrArg _ e).trans (row_apply _ k)

/-- One part of the projection added, at an index. -/
theorem pay1_apply (o : Vec Ideal S1024x2048 .f32) (x : Vec Ideal S1024x1024 .bf16) (w : Vec Ideal S1024x2048 .bf16) (r : Fin 1024) (q : Fin 2048) :
    k0_pay1 o x w (ix2 r q) = o (ix2 r q) + (∑ k : Fin 1024, x (ix2 r k) * w (ix2 k q) : EReal) := by
  pointwise [k0_pay1]

/-- The norm, at an index. -/
theorem pay2_apply (o : Vec Ideal S1024x2048 .f32) (g : Vec Ideal S1x2048 .f32) (r : Fin 1024) (q : Fin 2048) :
    k0_pay2 o g (ix2 r q) = Shared.norm (fun l => o (ix2 r l)) (fun l => g (ix2 0 l)) q := by
  unfold Shared.norm
  pointwise [k0_pay2]

/-- The stream plus the first `n` terms of the projection, at row `r` and column `q`. -/
def partAt (u : Vec Ideal S16384x8192 .bf16) (w : Vec Ideal S8192x2048 .bf16) (h : Vec Ideal S16384x2048 .f32) (n : ℕ) (r : Fin 16384) (q : Fin 2048) : EReal :=
  h (ix2 r q) + ∑ k ∈ Finset.range n, Shared.term (fun k : Fin 8192 => u (ix2 r k) * w (ix2 k q)) k

/-- One more part, at an index: from the first `t % 8` blocks of terms to the first `t % 8 + 1`. -/
theorem part_step (c : Dev nD) (t : Fin cfg0.N) (o : Vec Ideal S1024x2048 .f32) (r : Fin 1024) (q : Fin 2048) (h : t.val / 8 * 1024 + r.val < 16384)
    (ho : o (ix2 r q) = partAt (m ((c : Thread nD τ).loc main_arg0)) (m ((c : Thread nD τ).loc main_arg1)) (m ((c : Thread nD τ).loc main_arg2)) (t.val % 8 * 1024)
      ⟨t.val / 8 * 1024 + r.val, h⟩ q) :
    k0_pay1 o (iblk m c 0 t) (iblk m c 1 t) (ix2 r q)
      = partAt (m ((c : Thread nD τ).loc main_arg0)) (m ((c : Thread nD τ).loc main_arg1)) (m ((c : Thread nD τ).loc main_arg2)) (t.val % 8 * 1024 + 1024)
        ⟨t.val / 8 * 1024 + r.val, h⟩ q := by
  rw [pay1_apply, ho]
  unfold partAt
  rw [add_assoc]
  refine congrArg _ (Shared.sum_block _ _ _ _ fun k => ?_)
  have hk : t.val % 8 * 1024 + k.val < 8192 := by have := k.isLt; omega
  rw [rows_apply m c t r k h hk, weights_apply m c t k q hk, Shared.term_of_lt _ hk]

/-- After point `n`, unless it is the last of its row block, the block holds the stream and the first parts of the
    projection. -/
theorem part_eq (c : Dev nD) : ∀ (n : ℕ) (h : n < cfg0.N) (_ : ¬n % 8 = 7) (r : Fin 1024) (q : Fin 2048) (hr : n / 8 * 1024 + r.val < 16384),
    outsAt0 m c n h (ix2 r q) = partAt (m ((c : Thread nD τ).loc main_arg0)) (m ((c : Thread nD τ).loc main_arg1)) (m ((c : Thread nD τ).loc main_arg2)) (n % 8 * 1024 + 1024)
      ⟨n / 8 * 1024 + r.val, hr⟩ q := by
  intro n
  induction n with
  | zero =>
    intro h h7 r q hr
    have e := outsAt0_A m c ⟨0, h⟩ rfl h7
    rw [out_A_4_eq] at e
    refine (congrFun e _).trans (part_step m c ⟨0, h⟩ _ r q hr ?_)
    refine (stream_apply m c ⟨0, h⟩ r q hr).trans ?_
    unfold partAt
    simp
  | succ n ih =>
    intro h h7 r q hr
    by_cases h0 : (n + 1) % 8 = 0
    · have e := outsAt0_A m c ⟨n + 1, h⟩ h0 h7
      rw [out_A_4_eq] at e
      refine (congrFun e _).trans (part_step m c ⟨n + 1, h⟩ _ r q hr ?_)
      refine (stream_apply m c ⟨n + 1, h⟩ r q hr).trans ?_
      unfold partAt
      simp [h0]
    · have e := outsAt0_B m c ⟨n + 1, h⟩ h0 h7
      rw [out_B_4_eq] at e
      refine (congrFun e _).trans (part_step m c ⟨n + 1, h⟩ _ r q hr ?_)
      refine (ih (by omega) (by omega) r q (by omega)).trans ?_
      congr 1
      · dsimp only; omega
      · apply Fin.ext; dsimp only; omega

/-- The result, at row `r` and column `q`. -/
def downAt (u : Vec Ideal S16384x8192 .bf16) (w : Vec Ideal S8192x2048 .bf16) (h : Vec Ideal S16384x2048 .f32) (g : Vec Ideal S2048 .f32) (r : Fin 16384) (q : Fin 2048) : EReal :=
  Shared.norm (fun l => h (ix2 r l) + ∑ k : Fin 8192, u (ix2 r k) * w (ix2 k l)) (fun l => g (ix1 l)) q

/-- After the last point of a row block, the block holds the normalised rows. -/
theorem last_eq (c : Dev nD) (t : Fin cfg0.N) (h7 : t.val % 8 = 7) (r : Fin 1024) (q : Fin 2048) (hr : t.val / 8 * 1024 + r.val < 16384) :
    outsAt0 m c t.val t.isLt (ix2 r q) = downAt (m ((c : Thread nD τ).loc main_arg0)) (m ((c : Thread nD τ).loc main_arg1)) (m ((c : Thread nD τ).loc main_arg2))
      (m ((c : Thread nD τ).loc main_arg3)) ⟨t.val / 8 * 1024 + r.val, hr⟩ q := by
  rw [outsAt0_C m c t (by omega) h7, out_C_4_eq, pay2_apply]
  unfold downAt
  simp only [gains_apply]
  congr 1
  funext l
  refine (part_step m c t _ r l hr ((part_eq m c (t.val - 1) _ (by omega) r l (by omega)).trans ?_)).trans ?_
  · congr 1
    · omega
    · apply Fin.ext; dsimp only; omega
  · unfold partAt
    rw [h7]
    exact congrArg _ (Shared.sum_term _)

/-- The fold over a row block is what its last point leaves. -/
theorem acc_eq (c : Dev nD) (a : ℕ) (h : 8 * a + 7 < cfg0.N) :
    outsAt0 m c (8 * a + 7) h = Pipeline.accAt (reset4 m c) (step4 m c) (8 * a) 7 h := by
  have e := outsAt_4_eq m c ⟨8 * a + 7, h⟩
  simpa only [show (8 * a + 7) / 8 = a by omega, show (8 * a + 7) % 8 = 7 by omega] using e

/-- The result array, index by index. -/
theorem G_apply (c : Dev nD) (r : Fin 16384) (q : Fin 2048) :
    (G4 m c : Vec Ideal S16384x2048 .f32) (ix2 r q) = downAt (m ((c : Thread nD τ).loc main_arg0)) (m ((c : Thread nD τ).loc main_arg1)) (m ((c : Thread nD τ).loc main_arg2))
      (m ((c : Thread nD τ).loc main_arg3)) r q := by
  have hN : cfg0.N = 128 := N_0
  have hr := r.isLt
  have hq := q.isLt
  have hrun : run4Of (ix2 r q) = r.val / 1024 := by
    show 1 * (r.val / 1024 - 0) + 1 * (q.val / 2048 - 0) = _
    omega
  have hlt : 8 * run4Of (ix2 r q) + 7 < cfg0.N := by rw [hrun]; omega
  unfold G4
  rw [dif_pos hlt, ← acc_eq m c _ hlt]
  have hl : loc4Of (ix2 r q) = ix2 (⟨r.val % 1024, Nat.mod_lt _ (by decide)⟩ : Fin 1024) (⟨q.val % 2048, Nat.mod_lt _ (by decide)⟩ : Fin 2048) := by
    funext a; match a with | ⟨0, _⟩ => rfl | ⟨1, _⟩ => rfl
  rw [hl]
  refine (last_eq m c ⟨_, hlt⟩ (by dsimp only; omega) _ _ (by dsimp only; omega)).trans ?_
  congr 1
  · apply Fin.ext; dsimp only; omega
  · apply Fin.ext; dsimp only; omega

end Cert.KernelDownIdeal.Value

namespace Cert.Proof

/-- The reference runs, and leaves its arguments and every counter as they were. -/
theorem quiescent_ReferenceDownIdeal : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- The kernel and its reference end with the same array. -/
theorem algebraic_KernelDownIdeal_ReferenceDownIdeal : Cert.algebraic_KernelDownIdeal_ReferenceDownIdeal := by
  intro m ρ m' ρ' _ hagree
  refine ⟨_, Cert.KernelDownIdeal.Value.run (F := Ideal) m ρ, ?_⟩
  refine (θ_run Cert.ReferenceDownIdeal.defs _ _).mono (fun _ h c => ⟨?_, (h c).2⟩) (Cert.ReferenceDownIdeal.Value.run (F := Ideal) m' ρ')
  rw [(h c).1, (hagree c).1, (hagree c).2.1, (hagree c).2.2.1, (hagree c).2.2.2]
  funext i
  idx_vars i
  refine Eq.trans ?_ (Cert.KernelDownIdeal.Value.G_apply m c i0 i1).symm
  unfold Cert.KernelDownIdeal.Value.downAt Shared.norm
  pointwise

end Cert.Proof

end
-- ==== Proof.Up.lean ====
/-
  The first half of the squared-ReLU mixer: the rows normalised by their root mean square, projected, and the positive
  part squared. The kernel normalises a row block once, keeps it in scratch, and multiplies it by one column block of
  the weights per point; every block it writes is the reference's.
-/
module

public import proofs.«01_k».proof.Defs
public import proofs.«01_k».proof.Proof.Gen.KernelUpIdeal.Value
public import proofs.«01_k».proof.Proof.Gen.ReferenceUpIdeal.Run
public import proofs.«01_k».proof.Proof.Common

@[expose] public section

noncomputable section

open Idealize.ShloMosaic Idealize.ShloMosaic.TcCoe Idealize.SL.Sem Cert
open Idealize.ShloMosaic.Pipeline (Dat)

namespace Cert.KernelUpIdeal.Value

open Cert.KernelUpIdeal Cert.KernelUpIdeal.Gen

variable (m : (ℓ : Loc nD τ sig) → Buf (Elt Ideal) ℓ) (ρ : Dev nD → PrngReg)

/-- The scratch after a point that normalises: the normalised row block. -/
theorem scratch_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x2048 .bf16) (h4 : a4.IsWhole)
    (a5 : Memref sig .tc .vmem S1024x2048 .bf16) (h5 : a5.IsWhole) (a6 : Memref sig .tc .vmem S1024x2048 .bf16) (h6 : a6.IsWhole)
    (hc : cond0_0 i) (x : Vec Ideal S1024x2048 .f32) (g : Vec Ideal S1x2048 .f32) (w : Vec Ideal S2048x2048 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero Shared.hz2]
  simp only [View.readAt_eq_ld, h2.read_unread, h3.read_unread, View.ld_unit_zero (S := S1024x2048) Shared.hz2, View.ld_unit_zero (S := S1x2048) Shared.hz2]

/-- The result's block after a point that normalises. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x2048 .bf16) (h4 : a4.IsWhole)
    (a5 : Memref sig .tc .vmem S1024x2048 .bf16) (h5 : a5.IsWhole) (a6 : Memref sig .tc .vmem S1024x2048 .bf16) (h6 : a6.IsWhole)
    (hc : cond0_0 i) (x : Vec Ideal S1024x2048 .f32) (g : Vec Ideal S1x2048 .f32) (w : Vec Ideal S2048x2048 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero Shared.hz2, View.readCov_unit_zero (S := S1024x2048) _ Shared.hz2]
  simp only [View.readAt_eq_ld, h2.read_unread, h3.read_unread, h4.read_unread, View.ld_unit_zero (S := S1024x2048) Shared.hz2, View.ld_unit_zero (S := S1x2048) Shared.hz2,
    View.ld_unit_zero (S := S2048x2048) Shared.hz2]

/-- The result's block after a point that finds the normalised rows `a` in scratch. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x2048 .bf16) (h4 : a4.IsWhole)
    (a5 : Memref sig .tc .vmem S1024x2048 .bf16) (h5 : a5.IsWhole) (a6 : Memref sig .tc .vmem S1024x2048 .bf16) (h6 : a6.IsWhole)
    (hc : ¬cond0_0 i) (x : Vec Ideal S1024x2048 .f32) (g : Vec Ideal S1x2048 .f32) (w : Vec Ideal S2048x2048 .bf16) (a : Vec Ideal S1024x2048 .bf16) :
    out0_B_3 c i a2 h2 a3 h3 a4 h4 a5 h5 a6 h6 hc x g w a = k0_pay2 a w := by
  unfold out0_B_3
  rw [View.read_writes_eq_canon _ _ _ (cover0_B_3 c i a2 h2 a3 h3 a4 h4 a5 h5 a6 h6 hc x g w a)]
  unfold kernelRun0_B
  dsimp only
  sl_unfold_words
  rw [View.canon_unit_zero Shared.hz2]
  simp only [View.readAt_eq_ld, h4.read_unread, h6.read_unread, View.ld_unit_zero (S := S1024x2048) Shared.hz2,
    View.ld_unit_zero (S := S2048x2048) Shared.hz2]

/-- A point that does not normalise leaves the scratch as it found it. -/
theorem scratch_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x2048 .bf16) (h4 : a4.IsWhole)
    (a5 : Memref sig .tc .vmem S1024x2048 .bf16) (h5 : a5.IsWhole) (a6 : Memref sig .tc .vmem S1024x2048 .bf16) (h6 : a6.IsWhole)
    (hc : ¬cond0_0 i) (x : Vec Ideal S1024x2048 .f32) (g : Vec Ideal S1x2048 .f32) (w : Vec Ideal S2048x2048 .bf16) (a : Vec Ideal S1024x2048 .bf16) :
    sout0_B_0 c i a2 h2 a3 h3 a4 h4 a5 h5 a6 h6 hc x g w a = a := by
  unfold sout0_B_0
  rfl

/-- What point `t` reads and writes: row block `t / 4`, column block `t % 4`. -/
theorem idx_facts : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4 :=
  (by decide +kernel : ∀ t : Fin grid0.N, _)

/-- The rows that point `t` stages. -/
theorem rows_apply (c : Dev nD) (t : Fin cfg0.N) (r : Fin 1024) (k : Fin 2048) (h : t.val / 4 * 1024 + r.val < 16384) :
    (iblk m c 0 t : Vec Ideal S1024x2048 .f32) (ix2 r k) = (m ((c : Thread nD τ).loc main_arg0) : Vec Ideal S16384x2048 .f32) (ix2 ⟨t.val / 4 * 1024 + r.val, h⟩ k) := by
  obtain ⟨e0, e1, -⟩ := idx_facts t
  show V m c main_arg0 _ = _
  rw [V_main_arg0]
  congr 1
  funext a
  apply Fin.ext
  match a with
  | ⟨0, _⟩ => show win0_0.index t 0 * 1024 + 1 * r.val = t.val / 4 * 1024 + r.val; rw [e0]; omega
  | ⟨1, _⟩ => show win0_0.index t 1 * 2048 + 1 * k.val = k.val; rw [e1]; omega

/-- A vector read as a row. -/
theorem row_apply (g : Vec Ideal S2048 .f32) (k : Fin 2048) : (shapeCast S1x2048 g shapeCasts_S2048_S1x2048 : Vec Ideal S1x2048 .f32) (ix2 0 k) = g (ix1 k) := by
  pointwise

/-- The gains, as every point stages them: the argument as a row. -/
theorem gains_apply (c : Dev nD) (t : Fin cfg0.N) (k : Fin 2048) :
    (iblk m c 1 t : Vec Ideal S1x2048 .f32) (ix2 0 k) = (m ((c : Thread nD τ).loc main_arg1) : Vec Ideal S2048 .f32) (ix1 k) := by
  obtain ⟨-, -, e2, e3, -⟩ := idx_facts t
  have hV : V m c main_v0 = (shapeCast S1x2048 (m ((c : Thread nD τ).loc main_arg1)) shapeCasts_S2048_S1x2048 : Vec Ideal S1x2048 .f32) := by
    show StableHlo.after hostOps0 (fun b => m (c, b)) main_v0 = _
    after_results
    rfl
  show V m c main_v0 _ = _
  rw [hV]
  have e : (((cfg0.win 1).blk t).view.emb (ix2 0 k) : S1x2048.Idx) = ix2 0 k := by
    funext a
    apply Fin.ext
    match a with
    | ⟨0, _⟩ => show win0_1.index t 0 * 1 + 1 * 0 = 0; rw [e2]
    | ⟨1, _⟩ => show win0_1.index t 1 * 2048 + 1 * k.val = k.val; rw [e3]; omega
  exact (congrArg _ e).trans (row_apply _ k)

/-- The columns of the weights that point `t` stages. -/
theorem cols_apply (c : Dev nD) (t : Fin cfg0.N) (k : Fin 2048) (q : Fin 2048) (h : t.val % 4 * 2048 + q.val < 8192) :
    (iblk m c 2 t : Vec Ideal S2048x2048 .bf16) (ix2 k q) = (m ((c : Thread nD τ).loc main_arg2) : Vec Ideal S2048x8192 .bf16) (ix2 k ⟨t.val % 4 * 2048 + q.val, h⟩) := by
  obtain ⟨-, -, -, -, e4, e5⟩ := idx_facts t
  show V m c main_arg2 _ = _
  rw [V_main_arg2]
  congr 1
  funext a
  apply Fin.ext
  match a with
  | ⟨0, _⟩ => show win0_2.index t 0 * 2048 + 1 * k.val = k.val; rw [e4]; omega
  | ⟨1, _⟩ => show win0_2.index t 1 * 2048 + 1 * q.val = t.val % 4 * 2048 + q.val; rw [e5]; omega

/-- The normalised row block, at an index. -/
theorem pay1_apply (x : Vec Ideal S1024x2048 .f32) (g : Vec Ideal S1x2048 .f32) (r : Fin 1024) (k : Fin 2048) :
    k0_pay1 x g (ix2 r k) = Shared.norm (fun l => x (ix2 r l)) (fun l => g (ix2 0 l)) k := by
  unfold Shared.norm
  pointwise [k0_pay1]

/-- The square of the positive part of the product, at an index. -/
theorem pay2_apply (a : Vec Ideal S1024x2048 .bf16) (w : Vec Ideal S2048x2048 .bf16) (r : Fin 1024) (q : Fin 2048) :
    k0_pay2 a w (ix2 r q) = max (∑ k : Fin 2048, a (ix2 r k) * w (ix2 k q) : EReal) 0 * max (∑ k : Fin 2048, a (ix2 r k) * w (ix2 k q) : EReal) 0 := by
  pointwise [k0_pay2]

/-- What a point that normalises leaves: the block of the result, and the normalised rows in scratch. -/
theorem step_A (c : Dev nD) (t : Fin cfg0.N) (h0 : t.val % 4 = 0) :
    outsAt0 m c t.val t.isLt = (k0_pay2 (k0_pay1 (iblk m c 0 t) (iblk m c 1 t)) (iblk m c 2 t), k0_pay1 (iblk m c 0 t) (iblk m c 1 t)) := by
  rw [outsAt0_A m c t h0, out_A, scratch_A]

/-- What any other point leaves: the block of the result over the rows found in scratch, which stay. -/
theorem step_B (c : Dev nD) (n : ℕ) (h : n + 1 < cfg0.N) (h0 : ¬(n + 1) % 4 = 0) :
    outsAt0 m c (n + 1) h = (k0_pay2 (outsAt0 m c n (Nat.lt_of_succ_lt h)).2 (iblk m c 2 ⟨n + 1, h⟩), (outsAt0 m c n (Nat.lt_of_succ_lt h)).2) := by
  have e := outsAt0_B m c ⟨n + 1, h⟩ h0
  rw [out_B, scratch_B] at e
  exact e

/-- After point `n` the result's buffer and the scratch hold what point `n` would have made of its own row block: the
    points of one row block follow each other, and the first of them normalises. -/
theorem outs_eq (c : Dev nD) : ∀ (n : ℕ) (h : n < cfg0.N),
    outsAt0 m c n h = (k0_pay2 (k0_pay1 (iblk m c 0 ⟨n, h⟩) (iblk m c 1 ⟨n, h⟩)) (iblk m c 2 ⟨n, h⟩), k0_pay1 (iblk m c 0 ⟨n, h⟩) (iblk m c 1 ⟨n, h⟩))
  | 0, h => step_A m c ⟨0, h⟩ rfl
  | n + 1, h => by
    by_cases h0 : (n + 1) % 4 = 0
    · exact step_A m c ⟨n + 1, h⟩ h0
    · have hN : cfg0.N = 64 := N_0
      have e : k0_pay1 (iblk m c 0 ⟨n, Nat.lt_of_succ_lt h⟩) (iblk m c 1 ⟨n, Nat.lt_of_succ_lt h⟩) = k0_pay1 (iblk m c 0 ⟨n + 1, h⟩) (iblk m c 1 ⟨n + 1, h⟩) := by
        funext j
        idx_vars j
        have hj := j0.isLt
        rw [pay1_apply, pay1_apply]
        simp only [rows_apply m c ⟨n, _⟩ j0 _ (by dsimp only; omega), rows_apply m c ⟨n + 1, _⟩ j0 _ (by dsimp only; omega), gains_apply,
          show n / 4 = (n + 1) / 4 by omega]
      rw [step_B m c n h h0, outs_eq c n, ← e]

/-- The result, at row `r` and column `q`. -/
def upAt (x : Vec Ideal S16384x2048 .f32) (g : Vec Ideal S2048 .f32) (w : Vec Ideal S2048x8192 .bf16) (r : Fin 16384) (q : Fin 8192) : EReal :=
  max (∑ k : Fin 2048, Shared.norm (fun l => x (ix2 r l)) (fun l => g (ix1 l)) k * w (ix2 k q) : EReal) 0
    * max (∑ k : Fin 2048, Shared.norm (fun l => x (ix2 r l)) (fun l => g (ix1 l)) k * w (ix2 k q) : EReal) 0

/-- The block that a point leaves in the result's buffer, at an index. -/
theorem out_eq (c : Dev nD) (t : Fin cfg0.N) (r : Fin 1024) (q : Fin 2048) (h : t.val / 4 * 1024 + r.val < 16384) (h' : t.val % 4 * 2048 + q.val < 8192) :
    (outsAt0 m c t.val t.isLt).1 (ix2 r q) = upAt (m ((c : Thread nD τ).loc main_arg0)) (m ((c : Thread nD τ).loc main_arg1)) (m ((c : Thread nD τ).loc main_arg2))
      ⟨t.val / 4 * 1024 + r.val, h⟩ ⟨t.val % 4 * 2048 + q.val, h'⟩ := by
  rw [outs_eq]
  show k0_pay2 _ _ _ = _
  rw [pay2_apply]
  unfold upAt
  simp only [pay1_apply, rows_apply m c t r _ h, gains_apply, cols_apply m c t _ q h']

/-- The result array, index by index. -/
theorem G_apply (c : Dev nD) (r : Fin 16384) (q : Fin 8192) :
    (G3 m c : Vec Ideal S16384x8192 .bf16) (ix2 r q) = upAt (m ((c : Thread nD τ).loc main_arg0)) (m ((c : Thread nD τ).loc main_arg1)) (m ((c : Thread nD τ).loc main_arg2)) r q := by
  have hN : cfg0.N = 64 := N_0
  have hr := r.isLt
  have hq := q.isLt
  have hp : pt3Of (ix2 r q) = 4 * (r.val / 1024) + q.val / 2048 := by
    show 4 * (r.val / 1024 - 0) + 1 * (q.val / 2048 - 0) = _
    omega
  have hlt : pt3Of (ix2 r q) < cfg0.N := by rw [hp]; omega
  unfold G3
  rw [dif_pos hlt, ← outsAt0_sweep m c _ hlt]
  have hl : loc3Of (ix2 r q) = ix2 (⟨r.val % 1024, Nat.mod_lt _ (by decide)⟩ : Fin 1024) (⟨q.val % 2048, Nat.mod_lt _ (by decide)⟩ : Fin 2048) := by
    funext a; match a with | ⟨0, _⟩ => rfl | ⟨1, _⟩ => rfl
  rw [hl]
  refine (out_eq m c ⟨_, hlt⟩ _ _ (by dsimp only; omega) (by dsimp only; omega)).trans ?_
  congr 1
  · apply Fin.ext; dsimp only; omega
  · apply Fin.ext; dsimp only; omega

end Cert.KernelUpIdeal.Value

namespace Cert.Proof

/-- The reference runs, and leaves its arguments and every counter as they were. -/
theorem quiescent_ReferenceUpIdeal : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

/-- The kernel and its reference end with the same array. -/
theorem algebraic_KernelUpIdeal_ReferenceUpIdeal : Cert.algebraic_KernelUpIdeal_ReferenceUpIdeal := by
  intro m ρ m' ρ' _ hagree
  refine ⟨_, Cert.KernelUpIdeal.Value.run (F := Ideal) m ρ, ?_⟩
  refine (θ_run Cert.ReferenceUpIdeal.defs _ _).mono (fun _ h c => ⟨?_, (h c).2⟩) (Cert.ReferenceUpIdeal.Value.run (F := Ideal) m' ρ')
  rw [(h c).1, (hagree c).1, (hagree c).2.1, (hagree c).2.2]
  funext i
  idx_vars i
  refine Eq.trans ?_ (Cert.KernelUpIdeal.Value.G_apply m c i0 i1).symm
  unfold Cert.KernelUpIdeal.Value.upAt Shared.norm
  pointwise

end Cert.Proof

end
-- ==== Proof.Gate.lean ====
/-
  The gates' projection: `logistic (a · wᵀ)`, computed block by block on a 16 by 2 grid, is the reference's whole product
  followed by the sigmoid.
-/
module

public import proofs.«01_k».proof.Defs
public import proofs.«01_k».proof.Proof.Gen.KernelGateIdeal.Value
public import proofs.«01_k».proof.Proof.Gen.ReferenceGateIdeal.Run
public import proofs.«01_k».proof.Proof.Common

@[expose] public section

noncomputable section

open Idealize.ShloMosaic Idealize.ShloMosaic.TcCoe Idealize.SL.Sem Cert
open Idealize.ShloMosaic.Pipeline (Dat)

namespace Cert.KernelGateIdeal.Value

open Cert.KernelGateIdeal Cert.KernelGateIdeal.Gen

/-- The gate at row `r`, column `q`. -/
def gateAt (a : Vec Ideal S16384x2048 .bf16) (w : Vec Ideal S4096x2048 .bf16) (r : Fin 16384) (q : Fin 4096) : EReal :=
  FloatOps.logistic (F := Ideal) (φ := .f32) (∑ k : Fin 2048, a (ix2 r k) * w (ix2 q k) : EReal)

/-- What a point stores, at an index of the block: the gate of the block's row and column. -/
theorem out_apply (x : Vec Ideal S1024x2048 .bf16) (y : Vec Ideal S2048x2048 .bf16) (j : S1024x2048.Idx) :
    out0_2 x y j = FloatOps.logistic (F := Ideal) (φ := .f32) (∑ k : Fin 2048, x (ix2 (j 0) k) * y (ix2 (j 1) k) : EReal) := by
  unfold out0_2
  idx_vars j
  rw [View.canon_unit_zero Shared.hz2]
  simp only [View.ld_unit_zero (S := S1024x2048) Shared.hz2, View.ld_unit_zero (S := S2048x2048) Shared.hz2]
  pointwise [k0_pay1]

variable (m : (ℓ : Loc nD τ sig) → Buf (Elt Ideal) ℓ)

/-- Which blocks point `t` reads and writes: row block `t / 2`, column block `t % 2`. -/
theorem idx_facts : ∀ t : Fin cfg0.N, win0_2.index t (0 : Fin 2) = t.val / 2 ∧ win0_2.index t (1 : Fin 2) = t.val % 2
    ∧ win0_0.index t (0 : Fin 2) = t.val / 2 ∧ win0_0.index t (1 : Fin 2) = 0
    ∧ win0_1.index t (0 : Fin 2) = t.val % 2 ∧ win0_1.index t (1 : Fin 2) = 0 :=
  (by decide +kernel : ∀ t : Fin grid0.N, _)

/-- The array of gates. -/
def G (c : Dev nD) : Buf (Elt Ideal) ((c : Thread nD τ).loc main_v0) := fun i : S16384x4096.Idx =>
  gateAt (m ((c : Thread nD τ).loc main_arg0)) (m ((c : Thread nD τ).loc main_arg1)) (i 0) (i 1)

/-- What point `t` writes back is its block of the array of gates. -/
theorem flushed_eq (c : Dev nD) (t : Fin cfg0.N) :
    (dats m 0 c).flushed 2 t = ((cfg0.win 2).blk t).view.read (Elt Ideal) (G m c) := by
  rw [flushed2]
  obtain ⟨e0, e1, e2, e3, e4, e5⟩ := idx_facts t
  funext y
  show out0_2 (iblk m c 0 t) (iblk m c 1 t) ((cfg0.win 2).xinj (grid0.coords t) y) = G m c (((cfg0.win 2).blk t).view.emb y)
  refine (out_apply _ _ _).trans ?_
  unfold G gateAt
  congr 1
  refine Finset.sum_congr rfl fun k _ => ?_
  congr 1
  · show V m c main_arg0 _ = m (c.tc.loc main_arg0) _
    unfold V
    congr 1
    funext a
    apply Fin.ext
    match a with
    | ⟨0, _⟩ => show win0_0.index t 0 * 1024 + 1 * (y 0).val = win0_2.index t 0 * 1024 + 1 * (y 0).val; rw [e0, e2]
    | ⟨1, _⟩ => show win0_0.index t 1 * 2048 + 1 * k.val = k.val; rw [e3]; omega
  · show V m c main_arg1 _ = m (c.tc.loc main_arg1) _
    unfold V
    congr 1
    funext a
    apply Fin.ext
    match a with
    | ⟨0, _⟩ => show win0_1.index t 0 * 2048 + 1 * (y 1).val = win0_2.index t 1 * 2048 + 1 * (y 1).val; rw [e1, e4]
    | ⟨1, _⟩ => show win0_1.index t 1 * 2048 + 1 * k.val = k.val; rw [e5]; omega

/-- Every index of the result lies in some point's block. -/
theorem covered (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hN : cfg0.N = 32 := N_0
  obtain ⟨t, ht⟩ : ∃ t : Fin cfg0.N, t.val = 2 * ((i 0).val / 1024) + (i 1).val / 2048 := ⟨⟨_, by omega⟩, rfl⟩
  obtain ⟨e0, e1, -⟩ := idx_facts t
  refine ⟨t, flush0_2 _, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 2048 ≤ (i 1).val ∧ (i 1).val < win0_2.index t 1 * 2048 + 2048; rw [e1]; omega

/-- The result array after the run is the array of gates. -/
theorem final (c : Dev nD) : (dats m 0 c).arrAt 2 cfg0.N = G m c :=
  (dats m 0 c).arrAt_eq_of_cover 2 _ (fun t _ => flushed_eq m c t) covered

end Cert.KernelGateIdeal.Value

namespace Cert.ReferenceGateIdeal.Value
open Cert.ReferenceGateIdeal Cert.ReferenceGateIdeal.Gen Idealize.ShloMosaic.StableHlo

/-- The reference's term, at an index. -/
theorem ref_apply (a : FVec Ideal S16384x2048 .bf16) (w : FVec Ideal S4096x2048 .bf16) (i : S16384x4096.Idx) :
   (truncf (F := Ideal) .bf16 (Host.divf (broadcastInDim S16384x4096 ![] bcast_S_S16384x4096 (constant S_ .f32 0x3F800000#32)) (addf (broadcastInDim S16384x4096 ![] bcast_S_S16384x4096 (constant S_ .f32 0x3F800000#32)) (Host.exp (Host.negf (Host.dotGeneral dot_S16384x2048_S2048x4096_S16384x4096_1_0_0_1_n_n none (extf .f32 a bitsLt_bf16_f32) (extf .f32 (transpose S2048x4096 [1, 0] w transposes_S4096x2048_S2048x4096_1_0) bitsLt_bf16_f32)))))) bitsLt_bf16_f32 : FVec Ideal S16384x4096 .bf16) i
   = Cert.KernelGateIdeal.Value.gateAt a w (i 0) (i 1) := by
  unfold Cert.KernelGateIdeal.Value.gateAt
  idx_vars i
  pointwise
  rfl
end Cert.ReferenceGateIdeal.Value

namespace Cert.Proof

/-- The reference of the gates runs, and leaves its arguments and every counter as they were. -/
theorem quiescent_ReferenceGateIdeal : Cert.quiescent_ReferenceGateIdeal := fun m ρ _ =>
  (θ_run Cert.ReferenceGateIdeal.defs _ _).mono (fun r h => ⟨fun c => (h c).2, sem_eq_zero_of_no_sems (by decide) r.2⟩)
    (Cert.ReferenceGateIdeal.Value.run (F := Ideal) m ρ)

/-- The gates' kernel and its reference end with the same array. -/
theorem algebraic_KernelGateIdeal_ReferenceGateIdeal : Cert.algebraic_KernelGateIdeal_ReferenceGateIdeal := by
  intro m ρ m' ρ' _ hagree
  refine ⟨fun c => Cert.KernelGateIdeal.Value.G m c, ?_, ?_⟩
  · exact (θ_run Cert.KernelGateIdeal.defs _ _).mono
      (fun _ h c => ⟨(h c).1.trans (Cert.KernelGateIdeal.Value.final m c), (h c).2⟩)
      (Cert.KernelGateIdeal.Value.run_blocks (F := Ideal) m ρ)
  · refine (θ_run Cert.ReferenceGateIdeal.defs _ _).mono (fun _ h c => ⟨?_, (h c).2⟩)
      (Cert.ReferenceGateIdeal.Value.run (F := Ideal) m' ρ')
    rw [(h c).1, (hagree c).1, (hagree c).2]
    exact funext fun i => Cert.ReferenceGateIdeal.Value.ref_apply _ _ i

end Cert.Proof

end
-- ==== Proof.Merge.lean ====
/-
  The gated sum of the two mixers' projections: a block of 1024 rows and 1024 columns per point, each the sum of two
  products weighted by its gates; the block of the gates for the second mixer lies 2048 columns further on.
-/
module

public import proofs.«01_k».proof.Defs
public import proofs.«01_k».proof.Proof.Gen.KernelMergeIdeal.Value
public import proofs.«01_k».proof.Proof.Gen.ReferenceMergeIdeal.Run
public import proofs.«01_k».proof.Proof.Common

@[expose] public section

noncomputable section

open Idealize.ShloMosaic Idealize.ShloMosaic.TcCoe Idealize.SL.Sem Cert
open Idealize.ShloMosaic.Pipeline (Dat)

namespace Cert.KernelMergeIdeal.Value

open Cert.KernelMergeIdeal Cert.KernelMergeIdeal.Gen

variable (m : (ℓ : Loc nD τ sig) → Buf (Elt Ideal) ℓ) (ρ : Dev nD → PrngReg)

/-- What a point stores, at an index of the block. -/
theorem out_apply (x0 : Vec Ideal S1024x1024 .bf16) (x1 : Vec Ideal S1024x1024 .bf16) (x2 : Vec Ideal S1024x1024 .bf16) (x3 : Vec Ideal S1024x1024 .bf16)
    (x4 : Vec Ideal S1024x1024 .bf16) (x5 : Vec Ideal S1024x1024 .bf16) (r q : Fin 1024) :
    out0_6 x0 x1 x2 x3 x4 x5 (ix2 r q) = (x4 (ix2 r q) * (∑ k : Fin 1024, x0 (ix2 r k) * x2 (ix2 k q)) + x5 (ix2 r q) * (∑ k : Fin 1024, x1 (ix2 r k) * x3 (ix2 k q)) : EReal) := by
  unfold out0_6
  rw [View.canon_unit_zero Shared.hz2]
  simp only [View.ld_unit_zero (S := S1024x1024) Shared.hz2]
  pointwise [k0_pay1]

/-- Which blocks point `t` reads and writes: row block `t / 2`, column block `t % 2`. -/
theorem idx_facts : ∀ t : Fin cfg0.N, win0_6.index t (0 : Fin 2) = t.val / 2 ∧ win0_6.index t (1 : Fin 2) = t.val % 2
    ∧ win0_0.index t (0 : Fin 2) = t.val / 2 ∧ win0_0.index t (1 : Fin 2) = 0
    ∧ win0_1.index t (0 : Fin 2) = t.val / 2 ∧ win0_1.index t (1 : Fin 2) = 0
    ∧ win0_2.index t (0 : Fin 2) = 0 ∧ win0_2.index t (1 : Fin 2) = t.val % 2
    ∧ win0_3.index t (0 : Fin 2) = 0 ∧ win0_3.index t (1 : Fin 2) = t.val % 2
    ∧ win0_4.index t (0 : Fin 2) = t.val / 2 ∧ win0_4.index t (1 : Fin 2) = t.val % 2
    ∧ win0_5.index t (0 : Fin 2) = t.val / 2 ∧ win0_5.index t (1 : Fin 2) = t.val % 2 + 2 :=
  (by decide +kernel : ∀ t : Fin grid0.N, _)

/-- The result, at row `r` and column `q`. -/
def mergeAt (a f : Vec Ideal S16384x1024 .bf16) (u v : Vec Ideal S1024x2048 .bf16) (g : Vec Ideal S16384x4096 .bf16) (r : Fin 16384) (q : Fin 2048) : EReal :=
  g (ix2 r ⟨q.val, by omega⟩) * (∑ k : Fin 1024, a (ix2 r k) * u (ix2 k q)) + g (ix2 r ⟨2048 + q.val, by omega⟩) * (∑ k : Fin 1024, f (ix2 r k) * v (ix2 k q))

/-- The result array. -/
def G (c : Dev nD) : Buf (Elt Ideal) ((c : Thread nD τ).loc main_v0) := fun i : S16384x2048.Idx =>
  mergeAt (m ((c : Thread nD τ).loc main_arg0)) (m ((c : Thread nD τ).loc main_arg1)) (m ((c : Thread nD τ).loc main_arg2)) (m ((c : Thread nD τ).loc main_arg3))
    (m ((c : Thread nD τ).loc main_arg4)) (i 0) (i 1)

set_option maxHeartbeats 1000000 in
/-- What point `t` writes back is its block of the result array. -/
theorem flushed_eq (c : Dev nD) (t : Fin cfg0.N) :
    (dats m 0 c).flushed 6 t = ((cfg0.win 6).blk t).view.read (Elt Ideal) (G m c) := by
  rw [flushed6]
  obtain ⟨e0, e1, a0, a1, f0, f1, u0, u1, v0, v1, g0, g1, k0, k1⟩ := idx_facts t
  funext y
  have hx : (cfg0.win 6).xinj (grid0.coords t) y = ix2 (y 0) (y 1) := by
    funext a; match a with | ⟨0, _⟩ => rfl | ⟨1, _⟩ => rfl
  show out0_6 (iblk m c 0 t) (iblk m c 1 t) (iblk m c 2 t) (iblk m c 3 t) (iblk m c 4 t) (iblk m c 5 t) ((cfg0.win 6).xinj (grid0.coords t) y) = G m c (((cfg0.win 6).blk t).view.emb y)
  rw [hx]
  refine (out_apply _ _ _ _ _ _ _ _).trans ?_
  have h0 : ((((cfg0.win 6).blk t).view.emb y : S16384x2048.Idx) 0).val = t.val / 2 * 1024 + (y 0).val := by
    show win0_6.index t 0 * 1024 + 1 * (y 0).val = _; rw [e0]; omega
  have h1 : ((((cfg0.win 6).blk t).view.emb y : S16384x2048.Idx) 1).val = t.val % 2 * 1024 + (y 1).val := by
    show win0_6.index t 1 * 1024 + 1 * (y 1).val = _; rw [e1]; omega
  unfold G mergeAt
  congr 1
  · congr 1
    · show V m c main_arg4 _ = m (c.tc.loc main_arg4) _
      rw [V_main_arg4]
      congr 1
      funext a
      apply Fin.ext
      match a with
      | ⟨0, _⟩ => refine Eq.trans ?_ h0.symm; show win0_4.index t 0 * 1024 + 1 * (y 0).val = _; rw [g0]; omega
      | ⟨1, _⟩ => refine Eq.trans ?_ h1.symm; show win0_4.index t 1 * 1024 + 1 * (y 1).val = _; rw [g1]; omega
    · refine Finset.sum_congr rfl fun k _ => ?_
      congr 1
      · show V m c main_arg0 _ = m (c.tc.loc main_arg0) _
        rw [V_main_arg0]
        congr 1
        funext a
        apply Fin.ext
        match a with
        | ⟨0, _⟩ => refine Eq.trans ?_ h0.symm; show win0_0.index t 0 * 1024 + 1 * (y 0).val = _; rw [a0]; omega
        | ⟨1, _⟩ => show win0_0.index t 1 * 1024 + 1 * k.val = k.val; rw [a1]; omega
      · show V m c main_arg2 _ = m (c.tc.loc main_arg2) _
        rw [V_main_arg2]
        congr 1
        funext a
        apply Fin.ext
        match a with
        | ⟨0, _⟩ => show win0_2.index t 0 * 1024 + 1 * k.val = k.val; rw [u0]; omega
        | ⟨1, _⟩ => refine Eq.trans ?_ h1.symm; show win0_2.index t 1 * 1024 + 1 * (y 1).val = _; rw [u1]; omega
  · congr 1
    · show V m c main_arg4 _ = m (c.tc.loc main_arg4) _
      rw [V_main_arg4]
      congr 1
      funext a
      apply Fin.ext
      match a with
      | ⟨0, _⟩ => refine Eq.trans ?_ h0.symm; show win0_5.index t 0 * 1024 + 1 * (y 0).val = _; rw [k0]; omega
      | ⟨1, _⟩ => refine Eq.trans ?_ (congrArg (2048 + ·) h1.symm); show win0_5.index t 1 * 1024 + 1 * (y 1).val = _; rw [k1]; omega
    · refine Finset.sum_congr rfl fun k _ => ?_
      congr 1
      · show V m c main_arg1 _ = m (c.tc.loc main_arg1) _
        rw [V_main_arg1]
        congr 1
        funext a
        apply Fin.ext
        match a with
        | ⟨0, _⟩ => refine Eq.trans ?_ h0.symm; show win0_1.index t 0 * 1024 + 1 * (y 0).val = _; rw [f0]; omega
        | ⟨1, _⟩ => show win0_1.index t 1 * 1024 + 1 * k.val = k.val; rw [f1]; omega
      · show V m c main_arg3 _ = m (c.tc.loc main_arg3) _
        rw [V_main_arg3]
        congr 1
        funext a
        apply Fin.ext
        match a with
        | ⟨0, _⟩ => show win0_3.index t 0 * 1024 + 1 * k.val = k.val; rw [v0]; omega
        | ⟨1, _⟩ => refine Eq.trans ?_ h1.symm; show win0_3.index t 1 * 1024 + 1 * (y 1).val = _; rw [v1]; omega

/-- Every index of the result lies in some point's block. -/
theorem covered (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 32 := N_0
  obtain ⟨t, ht⟩ : ∃ t : Fin cfg0.N, t.val = 2 * ((i 0).val / 1024) + (i 1).val / 1024 := ⟨⟨_, by omega⟩, rfl⟩
  obtain ⟨e0, e1, -⟩ := idx_facts t
  refine ⟨t, flush0_6 _, ?_⟩
  show i ∈ ((View.whole main_v0).slice (win0_6.rect t)).set
  rw [View.set_slice_whole, Rect.mem_set_unit]
  intro a
  match a with
  | ⟨0, _⟩ => show win0_6.index t 0 * 1024 ≤ (i 0).val ∧ (i 0).val < win0_6.index t 0 * 1024 + 1024; rw [e0]; omega
  | ⟨1, _⟩ => show win0_6.index t 1 * 1024 ≤ (i 1).val ∧ (i 1).val < win0_6.index t 1 * 1024 + 1024; rw [e1]; omega

/-- The array after the run is the result array. -/
theorem final (c : Dev nD) : (dats m 0 c).arrAt 6 cfg0.N = G m c :=
  (dats m 0 c).arrAt_eq_of_cover 6 _ (fun t _ => flushed_eq m c t) covered

end Cert.KernelMergeIdeal.Value

namespace Cert.Proof

/-- The reference runs, and leaves its arguments and every counter as they were. -/
theorem quiescent_ReferenceMergeIdeal : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

/-- The kernel and its reference end with the same array. -/
theorem algebraic_KernelMergeIdeal_ReferenceMergeIdeal : Cert.algebraic_KernelMergeIdeal_ReferenceMergeIdeal := by
  intro m ρ m' ρ' _ hagree
  refine ⟨fun c => Cert.KernelMergeIdeal.Value.G m c, ?_, ?_⟩
  · exact (θ_run Cert.KernelMergeIdeal.defs _ _).mono
      (fun _ h c => ⟨(h c).1.trans (Cert.KernelMergeIdeal.Value.final m c), (h c).2⟩)
      (Cert.KernelMergeIdeal.Value.run_blocks (F := Ideal) m ρ)
  · refine (θ_run Cert.ReferenceMergeIdeal.defs _ _).mono (fun _ h c => ⟨?_, (h c).2⟩) (Cert.ReferenceMergeIdeal.Value.run (F := Ideal) m' ρ')
    rw [(h c).1, (hagree c).1, (hagree c).2.1, (hagree c).2.2.1, (hagree c).2.2.2.1, (hagree c).2.2.2.2]
    funext i
    idx_vars i
    unfold Cert.KernelMergeIdeal.Value.G Cert.KernelMergeIdeal.Value.mergeAt
    pointwise

end Cert.Proof

end
-- ==== Proof.Mix.lean ====
/-
  The output projection of the mixers, added to the stream: two blocks of 1024 of the 2048 inner positions, the sum kept
  in the result's block between them. Sums over extended reals may be regrouped, so every row is the reference's.
-/
module

public import proofs.«01_k».proof.Defs
public import proofs.«01_k».proof.Proof.Gen.KernelMixIdeal.Value
public import proofs.«01_k».proof.Proof.Gen.ReferenceMixIdeal.Run
public import proofs.«01_k».proof.Proof.Common

@[expose] public section

noncomputable section

open Idealize.ShloMosaic Idealize.ShloMosaic.TcCoe Idealize.SL.Sem Cert
open Idealize.ShloMosaic.Pipeline (Dat)

namespace Cert.KernelMixIdeal.Value

open Cert.KernelMixIdeal Cert.KernelMixIdeal.Gen

variable (m : (ℓ : Loc nD τ sig) → Buf (Elt Ideal) ℓ) (ρ : Dev nD → PrngReg)

/-- What point `t` reads and writes: row block `t / 2`, part `t % 2` of the inner positions. -/
theorem idx_facts : ∀ t : Fin cfg0.N, win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = t.val / 2 ∧ win0_2.index t (1 : Fin 2) = 0 :=
  (by decide +kernel : ∀ t : Fin grid0.N, _)

/-- The rows and inner positions that point `t` stages. -/
theorem rows_apply (c : Dev nD) (t : Fin cfg0.N) (r : Fin 1024) (k : Fin 1024) (h : t.val / 2 * 1024 + r.val < 16384) (h' : t.val % 2 * 1024 + k.val < 2048) :
    (iblk m c 0 t : Vec Ideal S1024x1024 .bf16) (ix2 r k) = (m ((c : Thread nD τ).loc main_arg0) : Vec Ideal S16384x2048 .bf16) (ix2 ⟨t.val / 2 * 1024 + r.val, h⟩ ⟨t.val % 2 * 1024 + k.val, h'⟩) := by
  obtain ⟨e0, e1, -⟩ := idx_facts t
  show V m c main_arg0 _ = _
  rw [V_main_arg0]
  congr 1
  funext a
  apply Fin.ext
  match a with
  | ⟨0, _⟩ => show win0_0.index t 0 * 1024 + 1 * r.val = t.val / 2 * 1024 + r.val; rw [e0]; omega
  | ⟨1, _⟩ => show win0_0.index t 1 * 1024 + 1 * k.val = t.val % 2 * 1024 + k.val; rw [e1]; omega

/-- The rows of the weights that point `t` stages. -/
theorem weights_apply (c : Dev nD) (t : Fin cfg0.N) (k : Fin 1024) (q : Fin 2048) (h : t.val % 2 * 1024 + k.val < 2048) :
    (iblk m c 1 t : Vec Ideal S1024x2048 .bf16) (ix2 k q) = (m ((c : Thread nD τ).loc main_arg1) : Vec Ideal S2048x2048 .bf16) (ix2 ⟨t.val % 2 * 1024 + k.val, h⟩ q) := by
  obtain ⟨-, -, e2, e3, -⟩ := idx_facts t
  show V m c main_arg1 _ = _
  rw [V_main_arg1]
  congr 1
  funext a
  apply Fin.ext
  match a with
  | ⟨0, _⟩ => show win0_1.index t 0 * 1024 + 1 * k.val = t.val % 2 * 1024 + k.val; rw [e2]; omega
  | ⟨1, _⟩ => show win0_1.index t 1 * 2048 + 1 * q.val = q.val; rw [e3]; omega

/-- The rows of the stream that point `t` stages. -/
theorem stream_apply (c : Dev nD) (t : Fin cfg0.N) (r : Fin 1024) (q : Fin 2048) (h : t.val / 2 * 1024 + r.val < 16384) :
    (iblk m c 2 t : Vec Ideal S1024x2048 .f32) (ix2 r q) = (m ((c : Thread nD τ).loc main_arg2) : Vec Ideal S16384x2048 .f32) (ix2 ⟨t.val / 2 * 1024 + r.val, h⟩ q) := by
  obtain ⟨-, -, -, -, e4, e5⟩ := idx_facts t
  show V m c main_arg2 _ = _
  rw [V_main_arg2]
  congr 1
  funext a
  apply Fin.ext
  match a with
  | ⟨0, _⟩ => show win0_2.index t 0 * 1024 + 1 * r.val = t.val / 2 * 1024 + r.val; rw [e4]; omega
  | ⟨1, _⟩ => show win0_2.index t 1 * 2048 + 1 * q.val = q.val; rw [e5]; omega

/-- One part of the projection added, at an index. -/
theorem pay1_apply (o : Vec Ideal S1024x2048 .f32) (x : Vec Ideal S1024x1024 .bf16) (w : Vec Ideal S1024x2048 .bf16) (r : Fin 1024) (q : Fin 2048) :
    k0_pay1 o x w (ix2 r q) = o (ix2 r q) + (∑ k : Fin 1024, x (ix2 r k) * w (ix2 k q) : EReal) := by
  pointwise [k0_pay1]

/-- The stream plus the first `n` terms of the projection, at row `r` and column `q`. -/
def partAt (u : Vec Ideal S16384x2048 .bf16) (w : Vec Ideal S2048x2048 .bf16) (h : Vec Ideal S16384x2048 .f32) (n : ℕ) (r : Fin 16384) (q : Fin 2048) : EReal :=
  h (ix2 r q) + ∑ k ∈ Finset.range n, Shared.term (fun k : Fin 2048 => u (ix2 r k) * w (ix2 k q)) k

/-- One more part, at an index: from the first `t % 2` blocks of terms to the first `t % 2 + 1`. -/
theorem part_step (c : Dev nD) (t : Fin cfg0.N) (o : Vec Ideal S1024x2048 .f32) (r : Fin 1024) (q : Fin 2048) (h : t.val / 2 * 1024 + r.val < 16384)
    (ho : o (ix2 r q) = partAt (m ((c : Thread nD τ).loc main_arg0)) (m ((c : Thread nD τ).loc main_arg1)) (m ((c : Thread nD τ).loc main_arg2)) (t.val % 2 * 1024)
      ⟨t.val / 2 * 1024 + r.val, h⟩ q) :
    k0_pay1 o (iblk m c 0 t) (iblk m c 1 t) (ix2 r q)
      = partAt (m ((c : Thread nD τ).loc main_arg0)) (m ((c : Thread nD τ).loc main_arg1)) (m ((c : Thread nD τ).loc main_arg2)) (t.val % 2 * 1024 + 1024)
        ⟨t.val / 2 * 1024 + r.val, h⟩ q := by
  rw [pay1_apply, ho]
  unfold partAt
  rw [add_assoc]
  refine congrArg _ (Shared.sum_block _ _ _ _ fun k => ?_)
  have hk : t.val % 2 * 1024 + k.val < 2048 := by have := k.isLt; omega
  rw [rows_apply m c t r k h hk, weights_apply m c t k q hk, Shared.term_of_lt _ hk]

/-- After point `n` the block holds the stream and the first parts of the projection. -/
theorem part_eq (c : Dev nD) : ∀ (n : ℕ) (h : n < cfg0.N) (r : Fin 1024) (q : Fin 2048) (hr : n / 2 * 1024 + r.val < 16384),
    outsAt0 m c n h (ix2 r q) = partAt (m ((c : Thread nD τ).loc main_arg0)) (m ((c : Thread nD τ).loc main_arg1)) (m ((c : Thread nD τ).loc main_arg2)) (n % 2 * 1024 + 1024)
      ⟨n / 2 * 1024 + r.val, hr⟩ q := by
  intro n
  induction n with
  | zero =>
    intro h r q hr
    have e := outsAt0_A m c ⟨0, h⟩ rfl
    rw [out_A_4_eq] at e
    refine (congrFun e _).trans (part_step m c ⟨0, h⟩ _ r q hr ?_)
    refine (stream_apply m c ⟨0, h⟩ r q hr).trans ?_
    unfold partAt
    simp
  | succ n ih =>
    intro h r q hr
    by_cases h0 : (n + 1) % 2 = 0
    · have e := outsAt0_A m c ⟨n + 1, h⟩ h0
      rw [out_A_4_eq] at e
      refine (congrFun e _).trans (part_step m c ⟨n + 1, h⟩ _ r q hr ?_)
      refine (stream_apply m c ⟨n + 1, h⟩ r q hr).trans ?_
      unfold partAt
      simp [h0]
    · have e := outsAt0_B m c ⟨n + 1, h⟩ h0
      rw [out_B_4_eq] at e
      refine (congrFun e _).trans (part_step m c ⟨n + 1, h⟩ _ r q hr ?_)
      refine (ih (by omega) r q (by omega)).trans ?_
      congr 1
      · dsimp only; omega
      · apply Fin.ext; dsimp only; omega

/-- The result, at row `r` and column `q`. -/
def mixAt (u : Vec Ideal S16384x2048 .bf16) (w : Vec Ideal S2048x2048 .bf16) (h : Vec Ideal S16384x2048 .f32) (r : Fin 16384) (q : Fin 2048) : EReal :=
  h (ix2 r q) + ∑ k : Fin 2048, u (ix2 r k) * w (ix2 k q)

/-- After the last point of a row block, the block holds the rows of the result. -/
theorem last_eq (c : Dev nD) (t : Fin cfg0.N) (h1 : t.val % 2 = 1) (r : Fin 1024) (q : Fin 2048) (hr : t.val / 2 * 1024 + r.val < 16384) :
    outsAt0 m c t.val t.isLt (ix2 r q) = mixAt (m ((c : Thread nD τ).loc main_arg0)) (m ((c : Thread nD τ).loc main_arg1)) (m ((c : Thread nD τ).loc main_arg2))
      ⟨t.val / 2 * 1024 + r.val, hr⟩ q := by
  refine (part_eq m c t.val t.isLt r q hr).trans ?_
  unfold partAt mixAt
  rw [h1]
  exact congrArg _ (Shared.sum_term _)

/-- The fold over a row block is what its last point leaves. -/
theorem acc_eq (c : Dev nD) (a : ℕ) (h : 2 * a + 1 < cfg0.N) :
    outsAt0 m c (2 * a + 1) h = Pipeline.accAt (reset4 m c) (step4 m c) (2 * a) 1 h := by
  have e := outsAt_4_eq m c ⟨2 * a + 1, h⟩
  simpa only [show (2 * a + 1) / 2 = a by omega, show (2 * a + 1) % 2 = 1 by omega] using e

/-- The result array, index by index. -/
theorem G_apply (c : Dev nD) (r : Fin 16384) (q : Fin 2048) :
    (G4 m c : Vec Ideal S16384x2048 .f32) (ix2 r q) = mixAt (m ((c : Thread nD τ).loc main_arg0)) (m ((c : Thread nD τ).loc main_arg1)) (m ((c : Thread nD τ).loc main_arg2)) r q := by
  have hN : cfg0.N = 32 := N_0
  have hr := r.isLt
  have hq := q.isLt
  have hrun : run4Of (ix2 r q) = r.val / 1024 := by
    show 1 * (r.val / 1024 - 0) + 1 * (q.val / 2048 - 0) = _
    omega
  have hlt : 2 * run4Of (ix2 r q) + 1 < cfg0.N := by rw [hrun]; omega
  unfold G4
  rw [dif_pos hlt, ← acc_eq m c _ hlt]
  have hl : loc4Of (ix2 r q) = ix2 (⟨r.val % 1024, Nat.mod_lt _ (by decide)⟩ : Fin 1024) (⟨q.val % 2048, Nat.mod_lt _ (by decide)⟩ : Fin 2048) := by
    funext a; match a with | ⟨0, _⟩ => rfl | ⟨1, _⟩ => rfl
  rw [hl]
  refine (last_eq m c ⟨_, hlt⟩ (by dsimp only; omega) _ _ (by dsimp only; omega)).trans ?_
  congr 1
  · apply Fin.ext; dsimp only; omega
  · apply Fin.ext; dsimp only; omega

end Cert.KernelMixIdeal.Value

namespace Cert.Proof

/-- The reference runs, and leaves its arguments and every counter as they were. -/
theorem quiescent_ReferenceMixIdeal : Cert.quiescent_ReferenceMixIdeal := fun m ρ _ =>
  (θ_run Cert.ReferenceMixIdeal.defs _ _).mono (fun r h => ⟨fun c => (h c).2, sem_eq_zero_of_no_sems (by decide) r.2⟩)
    (Cert.ReferenceMixIdeal.Value.run (F := Ideal) m ρ)

/-- The kernel and its reference end with the same array. -/
theorem algebraic_KernelMixIdeal_ReferenceMixIdeal : Cert.algebraic_KernelMixIdeal_ReferenceMixIdeal := by
  intro m ρ m' ρ' _ hagree
  refine ⟨_, Cert.KernelMixIdeal.Value.run (F := Ideal) m ρ, ?_⟩
  refine (θ_run Cert.ReferenceMixIdeal.defs _ _).mono (fun _ h c => ⟨?_, (h c).2⟩) (Cert.ReferenceMixIdeal.Value.run (F := Ideal) m' ρ')
  rw [(h c).1, (hagree c).1, (hagree c).2.1, (hagree c).2.2]
  funext i
  idx_vars i
  refine Eq.trans ?_ (Cert.KernelMixIdeal.Value.G_apply m c i0 i1).symm
  unfold Cert.KernelMixIdeal.Value.mixAt
  pointwise

end Cert.Proof

end
-- ==== Proof.Kv.lean ====
/-
  The keys and values of the memory: its rows normalised by their root mean square and projected, in one grid point.
-/
module

public import proofs.«01_k».proof.Defs
public import proofs.«01_k».proof.Proof.Gen.KernelKvIdeal.Value
public import proofs.«01_k».proof.Proof.Gen.ReferenceKvIdeal.Run
public import proofs.«01_k».proof.Proof.Common

@[expose] public section

noncomputable section

open Idealize.ShloMosaic Idealize.ShloMosaic.TcCoe Idealize.SL.Sem Cert
open Idealize.ShloMosaic.Pipeline (Dat)

namespace Cert.KernelKvIdeal.Value

open Cert.KernelKvIdeal Cert.KernelKvIdeal.Gen

variable (m : (ℓ : Loc nD τ sig) → Buf (Elt Ideal) ℓ) (ρ : Dev nD → PrngReg)

/-- The result's block after a point that normalises. -/
theorem out_A (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1024 .bf16) (h4 : a4.IsWhole)
    (a5 : Memref sig .tc .vmem S512x1024 .bf16) (h5 : a5.IsWhole) (a6 : Memref sig .tc .vmem S512x2048 .bf16) (h6 : a6.IsWhole)
    (hc : cond0_0 i) (x : Vec Ideal S512x2048 .f32) (g : Vec Ideal S1x2048 .f32) (w : Vec Ideal S2048x1024 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero Shared.hz2, View.readCov_unit_zero (S := S512x2048) _ Shared.hz2]
  simp only [View.readAt_eq_ld, h2.read_unread, h3.read_unread, h4.read_unread, View.ld_unit_zero (S := S512x2048) Shared.hz2, View.ld_unit_zero (S := S1x2048) Shared.hz2,
    View.ld_unit_zero (S := S2048x1024) Shared.hz2]

/-- The one point stages every array whole. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The rows that point `t` stages. -/
theorem rows_apply (c : Dev nD) (t : Fin cfg0.N) (r : Fin 512) (k : Fin 2048) :
    (iblk m c 0 t : Vec Ideal S512x2048 .f32) (ix2 r k) = (m ((c : Thread nD τ).loc main_arg0) : Vec Ideal S512x2048 .f32) (ix2 r k) := by
  obtain ⟨e0, e1, -⟩ := idx_facts t
  show V m c main_arg0 _ = _
  rw [V_main_arg0]
  congr 1
  funext a
  apply Fin.ext
  match a with
  | ⟨0, _⟩ => show win0_0.index t 0 * 512 + 1 * r.val = r.val; rw [e0]; omega
  | ⟨1, _⟩ => show win0_0.index t 1 * 2048 + 1 * k.val = k.val; rw [e1]; omega

/-- A vector read as a row. -/
theorem row_apply (g : Vec Ideal S2048 .f32) (k : Fin 2048) : (shapeCast S1x2048 g shapeCasts_S2048_S1x2048 : Vec Ideal S1x2048 .f32) (ix2 0 k) = g (ix1 k) := by
  pointwise

/-- The gains, as every point stages them: the argument as a row. -/
theorem gains_apply (c : Dev nD) (t : Fin cfg0.N) (k : Fin 2048) :
    (iblk m c 1 t : Vec Ideal S1x2048 .f32) (ix2 0 k) = (m ((c : Thread nD τ).loc main_arg1) : Vec Ideal S2048 .f32) (ix1 k) := by
  obtain ⟨-, -, e2, e3, -⟩ := idx_facts t
  have hV : V m c main_v0 = (shapeCast S1x2048 (m ((c : Thread nD τ).loc main_arg1)) shapeCasts_S2048_S1x2048 : Vec Ideal S1x2048 .f32) := by
    show StableHlo.after hostOps0 (fun b => m (c, b)) main_v0 = _
    after_results
    rfl
  show V m c main_v0 _ = _
  rw [hV]
  have e : (((cfg0.win 1).blk t).view.emb (ix2 0 k) : S1x2048.Idx) = ix2 0 k := by
    funext a
    apply Fin.ext
    match a with
    | ⟨0, _⟩ => show win0_1.index t 0 * 1 + 1 * 0 = 0; rw [e2]
    | ⟨1, _⟩ => show win0_1.index t 1 * 2048 + 1 * k.val = k.val; rw [e3]; omega
  exact (congrArg _ e).trans (row_apply _ k)

/-- The columns of the weights that point `t` stages. -/
theorem cols_apply (c : Dev nD) (t : Fin cfg0.N) (k : Fin 2048) (q : Fin 1024) :
    (iblk m c 2 t : Vec Ideal S2048x1024 .bf16) (ix2 k q) = (m ((c : Thread nD τ).loc main_arg2) : Vec Ideal S2048x1024 .bf16) (ix2 k q) := by
  obtain ⟨-, -, -, -, e4, e5, -⟩ := idx_facts t
  show V m c main_arg2 _ = _
  rw [V_main_arg2]
  congr 1
  funext a
  apply Fin.ext
  match a with
  | ⟨0, _⟩ => show win0_2.index t 0 * 2048 + 1 * k.val = k.val; rw [e4]; omega
  | ⟨1, _⟩ => show win0_2.index t 1 * 1024 + 1 * q.val = q.val; rw [e5]; omega

/-- The normalised rows, at an index. -/
theorem pay1_apply (x : Vec Ideal S512x2048 .f32) (g : Vec Ideal S1x2048 .f32) (r : Fin 512) (k : Fin 2048) :
    k0_pay1 x g (ix2 r k) = Shared.norm (fun l => x (ix2 r l)) (fun l => g (ix2 0 l)) k := by
  unfold Shared.norm
  pointwise [k0_pay1]

/-- The product, at an index. -/
theorem pay2_apply (a : Vec Ideal S512x2048 .bf16) (w : Vec Ideal S2048x1024 .bf16) (r : Fin 512) (q : Fin 1024) :
    k0_pay2 a w (ix2 r q) = (∑ k : Fin 2048, a (ix2 r k) * w (ix2 k q) : EReal) := by
  pointwise [k0_pay2]

/-- The result, at row `r` and column `q`. -/
def kvAt (x : Vec Ideal S512x2048 .f32) (g : Vec Ideal S2048 .f32) (w : Vec Ideal S2048x1024 .bf16) (r : Fin 512) (q : Fin 1024) : EReal :=
  ∑ k : Fin 2048, Shared.norm (fun l => x (ix2 r l)) (fun l => g (ix1 l)) k * w (ix2 k q)

/-- What the point stores, at an index. -/
theorem block_apply (c : Dev nD) (t : Fin cfg0.N) (r : Fin 512) (q : Fin 1024) :
    k0_pay2 (k0_pay1 (iblk m c 0 t) (iblk m c 1 t)) (iblk m c 2 t) (ix2 r q)
      = kvAt (m ((c : Thread nD τ).loc main_arg0)) (m ((c : Thread nD τ).loc main_arg1)) (m ((c : Thread nD τ).loc main_arg2)) r q := by
  rw [pay2_apply]
  unfold kvAt
  simp only [pay1_apply, rows_apply, gains_apply, cols_apply]

/-- The result array. -/
def G (c : Dev nD) : Buf (Elt Ideal) ((c : Thread nD τ).loc main_v1) := fun i : S512x1024.Idx =>
  kvAt (m ((c : Thread nD τ).loc main_arg0)) (m ((c : Thread nD τ).loc main_arg1)) (m ((c : Thread nD τ).loc main_arg2)) (i 0) (i 1)

/-- What the point writes back is the result array. -/
theorem flushed_eq (c : Dev nD) (t : Fin cfg0.N) :
    (dats m 0 c).flushed 3 t = ((cfg0.win 3).blk t).view.read (Elt Ideal) (G m c) := by
  rw [flushed3_A, out_A]
  obtain ⟨-, -, -, -, -, -, e6, e7⟩ := idx_facts t
  funext y
  have hx : (cfg0.win 3).xinj (grid0.coords t) y = ix2 (y 0) (y 1) := by
    funext a; match a with | ⟨0, _⟩ => rfl | ⟨1, _⟩ => rfl
  have he : (((cfg0.win 3).blk t).view.emb y : S512x1024.Idx) = ix2 (y 0) (y 1) := by
    funext a
    apply Fin.ext
    match a with
    | ⟨0, _⟩ => show win0_3.index t 0 * 512 + 1 * (y 0).val = (y 0).val; rw [e6]; omega
    | ⟨1, _⟩ => show win0_3.index t 1 * 1024 + 1 * (y 1).val = (y 1).val; rw [e7]; omega
  refine (congrArg (k0_pay2 (k0_pay1 (iblk m c 0 t) (iblk m c 1 t)) (iblk m c 2 t)) hx).trans (Eq.trans ?_ (congrArg (G m c) he).symm)
  exact block_apply m c t (y 0) (y 1)

/-- Every index of the result lies in the point's block. -/
theorem covered (i : S512x1024.Idx) : ∃ t : Fin cfg0.N, (cfg0.win 3).flush t = true ∧ i ∈ ((cfg0.win 3).blk t).view.set := by
  have h0 : (i 0).val < 512 := (i 0).isLt
  have h1 : (i 1).val < 1024 := (i 1).isLt
  have hN : cfg0.N = 1 := N_0
  obtain ⟨t, ht⟩ : ∃ t : Fin cfg0.N, t.val = 0 := ⟨⟨0, by omega⟩, rfl⟩
  obtain ⟨-, -, -, -, -, -, e6, e7⟩ := idx_facts t
  refine ⟨t, flush0_3 _, ?_⟩
  show i ∈ ((View.whole main_v1).slice (win0_3.rect t)).set
  rw [View.set_slice_whole, Rect.mem_set_unit]
  intro a
  match a with
  | ⟨0, _⟩ => show win0_3.index t 0 * 512 ≤ (i 0).val ∧ (i 0).val < win0_3.index t 0 * 512 + 512; rw [e6]; omega
  | ⟨1, _⟩ => show win0_3.index t 1 * 1024 ≤ (i 1).val ∧ (i 1).val < win0_3.index t 1 * 1024 + 1024; rw [e7]; omega

/-- The array after the run is the result array. -/
theorem final (c : Dev nD) : (dats m 0 c).arrAt 3 cfg0.N = G m c :=
  (dats m 0 c).arrAt_eq_of_cover 3 _ (fun t _ => flushed_eq m c t) covered

end Cert.KernelKvIdeal.Value

namespace Cert.Proof

/-- The reference runs, and leaves its arguments and every counter as they were. -/
theorem quiescent_ReferenceKvIdeal : Cert.quiescent_ReferenceKvIdeal := fun m ρ _ =>
  (θ_run Cert.ReferenceKvIdeal.defs _ _).mono (fun r h => ⟨fun c => (h c).2, sem_eq_zero_of_no_sems (by decide) r.2⟩)
    (Cert.ReferenceKvIdeal.Value.run (F := Ideal) m ρ)

/-- The kernel and its reference end with the same array. -/
theorem algebraic_KernelKvIdeal_ReferenceKvIdeal : Cert.algebraic_KernelKvIdeal_ReferenceKvIdeal := by
  intro m ρ m' ρ' _ hagree
  refine ⟨fun c => Cert.KernelKvIdeal.Value.G m c, ?_, ?_⟩
  · exact (θ_run Cert.KernelKvIdeal.defs _ _).mono
      (fun _ h c => ⟨(h c).1.trans (Cert.KernelKvIdeal.Value.final m c), (h c).2⟩)
      (Cert.KernelKvIdeal.Value.run_blocks (F := Ideal) m ρ)
  · refine (θ_run Cert.ReferenceKvIdeal.defs _ _).mono (fun _ h c => ⟨?_, (h c).2⟩) (Cert.ReferenceKvIdeal.Value.run (F := Ideal) m' ρ')
    rw [(h c).1, (hagree c).1, (hagree c).2.1, (hagree c).2.2]
    funext i
    idx_vars i
    unfold Cert.KernelKvIdeal.Value.G Cert.KernelKvIdeal.Value.kvAt Shared.norm
    pointwise

end Cert.Proof

end
-- ==== Proof.ProjBitsPay.lean ====
/-
  The input projection at bits: the stores of its points, and what they leave in the staging buffers.
-/
module

public import proofs.«01_k».proof.Proof.Gen.KernelProj.Frame
public import proofs.«01_k».proof.Proof.Gen.KernelProj.Skeleton
public import proofs.«01_k».proof.Proof.Common

@[expose] public section

set_option maxRecDepth 16384

noncomputable section

namespace Cert.KernelProj.Hand

open Cert.KernelProj Cert.KernelProj.Gen
open Idealize.ShloMosaic Idealize.ShloMosaic.TcCoe Idealize.ShloMosaic.Tactic
open Idealize.SL Idealize.SL.Sem

/-- The stores of a point that projects queries or values, last first. -/
def turnedPieces (n : BitVec 32) (a w : Vec Bits S1024x2048 .bf16) : List (View.Piece (Elt Bits) S8x4x128x256 .bf16) :=
    [ ⟨Rect.unit (s := S8x4x128x256) ![7, 3, 0, 0] S1x1x128x256.size inb_S8x4x128x256_S1x1x128x256_7_3_0_0, k0_pay3 (k0_pay42 (k0_pay7 n a w))⟩,
      ⟨Rect.unit (s := S8x4x128x256) ![7, 2, 0, 0] S1x1x128x256.size inb_S8x4x128x256_S1x1x128x256_7_2_0_0, k0_pay41 (k0_pay7 n a w)⟩,
      ⟨Rect.unit (s := S8x4x128x256) ![7, 1, 0, 0] S1x1x128x256.size inb_S8x4x128x256_S1x1x128x256_7_1_0_0, k0_pay40 (k0_pay7 n a w)⟩,
      ⟨Rect.unit (s := S8x4x128x256) ![7, 0, 0, 0] S1x1x128x256.size inb_S8x4x128x256_S1x1x128x256_7_0_0_0, k0_pay39 (k0_pay7 n a w)⟩,
      ⟨Rect.unit (s := S8x4x128x256) ![6, 3, 0, 0] S1x1x128x256.size inb_S8x4x128x256_S1x1x128x256_6_3_0_0, k0_pay38 (k0_pay7 n a w)⟩,
      ⟨Rect.unit (s := S8x4x128x256) ![6, 2, 0, 0] S1x1x128x256.size inb_S8x4x128x256_S1x1x128x256_6_2_0_0, k0_pay37 (k0_pay7 n a w)⟩,
      ⟨Rect.unit (s := S8x4x128x256) ![6, 1, 0, 0] S1x1x128x256.size inb_S8x4x128x256_S1x1x128x256_6_1_0_0, k0_pay36 (k0_pay35 (k0_pay7 n a w))⟩,
      ⟨Rect.unit (s := S8x4x128x256) ![6, 0, 0, 0] S1x1x128x256.size inb_S8x4x128x256_S1x1x128x256_6_0_0_0, k0_pay34 (k0_pay7 n a w)⟩,
      ⟨Rect.unit (s := S8x4x128x256) ![5, 3, 0, 0] S1x1x128x256.size inb_S8x4x128x256_S1x1x128x256_5_3_0_0, k0_pay33 (k0_pay7 n a w)⟩,
      ⟨Rect.unit (s := S8x4x128x256) ![5, 2, 0, 0] S1x1x128x256.size inb_S8x4x128x256_S1x1x128x256_5_2_0_0, k0_pay32 (k0_pay7 n a w)⟩,
      ⟨Rect.unit (s := S8x4x128x256) ![5, 1, 0, 0] S1x1x128x256.size inb_S8x4x128x256_S1x1x128x256_5_1_0_0, k0_pay31 (k0_pay7 n a w)⟩,
      ⟨Rect.unit (s := S8x4x128x256) ![5, 0, 0, 0] S1x1x128x256.size inb_S8x4x128x256_S1x1x128x256_5_0_0_0, k0_pay30 (k0_pay29 (k0_pay7 n a w))⟩,
      ⟨Rect.unit (s := S8x4x128x256) ![4, 3, 0, 0] S1x1x128x256.size inb_S8x4x128x256_S1x1x128x256_4_3_0_0, k0_pay28 (k0_pay7 n a w)⟩,
      ⟨Rect.unit (s := S8x4x128x256) ![4, 2, 0, 0] S1x1x128x256.size inb_S8x4x128x256_S1x1x128x256_4_2_0_0, k0_pay27 (k0_pay7 n a w)⟩,
      ⟨Rect.unit (s := S8x4x128x256) ![4, 1, 0, 0] S1x1x128x256.size inb_S8x4x128x256_S1x1x128x256_4_1_0_0, k0_pay26 (k0_pay7 n a w)⟩,
      ⟨Rect.unit (s := S8x4x128x256) ![4, 0, 0, 0] S1x1x128x256.size inb_S8x4x128x256_S1x1x128x256_4_0_0_0, k0_pay25 (k0_pay7 n a w)⟩,
      ⟨Rect.unit (s := S8x4x128x256) ![3, 3, 0, 0] S1x1x128x256.size inb_S8x4x128x256_S1x1x128x256_3_3_0_0, k0_pay24 (k0_pay7 n a w)⟩,
      ⟨Rect.unit (s := S8x4x128x256) ![3, 2, 0, 0] S1x1x128x256.size inb_S8x4x128x256_S1x1x128x256_3_2_0_0, k0_pay23 (k0_pay7 n a w)⟩,
      ⟨Rect.unit (s := S8x4x128x256) ![3, 1, 0, 0] S1x1x128x256.size inb_S8x4x128x256_S1x1x128x256_3_1_0_0, k0_pay22 (k0_pay7 n a w)⟩,
      ⟨Rect.unit (s := S8x4x128x256) ![3, 0, 0, 0] S1x1x128x256.size inb_S8x4x128x256_S1x1x128x256_3_0_0_0, k0_pay21 (k0_pay7 n a w)⟩,
      ⟨Rect.unit (s := S8x4x128x256) ![2, 3, 0, 0] S1x1x128x256.size inb_S8x4x128x256_S1x1x128x256_2_3_0_0, k0_pay20 (k0_pay7 n a w)⟩,
      ⟨Rect.unit (s := S8x4x128x256) ![2, 2, 0, 0] S1x1x128x256.size inb_S8x4x128x256_S1x1x128x256_2_2_0_0, k0_pay19 (k0_pay7 n a w)⟩,
      ⟨Rect.unit (s := S8x4x128x256) ![2, 1, 0, 0] S1x1x128x256.size inb_S8x4x128x256_S1x1x128x256_2_1_0_0, k0_pay18 (k0_pay17 (k0_pay7 n a w))⟩,
      ⟨Rect.unit (s := S8x4x128x256) ![2, 0, 0, 0] S1x1x128x256.size inb_S8x4x128x256_S1x1x128x256_2_0_0_0, k0_pay16 (k0_pay7 n a w)⟩,
      ⟨Rect.unit (s := S8x4x128x256) ![1, 3, 0, 0] S1x1x128x256.size inb_S8x4x128x256_S1x1x128x256_1_3_0_0, k0_pay15 (k0_pay7 n a w)⟩,
      ⟨Rect.unit (s := S8x4x128x256) ![1, 2, 0, 0] S1x1x128x256.size inb_S8x4x128x256_S1x1x128x256_1_2_0_0, k0_pay14 (k0_pay7 n a w)⟩,
      ⟨Rect.unit (s := S8x4x128x256) ![1, 1, 0, 0] S1x1x128x256.size inb_S8x4x128x256_S1x1x128x256_1_1_0_0, k0_pay13 (k0_pay7 n a w)⟩,
      ⟨Rect.unit (s := S8x4x128x256) ![1, 0, 0, 0] S1x1x128x256.size inb_S8x4x128x256_S1x1x128x256_1_0_0_0, k0_pay12 (k0_pay7 n a w)⟩,
      ⟨Rect.unit (s := S8x4x128x256) ![0, 3, 0, 0] S1x1x128x256.size inb_S8x4x128x256_S1x1x128x256_0_3_0_0, k0_pay11 n a w⟩,
      ⟨Rect.unit (s := S8x4x128x256) ![0, 2, 0, 0] S1x1x128x256.size inb_S8x4x128x256_S1x1x128x256_0_2_0_0, k0_pay10 n a w⟩,
      ⟨Rect.unit (s := S8x4x128x256) ![0, 1, 0, 0] S1x1x128x256.size inb_S8x4x128x256_S1x1x128x256_0_1_0_0, k0_pay9 n a w⟩,
      ⟨Rect.unit (s := S8x4x128x256) ![0, 0, 0, 0] S1x1x128x256.size inb_S8x4x128x256_S1x1x128x256_0_0_0_0, k0_pay8 n a w⟩ ]

/-- The stores of a point that projects keys, last first. -/
def splitPieces (a w : Vec Bits S1024x2048 .bf16) : List (View.Piece (Elt Bits) S8x1024x128 .bf16) :=
    [ ⟨Rect.unit (s := S8x1024x128) ![7, 0, 0] S1x1024x128.size inb_S8x1024x128_S1x1024x128_7_0_0, k0_pay6 (k0_pay43 a w)⟩,
      ⟨Rect.unit (s := S8x1024x128) ![6, 0, 0] S1x1024x128.size inb_S8x1024x128_S1x1024x128_6_0_0, k0_pay5 (k0_pay43 a w)⟩,
      ⟨Rect.unit (s := S8x1024x128) ![5, 0, 0] S1x1024x128.size inb_S8x1024x128_S1x1024x128_5_0_0, k0_pay4 (k0_pay49 a w)⟩,
      ⟨Rect.unit (s := S8x1024x128) ![4, 0, 0] S1x1024x128.size inb_S8x1024x128_S1x1024x128_4_0_0, k0_pay48 a w⟩,
      ⟨Rect.unit (s := S8x1024x128) ![3, 0, 0] S1x1024x128.size inb_S8x1024x128_S1x1024x128_3_0_0, k0_pay47 a w⟩,
      ⟨Rect.unit (s := S8x1024x128) ![2, 0, 0] S1x1024x128.size inb_S8x1024x128_S1x1024x128_2_0_0, k0_pay46 a w⟩,
      ⟨Rect.unit (s := S8x1024x128) ![1, 0, 0] S1x1024x128.size inb_S8x1024x128_S1x1024x128_1_0_0, k0_pay45 a w⟩,
      ⟨Rect.unit (s := S8x1024x128) ![0, 0, 0] S1x1024x128.size inb_S8x1024x128_S1x1024x128_0_0_0, k0_pay44 a w⟩ ]

/-- What the stores of a point that projects queries or values leave in the buffer, which they cover. -/
def turned (n : BitVec 32) (a w : Vec Bits S1024x2048 .bf16) : Vec Bits S8x4x128x256 .bf16 := View.canon (turnedPieces n a w)

/-- What the stores of a point that projects keys leave in the buffer, which they cover. -/
def split (a w : Vec Bits S1024x2048 .bf16) : Vec Bits S8x1024x128 .bf16 := View.canon (splitPieces a w)

end Cert.KernelProj.Hand

end
-- ==== Proof.ProjBitsRun.lean ====
/-
  The input projection's body, run in each of its three cases: what it leaves in the staging buffers that it stores into.
-/
module

public import proofs.«01_k».proof.Proof.ProjBitsPay

@[expose] public section

set_option maxRecDepth 16384

noncomputable section

namespace Cert.KernelProj.Hand

open Cert.KernelProj Cert.KernelProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The point is its row block's first. -/
abbrev cond0 (i : grid0.Coords) : Prop := k0_cond1 i = 1#1

/-- The point projects queries or values. -/
abbrev cond1 (i : grid0.Coords) : Prop := k0_cond2 i = 1#1

/-- The point projects keys. -/
abbrev cond2 (i : grid0.Coords) : Prop := k0_cond3 i = 1#1

/-- The tile of the product that the point computes. -/
abbrev tile (i : grid0.Coords) : BitVec 32 := BitVec.ofNat 32 (i 1).val

/-- After the stores of a point that projects queries or values the buffer holds what they leave. -/
theorem read_turned (v : View sig .tc .vmem S8x4x128x256 .bf16) (f : v.ty.Contents (Elt Bits)) (n : BitVec 32) (a w : Vec Bits S1024x2048 .bf16) :
    v.read (Elt Bits) (v.writes (Elt Bits) f (turnedPieces n a w)) = turned n a w :=
  View.read_writes_eq_canon v f _ (View.cover_of_tiledL (turnedPieces n a w) S1x1x128x256.size (by sl_kernel_rfl))

/-- After the stores of a point that projects keys the buffer holds what they leave. -/
theorem read_split (v : View sig .tc .vmem S8x1024x128 .bf16) (f : v.ty.Contents (Elt Bits)) (a w : Vec Bits S1024x2048 .bf16) :
    v.read (Elt Bits) (v.writes (Elt Bits) f (splitPieces a w)) = split a w :=
  View.read_writes_eq_canon v f _ (View.cover_of_tiledL (splitPieces a w) S1x1024x128.size (by sl_kernel_rfl))

set_option maxHeartbeats 4000000 in
/-- A row block's first point: the rows are normalised, the normalised rows and their product with the forget weights
    are stored, and the first tile of the product. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S2048x128 .f32) (harg5 : arg5.IsWhole) (arg6 : Memref sig .tc .vmem S8x4x128x256 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S1024x2048 .bf16) (harg9 : arg9.IsWhole)
    (h0 : cond0 i) (h1 : cond1 i) (h2 : ¬cond2 i)
    (x : Vec Bits S1024x2048 .f32) (g : Vec Bits S1x2048 .f32) (w : Vec Bits S1024x2048 .bf16) (v : Vec Bits S2048x128 .f32) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare v ∗ (∃ d, owns (c : Thread nD τ) arg6 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare g ∗ owns (c : Thread nD τ) arg4 fullShare w ∗ owns (c : Thread nD τ) arg5 fullShare v ∗ owns (c : Thread nD τ) arg6 fullShare (turned (tile i) (k0_pay1 x g) w) ∗ owns (c : Thread nD τ) arg8 fullShare (k0_pay2 v (k0_pay1 x g)) ∗ owns (c : Thread nD τ) arg9 fullShare (k0_pay1 x g)) -∗ K ⟨⟩))
      ⊢ wp frame (wpE (defs₀ (F := Bits)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | sl_exact h0 | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    simp only [View.readAt_eq_ld, View.readCov_unit_zero (S := S1024x2048) _ Shared.hz2, harg2.read_unread, harg3.read_unread, harg4.read_unread, harg5.read_unread, View.ld_unit_zero (S := S1024x2048) Shared.hz2, View.ld_unit_zero (S := S1x2048) Shared.hz2, View.ld_unit_zero (S := S2048x128) Shared.hz2]
    exact read_turned _ _ _ _ _
  isplitl [H8]
  · iexists _; isplitr; swap; · iexact H8
    ipureintro
    sl_unfold_words
    simp only [View.readAt_eq_ld, View.readCov_unit_zero (S := S1024x2048) _ Shared.hz2, harg2.read_unread, harg3.read_unread, harg4.read_unread, harg5.read_unread, View.ld_unit_zero (S := S1024x2048) Shared.hz2, View.ld_unit_zero (S := S1x2048) Shared.hz2, View.ld_unit_zero (S := S2048x128) Shared.hz2]
    exact (View.read_writes_eq_canon _ _ _ (View.cover_of_tiledL _ S1024x128.size (by sl_kernel_rfl))).trans (View.canon_unit_zero Shared.hz2 _ _)
  iexists _; isplitr; swap; · iexact H9
  ipureintro
  sl_unfold_words
  simp only [View.readAt_eq_ld, View.readCov_unit_zero (S := S1024x2048) _ Shared.hz2, harg2.read_unread, harg3.read_unread, harg4.read_unread, harg5.read_unread, View.ld_unit_zero (S := S1024x2048) Shared.hz2, View.ld_unit_zero (S := S1x2048) Shared.hz2, View.ld_unit_zero (S := S2048x128) Shared.hz2]
  exact (View.read_writes_eq_canon _ _ _ (View.cover_of_tiledL _ S1024x2048.size (by sl_kernel_rfl))).trans (View.canon_unit_zero Shared.hz2 _ _)

set_option maxHeartbeats 4000000 in
/-- Another of a row block's points that project queries or values: the tile of the product is stored. -/
theorem run_turned (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S2048x128 .f32) (harg5 : arg5.IsWhole) (arg6 : Memref sig .tc .vmem S8x4x128x256 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S1024x2048 .bf16) (harg9 : arg9.IsWhole)
    (h0 : ¬cond0 i) (h1 : cond1 i) (h2 : ¬cond2 i)
    (w : Vec Bits S1024x2048 .bf16) (a : Vec Bits S1024x2048 .bf16) (E : Set ℕ) (K : PUnit → sProp 𝕄) :
    iprop(owns (c : Thread nD τ) arg4 fullShare w ∗ owns (c : Thread nD τ) arg9 fullShare a ∗ (∃ d, owns (c : Thread nD τ) arg6 fullShare d)
        ∗ (iprop(owns (c : Thread nD τ) arg4 fullShare w ∗ owns (c : Thread nD τ) arg9 fullShare a ∗ owns (c : Thread nD τ) arg6 fullShare (turned (tile i) a w)) -∗ K ⟨⟩))
      ⊢ wp frame (wpE (defs₀ (F := Bits)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton]
  unfold owns
  iintro ⟨⟨%f4, %hf4, H4⟩, ⟨%f9, %hf9, H9⟩, ⟨%d6, %f6, -, H6⟩, Hk⟩
  obtain rfl := harg4.eq_unread hf4; obtain rfl := harg9.eq_unread hf9
  sl_exec (disch := first | sl_exact h0 | sl_exact h1 | sl_exact h2)
  sl_step
  iapply Hk
  isplitl [H4]
  · iexists _; isplitr; · ipureintro; exact harg4.read_unread _
    iexact H4
  isplitl [H9]
  · iexists _; isplitr; · ipureintro; exact harg9.read_unread _
    iexact H9
  iexists _; isplitr; swap; · iexact H6
  ipureintro
  sl_unfold_words
  simp only [View.readAt_eq_ld, harg4.read_unread, harg9.read_unread, View.ld_unit_zero (S := S1024x2048) Shared.hz2]
  exact read_turned _ _ _ _ _

set_option maxHeartbeats 4000000 in
/-- A point that projects keys: the tile of the product is stored. -/
theorem run_split (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S2048x128 .f32) (harg5 : arg5.IsWhole) (arg6 : Memref sig .tc .vmem S8x4x128x256 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S1024x2048 .bf16) (harg9 : arg9.IsWhole)
    (h0 : ¬cond0 i) (h1 : ¬cond1 i) (h2 : cond2 i)
    (w : Vec Bits S1024x2048 .bf16) (a : Vec Bits S1024x2048 .bf16) (E : Set ℕ) (K : PUnit → sProp 𝕄) :
    iprop(owns (c : Thread nD τ) arg4 fullShare w ∗ owns (c : Thread nD τ) arg9 fullShare a ∗ (∃ d, owns (c : Thread nD τ) arg7 fullShare d)
        ∗ (iprop(owns (c : Thread nD τ) arg4 fullShare w ∗ owns (c : Thread nD τ) arg9 fullShare a ∗ owns (c : Thread nD τ) arg7 fullShare (split a w)) -∗ K ⟨⟩))
      ⊢ wp frame (wpE (defs₀ (F := Bits)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  simp only [k0_part7_eq_skeleton]
  unfold owns
  iintro ⟨⟨%f4, %hf4, H4⟩, ⟨%f9, %hf9, H9⟩, ⟨%d7, %f7, -, H7⟩, Hk⟩
  obtain rfl := harg4.eq_unread hf4; obtain rfl := harg9.eq_unread hf9
  sl_exec (disch := first | sl_exact h0 | sl_exact h1 | sl_exact h2)
  sl_step
  iapply Hk
  isplitl [H4]
  · iexists _; isplitr; · ipureintro; exact harg4.read_unread _
    iexact H4
  isplitl [H9]
  · iexists _; isplitr; · ipureintro; exact harg9.read_unread _
    iexact H9
  iexists _; isplitr; swap; · iexact H7
  ipureintro
  sl_unfold_words
  simp only [View.readAt_eq_ld, harg4.read_unread, harg9.read_unread, View.ld_unit_zero (S := S1024x2048) Shared.hz2]
  exact read_split _ _ _ _

end Cert.KernelProj.Hand

end
-- ==== Proof.ProjPay.lean ====
/-
  The input projection's stores, at an index: the head-by-head transposes of a tile of the product, and its heads in rows.
-/
module

public import proofs.«01_k».proof.Proof.Gen.KernelProjIdeal.Frame
public import proofs.«01_k».proof.Proof.Gen.KernelProjIdeal.Skeleton
public import proofs.«01_k».proof.Proof.Common

@[expose] public section

set_option maxRecDepth 16384

noncomputable section

namespace Cert.KernelProjIdeal.Hand

open Cert.KernelProjIdeal Cert.KernelProjIdeal.Gen
open Idealize.ShloMosaic Idealize.ShloMosaic.TcCoe Idealize.ShloMosaic.Tactic
open Idealize.SL Idealize.SL.Sem

/-- A tile of the product cut into heads of 128 columns and blocks of 256 rows, each block transposed. -/
def turned (P : Vec Ideal S1024x1024 .f32) : Vec Ideal S8x4x128x256 .bf16 := fun y =>
  P (ix2 (⟨256 * (y 1).val + (y 3).val, by have := (y 1).isLt; have := (y 3).isLt; change (y 1).val < 4 at *; change (y 3).val < 256 at *; omega⟩ : Fin 1024)
    (⟨128 * (y 0).val + (y 2).val, by have := (y 0).isLt; have := (y 2).isLt; change (y 0).val < 8 at *; change (y 2).val < 128 at *; omega⟩ : Fin 1024))

/-- A tile of the product cut into heads of 128 columns. -/
def split (P : Vec Ideal S1024x1024 .f32) : Vec Ideal S8x1024x128 .bf16 := fun y =>
  P (ix2 (⟨(y 1).val, (y 1).isLt⟩ : Fin 1024)
    (⟨128 * (y 0).val + (y 2).val, by have := (y 0).isLt; have := (y 2).isLt; change (y 0).val < 8 at *; change (y 2).val < 128 at *; omega⟩ : Fin 1024))

/-- The stores of a point that projects queries or values, last first. -/
def turnedPieces (n : BitVec 32) (a w : Vec Ideal S1024x2048 .bf16) : List (View.Piece (Elt Ideal) S8x4x128x256 .bf16) :=
    [ ⟨Rect.unit (s := S8x4x128x256) ![7, 3, 0, 0] S1x1x128x256.size inb_S8x4x128x256_S1x1x128x256_7_3_0_0, k0_pay3 (k0_pay42 (k0_pay7 n a w))⟩,
      ⟨Rect.unit (s := S8x4x128x256) ![7, 2, 0, 0] S1x1x128x256.size inb_S8x4x128x256_S1x1x128x256_7_2_0_0, k0_pay41 (k0_pay7 n a w)⟩,
      ⟨Rect.unit (s := S8x4x128x256) ![7, 1, 0, 0] S1x1x128x256.size inb_S8x4x128x256_S1x1x128x256_7_1_0_0, k0_pay40 (k0_pay7 n a w)⟩,
      ⟨Rect.unit (s := S8x4x128x256) ![7, 0, 0, 0] S1x1x128x256.size inb_S8x4x128x256_S1x1x128x256_7_0_0_0, k0_pay39 (k0_pay7 n a w)⟩,
      ⟨Rect.unit (s := S8x4x128x256) ![6, 3, 0, 0] S1x1x128x256.size inb_S8x4x128x256_S1x1x128x256_6_3_0_0, k0_pay38 (k0_pay7 n a w)⟩,
      ⟨Rect.unit (s := S8x4x128x256) ![6, 2, 0, 0] S1x1x128x256.size inb_S8x4x128x256_S1x1x128x256_6_2_0_0, k0_pay37 (k0_pay7 n a w)⟩,
      ⟨Rect.unit (s := S8x4x128x256) ![6, 1, 0, 0] S1x1x128x256.size inb_S8x4x128x256_S1x1x128x256_6_1_0_0, k0_pay36 (k0_pay35 (k0_pay7 n a w))⟩,
      ⟨Rect.unit (s := S8x4x128x256) ![6, 0, 0, 0] S1x1x128x256.size inb_S8x4x128x256_S1x1x128x256_6_0_0_0, k0_pay34 (k0_pay7 n a w)⟩,
      ⟨Rect.unit (s := S8x4x128x256) ![5, 3, 0, 0] S1x1x128x256.size inb_S8x4x128x256_S1x1x128x256_5_3_0_0, k0_pay33 (k0_pay7 n a w)⟩,
      ⟨Rect.unit (s := S8x4x128x256) ![5, 2, 0, 0] S1x1x128x256.size inb_S8x4x128x256_S1x1x128x256_5_2_0_0, k0_pay32 (k0_pay7 n a w)⟩,
      ⟨Rect.unit (s := S8x4x128x256) ![5, 1, 0, 0] S1x1x128x256.size inb_S8x4x128x256_S1x1x128x256_5_1_0_0, k0_pay31 (k0_pay7 n a w)⟩,
      ⟨Rect.unit (s := S8x4x128x256) ![5, 0, 0, 0] S1x1x128x256.size inb_S8x4x128x256_S1x1x128x256_5_0_0_0, k0_pay30 (k0_pay29 (k0_pay7 n a w))⟩,
      ⟨Rect.unit (s := S8x4x128x256) ![4, 3, 0, 0] S1x1x128x256.size inb_S8x4x128x256_S1x1x128x256_4_3_0_0, k0_pay28 (k0_pay7 n a w)⟩,
      ⟨Rect.unit (s := S8x4x128x256) ![4, 2, 0, 0] S1x1x128x256.size inb_S8x4x128x256_S1x1x128x256_4_2_0_0, k0_pay27 (k0_pay7 n a w)⟩,
      ⟨Rect.unit (s := S8x4x128x256) ![4, 1, 0, 0] S1x1x128x256.size inb_S8x4x128x256_S1x1x128x256_4_1_0_0, k0_pay26 (k0_pay7 n a w)⟩,
      ⟨Rect.unit (s := S8x4x128x256) ![4, 0, 0, 0] S1x1x128x256.size inb_S8x4x128x256_S1x1x128x256_4_0_0_0, k0_pay25 (k0_pay7 n a w)⟩,
      ⟨Rect.unit (s := S8x4x128x256) ![3, 3, 0, 0] S1x1x128x256.size inb_S8x4x128x256_S1x1x128x256_3_3_0_0, k0_pay24 (k0_pay7 n a w)⟩,
      ⟨Rect.unit (s := S8x4x128x256) ![3, 2, 0, 0] S1x1x128x256.size inb_S8x4x128x256_S1x1x128x256_3_2_0_0, k0_pay23 (k0_pay7 n a w)⟩,
      ⟨Rect.unit (s := S8x4x128x256) ![3, 1, 0, 0] S1x1x128x256.size inb_S8x4x128x256_S1x1x128x256_3_1_0_0, k0_pay22 (k0_pay7 n a w)⟩,
      ⟨Rect.unit (s := S8x4x128x256) ![3, 0, 0, 0] S1x1x128x256.size inb_S8x4x128x256_S1x1x128x256_3_0_0_0, k0_pay21 (k0_pay7 n a w)⟩,
      ⟨Rect.unit (s := S8x4x128x256) ![2, 3, 0, 0] S1x1x128x256.size inb_S8x4x128x256_S1x1x128x256_2_3_0_0, k0_pay20 (k0_pay7 n a w)⟩,
      ⟨Rect.unit (s := S8x4x128x256) ![2, 2, 0, 0] S1x1x128x256.size inb_S8x4x128x256_S1x1x128x256_2_2_0_0, k0_pay19 (k0_pay7 n a w)⟩,
      ⟨Rect.unit (s := S8x4x128x256) ![2, 1, 0, 0] S1x1x128x256.size inb_S8x4x128x256_S1x1x128x256_2_1_0_0, k0_pay18 (k0_pay17 (k0_pay7 n a w))⟩,
      ⟨Rect.unit (s := S8x4x128x256) ![2, 0, 0, 0] S1x1x128x256.size inb_S8x4x128x256_S1x1x128x256_2_0_0_0, k0_pay16 (k0_pay7 n a w)⟩,
      ⟨Rect.unit (s := S8x4x128x256) ![1, 3, 0, 0] S1x1x128x256.size inb_S8x4x128x256_S1x1x128x256_1_3_0_0, k0_pay15 (k0_pay7 n a w)⟩,
      ⟨Rect.unit (s := S8x4x128x256) ![1, 2, 0, 0] S1x1x128x256.size inb_S8x4x128x256_S1x1x128x256_1_2_0_0, k0_pay14 (k0_pay7 n a w)⟩,
      ⟨Rect.unit (s := S8x4x128x256) ![1, 1, 0, 0] S1x1x128x256.size inb_S8x4x128x256_S1x1x128x256_1_1_0_0, k0_pay13 (k0_pay7 n a w)⟩,
      ⟨Rect.unit (s := S8x4x128x256) ![1, 0, 0, 0] S1x1x128x256.size inb_S8x4x128x256_S1x1x128x256_1_0_0_0, k0_pay12 (k0_pay7 n a w)⟩,
      ⟨Rect.unit (s := S8x4x128x256) ![0, 3, 0, 0] S1x1x128x256.size inb_S8x4x128x256_S1x1x128x256_0_3_0_0, k0_pay11 n a w⟩,
      ⟨Rect.unit (s := S8x4x128x256) ![0, 2, 0, 0] S1x1x128x256.size inb_S8x4x128x256_S1x1x128x256_0_2_0_0, k0_pay10 n a w⟩,
      ⟨Rect.unit (s := S8x4x128x256) ![0, 1, 0, 0] S1x1x128x256.size inb_S8x4x128x256_S1x1x128x256_0_1_0_0, k0_pay9 n a w⟩,
      ⟨Rect.unit (s := S8x4x128x256) ![0, 0, 0, 0] S1x1x128x256.size inb_S8x4x128x256_S1x1x128x256_0_0_0_0, k0_pay8 n a w⟩ ]

/-- The stores of a point that projects keys, last first. -/
def splitPieces (a w : Vec Ideal S1024x2048 .bf16) : List (View.Piece (Elt Ideal) S8x1024x128 .bf16) :=
    [ ⟨Rect.unit (s := S8x1024x128) ![7, 0, 0] S1x1024x128.size inb_S8x1024x128_S1x1024x128_7_0_0, k0_pay6 (k0_pay43 a w)⟩,
      ⟨Rect.unit (s := S8x1024x128) ![6, 0, 0] S1x1024x128.size inb_S8x1024x128_S1x1024x128_6_0_0, k0_pay5 (k0_pay43 a w)⟩,
      ⟨Rect.unit (s := S8x1024x128) ![5, 0, 0] S1x1024x128.size inb_S8x1024x128_S1x1024x128_5_0_0, k0_pay4 (k0_pay49 a w)⟩,
      ⟨Rect.unit (s := S8x1024x128) ![4, 0, 0] S1x1024x128.size inb_S8x1024x128_S1x1024x128_4_0_0, k0_pay48 a w⟩,
      ⟨Rect.unit (s := S8x1024x128) ![3, 0, 0] S1x1024x128.size inb_S8x1024x128_S1x1024x128_3_0_0, k0_pay47 a w⟩,
      ⟨Rect.unit (s := S8x1024x128) ![2, 0, 0] S1x1024x128.size inb_S8x1024x128_S1x1024x128_2_0_0, k0_pay46 a w⟩,
      ⟨Rect.unit (s := S8x1024x128) ![1, 0, 0] S1x1024x128.size inb_S8x1024x128_S1x1024x128_1_0_0, k0_pay45 a w⟩,
      ⟨Rect.unit (s := S8x1024x128) ![0, 0, 0] S1x1024x128.size inb_S8x1024x128_S1x1024x128_0_0_0, k0_pay44 a w⟩ ]

set_option maxHeartbeats 4000000 in
/-- Every store of a point that projects queries or values is a piece of the turned tile. -/
theorem turned_pieces (n : BitVec 32) (a w : Vec Ideal S1024x2048 .bf16) :
    ∀ p ∈ turnedPieces n a w, ∀ x : p.1.shape.Idx, p.2 x = turned (k0_pay7 n a w) (p.1.emb x) := by
  intro p hp
  simp only [turnedPieces, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro x
    idx_vars x
    pointwise [k0_pay3, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]
    have h0 := x0.isLt
    have h1 := x1.isLt
    refine congrArg₂ (fun r q => k0_pay7 n a w (ix2 r q)) (Fin.ext ?_) (Fin.ext ?_)
    · show _ = 256 * (_ + 1 * x1.val) + (_ + 1 * x3.val)
      simp <;> omega
    · show _ = 128 * (_ + 1 * x0.val) + (_ + 1 * x2.val)
      simp <;> omega

set_option maxHeartbeats 4000000 in
/-- Every store of a point that projects keys is a piece of the split tile. -/
theorem split_pieces (a w : Vec Ideal S1024x2048 .bf16) :
    ∀ p ∈ splitPieces a w, ∀ x : p.1.shape.Idx, p.2 x = split (k0_pay43 a w) (p.1.emb x) := by
  intro p hp
  simp only [splitPieces, List.mem_cons, List.not_mem_nil, or_false] at hp
  rcases hp with rfl | rfl | rfl | rfl | rfl | rfl | rfl | rfl
  all_goals
    intro x
    idx_vars x
    pointwise [k0_pay4, k0_pay5, k0_pay6, k0_pay44, k0_pay45, k0_pay46, k0_pay47, k0_pay48, k0_pay49]
    have h0 := x0.isLt
    refine congrArg₂ (fun r q => k0_pay43 a w (ix2 r q)) (Fin.ext ?_) (Fin.ext ?_)
    · show _ = _ + 1 * x1.val
      simp
    · show _ = 128 * (_ + 1 * x0.val) + (_ + 1 * x2.val)
      simp <;> omega

end Cert.KernelProjIdeal.Hand

end
-- ==== Proof.ProjRun.lean ====
/-
  The input projection's body, run in each of its three cases: what it leaves in the staging buffers that it stores into.
-/
module

public import proofs.«01_k».proof.Proof.ProjPay

@[expose] public section

set_option maxRecDepth 16384

noncomputable section

namespace Cert.KernelProjIdeal.Hand

open Cert.KernelProjIdeal Cert.KernelProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The point is its row block's first. -/
abbrev cond0 (i : grid0.Coords) : Prop := k0_cond1 i = 1#1

/-- The point projects queries or values. -/
abbrev cond1 (i : grid0.Coords) : Prop := k0_cond2 i = 1#1

/-- The point projects keys. -/
abbrev cond2 (i : grid0.Coords) : Prop := k0_cond3 i = 1#1

/-- The tile of the product that the point computes. -/
abbrev tile (i : grid0.Coords) : BitVec 32 := BitVec.ofNat 32 (i 1).val

/-- After the stores of a point that projects queries or values the buffer holds the turned tile. -/
theorem read_turned (v : View sig .tc .vmem S8x4x128x256 .bf16) (f : v.ty.Contents (Elt Ideal)) (n : BitVec 32) (a w : Vec Ideal S1024x2048 .bf16) :
    v.read (Elt Ideal) (v.writes (Elt Ideal) f (turnedPieces n a w)) = turned (k0_pay7 n a w) :=
  funext fun y => View.read_writes_apply_of_pieces v f (turned (k0_pay7 n a w)) (turnedPieces n a w) (turned_pieces n a w) y
    (View.cover_of_tiledL (turnedPieces n a w) S1x1x128x256.size (by sl_kernel_rfl) y)

/-- After the stores of a point that projects keys the buffer holds the split tile. -/
theorem read_split (v : View sig .tc .vmem S8x1024x128 .bf16) (f : v.ty.Contents (Elt Ideal)) (a w : Vec Ideal S1024x2048 .bf16) :
    v.read (Elt Ideal) (v.writes (Elt Ideal) f (splitPieces a w)) = split (k0_pay43 a w) :=
  funext fun y => View.read_writes_apply_of_pieces v f (split (k0_pay43 a w)) (splitPieces a w) (split_pieces a w) y
    (View.cover_of_tiledL (splitPieces a w) S1x1024x128.size (by sl_kernel_rfl) y)

set_option maxHeartbeats 4000000 in
/-- A row block's first point: the rows are normalised, the normalised rows and their product with the forget weights
    are stored, and the first tile of the product. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S2048x128 .f32) (harg5 : arg5.IsWhole) (arg6 : Memref sig .tc .vmem S8x4x128x256 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S1024x2048 .bf16) (harg9 : arg9.IsWhole)
    (h0 : cond0 i) (h1 : cond1 i) (h2 : ¬cond2 i)
    (x : Vec Ideal S1024x2048 .f32) (g : Vec Ideal S1x2048 .f32) (w : Vec Ideal S1024x2048 .bf16) (v : Vec Ideal S2048x128 .f32) (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare v ∗ (∃ d, owns (c : Thread nD τ) arg6 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare g ∗ owns (c : Thread nD τ) arg4 fullShare w ∗ owns (c : Thread nD τ) arg5 fullShare v ∗ owns (c : Thread nD τ) arg6 fullShare (turned (k0_pay7 (tile i) (k0_pay1 x g) w)) ∗ owns (c : Thread nD τ) arg8 fullShare (k0_pay2 v (k0_pay1 x g)) ∗ owns (c : Thread nD τ) arg9 fullShare (k0_pay1 x g)) -∗ K ⟨⟩))
      ⊢ wp frame (wpE (defs₀ (F := Ideal)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | sl_exact h0 | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    simp only [View.readAt_eq_ld, View.readCov_unit_zero (S := S1024x2048) _ Shared.hz2, harg2.read_unread, harg3.read_unread, harg4.read_unread, harg5.read_unread, View.ld_unit_zero (S := S1024x2048) Shared.hz2, View.ld_unit_zero (S := S1x2048) Shared.hz2, View.ld_unit_zero (S := S2048x128) Shared.hz2]
    exact read_turned _ _ _ _ _
  isplitl [H8]
  · iexists _; isplitr; swap; · iexact H8
    ipureintro
    sl_unfold_words
    simp only [View.readAt_eq_ld, View.readCov_unit_zero (S := S1024x2048) _ Shared.hz2, harg2.read_unread, harg3.read_unread, harg4.read_unread, harg5.read_unread, View.ld_unit_zero (S := S1024x2048) Shared.hz2, View.ld_unit_zero (S := S1x2048) Shared.hz2, View.ld_unit_zero (S := S2048x128) Shared.hz2]
    exact (View.read_writes_eq_canon _ _ _ (View.cover_of_tiledL _ S1024x128.size (by sl_kernel_rfl))).trans (View.canon_unit_zero Shared.hz2 _ _)
  iexists _; isplitr; swap; · iexact H9
  ipureintro
  sl_unfold_words
  simp only [View.readAt_eq_ld, View.readCov_unit_zero (S := S1024x2048) _ Shared.hz2, harg2.read_unread, harg3.read_unread, harg4.read_unread, harg5.read_unread, View.ld_unit_zero (S := S1024x2048) Shared.hz2, View.ld_unit_zero (S := S1x2048) Shared.hz2, View.ld_unit_zero (S := S2048x128) Shared.hz2]
  exact (View.read_writes_eq_canon _ _ _ (View.cover_of_tiledL _ S1024x2048.size (by sl_kernel_rfl))).trans (View.canon_unit_zero Shared.hz2 _ _)

set_option maxHeartbeats 4000000 in
/-- Another of a row block's points that project queries or values: the tile of the product is stored. -/
theorem run_turned (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S2048x128 .f32) (harg5 : arg5.IsWhole) (arg6 : Memref sig .tc .vmem S8x4x128x256 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S1024x2048 .bf16) (harg9 : arg9.IsWhole)
    (h0 : ¬cond0 i) (h1 : cond1 i) (h2 : ¬cond2 i)
    (w : Vec Ideal S1024x2048 .bf16) (a : Vec Ideal S1024x2048 .bf16) (E : Set ℕ) (K : PUnit → sProp 𝕄) :
    iprop(owns (c : Thread nD τ) arg4 fullShare w ∗ owns (c : Thread nD τ) arg9 fullShare a ∗ (∃ d, owns (c : Thread nD τ) arg6 fullShare d)
        ∗ (iprop(owns (c : Thread nD τ) arg4 fullShare w ∗ owns (c : Thread nD τ) arg9 fullShare a ∗ owns (c : Thread nD τ) arg6 fullShare (turned (k0_pay7 (tile i) a w))) -∗ K ⟨⟩))
      ⊢ wp frame (wpE (defs₀ (F := Ideal)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton]
  unfold owns
  iintro ⟨⟨%f4, %hf4, H4⟩, ⟨%f9, %hf9, H9⟩, ⟨%d6, %f6, -, H6⟩, Hk⟩
  obtain rfl := harg4.eq_unread hf4; obtain rfl := harg9.eq_unread hf9
  sl_exec (disch := first | sl_exact h0 | sl_exact h1 | sl_exact h2)
  sl_step
  iapply Hk
  isplitl [H4]
  · iexists _; isplitr; · ipureintro; exact harg4.read_unread _
    iexact H4
  isplitl [H9]
  · iexists _; isplitr; · ipureintro; exact harg9.read_unread _
    iexact H9
  iexists _; isplitr; swap; · iexact H6
  ipureintro
  sl_unfold_words
  simp only [View.readAt_eq_ld, harg4.read_unread, harg9.read_unread, View.ld_unit_zero (S := S1024x2048) Shared.hz2]
  exact read_turned _ _ _ _ _

set_option maxHeartbeats 4000000 in
/-- A point that projects keys: the tile of the product is stored. -/
theorem run_split (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole) (arg5 : Memref sig .tc .vmem S2048x128 .f32) (harg5 : arg5.IsWhole) (arg6 : Memref sig .tc .vmem S8x4x128x256 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S1024x2048 .bf16) (harg9 : arg9.IsWhole)
    (h0 : ¬cond0 i) (h1 : ¬cond1 i) (h2 : cond2 i)
    (w : Vec Ideal S1024x2048 .bf16) (a : Vec Ideal S1024x2048 .bf16) (E : Set ℕ) (K : PUnit → sProp 𝕄) :
    iprop(owns (c : Thread nD τ) arg4 fullShare w ∗ owns (c : Thread nD τ) arg9 fullShare a ∗ (∃ d, owns (c : Thread nD τ) arg7 fullShare d)
        ∗ (iprop(owns (c : Thread nD τ) arg4 fullShare w ∗ owns (c : Thread nD τ) arg9 fullShare a ∗ owns (c : Thread nD τ) arg7 fullShare (split (k0_pay43 a w))) -∗ K ⟨⟩))
      ⊢ wp frame (wpE (defs₀ (F := Ideal)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  simp only [k0_part7_eq_skeleton]
  unfold owns
  iintro ⟨⟨%f4, %hf4, H4⟩, ⟨%f9, %hf9, H9⟩, ⟨%d7, %f7, -, H7⟩, Hk⟩
  obtain rfl := harg4.eq_unread hf4; obtain rfl := harg9.eq_unread hf9
  sl_exec (disch := first | sl_exact h0 | sl_exact h1 | sl_exact h2)
  sl_step
  iapply Hk
  isplitl [H4]
  · iexists _; isplitr; · ipureintro; exact harg4.read_unread _
    iexact H4
  isplitl [H9]
  · iexists _; isplitr; · ipureintro; exact harg9.read_unread _
    iexact H9
  iexists _; isplitr; swap; · iexact H7
  ipureintro
  sl_unfold_words
  simp only [View.readAt_eq_ld, harg4.read_unread, harg9.read_unread, View.ld_unit_zero (S := S1024x2048) Shared.hz2]
  exact read_split _ _ _ _

end Cert.KernelProjIdeal.Hand

end
-- ==== Proof.ProjFrame.lean ====
/-
  The input projection over the reals runs to its end, and what each of its four arrays then holds of a block: at each
  point of the grid the staging buffers hold the rows of the block normalised, their product with the forget weights,
  and the tile of the projection last computed.
-/
module

public import proofs.«01_k».proof.Proof.ProjRun
public import Idealize.ShloMosaic.Lib.Claim

@[expose] public section

set_option maxRecDepth 16384

noncomputable section

namespace Cert.KernelProjIdeal.Hand

open Cert.KernelProjIdeal Cert.KernelProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

/-! ## The schedule -/

/-- When a point is its row block's first. -/
theorem cond0_iff : ∀ t : Fin cfg0.N, cond0 (grid0.coords t) ↔ t.val % 6 = 0 :=
  (by decide +kernel : ∀ t : Fin grid0.N, cond0 (grid0.coords t) ↔ t.val % 6 = 0)

/-- When a point projects queries or values. -/
theorem cond1_iff : ∀ t : Fin cfg0.N, cond1 (grid0.coords t) ↔ t.val % 6 ≤ 3 :=
  (by decide +kernel : ∀ t : Fin grid0.N, cond1 (grid0.coords t) ↔ t.val % 6 ≤ 3)

/-- When a point projects keys. -/
theorem cond2_iff : ∀ t : Fin cfg0.N, cond2 (grid0.coords t) ↔ 4 ≤ t.val % 6 :=
  (by decide +kernel : ∀ t : Fin grid0.N, cond2 (grid0.coords t) ↔ 4 ≤ t.val % 6)

/-- When the block of queries and values is written back. -/
theorem flush_4 : ∀ t : Fin cfg0.N, (cfg0.win 4).flush t = true ↔ t.val % 6 ≤ 2 ∨ t.val % 6 = 5 :=
  (by decide +kernel : ∀ t : Fin grid0.N, win0_4.flush t = true ↔ t.val % 6 ≤ 2 ∨ t.val % 6 = 5)

/-- When the block of keys is written back. -/
theorem flush_5 : ∀ t : Fin cfg0.N, (cfg0.win 5).flush t = true ↔ 4 ≤ t.val % 6 :=
  (by decide +kernel : ∀ t : Fin grid0.N, win0_5.flush t = true ↔ 4 ≤ t.val % 6)

theorem idle_4 (t : Fin cfg0.N) : cfg0.idle 4 (cfg0.grid.coords t) = !decide (t.val % 6 ≤ 3) := by
  show (!(k0_cond2 (grid0.coords t) == 1#1)) = _
  rw [show (k0_cond2 (grid0.coords t) == 1#1) = decide (cond1 (grid0.coords t)) from rfl, decide_eq_decide.mpr (cond1_iff t)]

theorem idle_5 (t : Fin cfg0.N) : cfg0.idle 5 (cfg0.grid.coords t) = !decide (4 ≤ t.val % 6) := by
  show (!(k0_cond3 (grid0.coords t) == 1#1)) = _
  rw [show (k0_cond3 (grid0.coords t) == 1#1) = decide (cond2 (grid0.coords t)) from rfl, decide_eq_decide.mpr (cond2_iff t)]

theorem idle_6 (t : Fin cfg0.N) : cfg0.idle 6 (cfg0.grid.coords t) = !decide (t.val % 6 = 0) := by
  show (!(k0_cond1 (grid0.coords t) == 1#1)) = _
  rw [show (k0_cond1 (grid0.coords t) == 1#1) = decide (cond0 (grid0.coords t)) from rfl, decide_eq_decide.mpr (cond0_iff t)]

theorem idle_7 (t : Fin cfg0.N) : cfg0.idle 7 (cfg0.grid.coords t) = !decide (t.val % 6 = 0) := idle_6 t

/-! ## What the buffers hold -/

/-- The first point of a point's row block. -/
def first (t : Fin cfg0.N) : Fin cfg0.N := ⟨t.val / 6 * 6, by have := t.isLt; omega⟩

/-- The last point, up to a given one, of those that project queries or values. -/
def lastTurned (t : Fin cfg0.N) : Fin cfg0.N := ⟨min t.val (t.val / 6 * 6 + 3), by have := t.isLt; omega⟩

/-- The normalised rows of a point's row block. -/
def rowsAt (c : Dev nD) (t : Fin cfg0.N) : Vec Ideal S1024x2048 .bf16 :=
  k0_pay1 (iblk m c 0 (first t)) (iblk m c 1 (first t))

/-- The product of the row block with the forget weights. -/
def forgetAt (c : Dev nD) (t : Fin cfg0.N) : Vec Ideal S1024x128 .f32 :=
  k0_pay2 (iblk m c 3 (first t)) (rowsAt m c t)

/-- The tile of queries or values last computed. -/
def turnedAt (c : Dev nD) (t : Fin cfg0.N) : Vec Ideal S8x4x128x256 .bf16 :=
  turned (k0_pay7 (tile (grid0.coords (lastTurned t))) (rowsAt m c t) (iblk m c 2 (lastTurned t)))

/-- The tile of keys computed at a point that projects keys. -/
def splitAt (c : Dev nD) (t : Fin cfg0.N) : Vec Ideal S8x1024x128 .bf16 :=
  split (k0_pay43 (rowsAt m c t) (iblk m c 2 t))

/-- What each window's buffer holds after the body at a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => turnedAt m c t
    | ⟨5, _⟩ => splitAt m c t
    | ⟨6, _⟩ => forgetAt m c t
    | ⟨7, _⟩ => rowsAt m c t
  Φ _ := Pipeline.ΦA spec0 c
  q _ := fullShare
  owed _ := 0

theorem array_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = turnedAt m c t := by dsimp only [dats]
theorem after_5 (c : Dev nD) (t : Fin cfg0.N) : (dats m 0 c).after 5 t = splitAt m c t := by dsimp only [dats]
theorem after_6 (c : Dev nD) (t : Fin cfg0.N) : (dats m 0 c).after 6 t = forgetAt m c t := by dsimp only [dats]
theorem after_7 (c : Dev nD) (t : Fin cfg0.N) : (dats m 0 c).after 7 t = rowsAt m c t := by dsimp only [dats]

theorem before_0 (c : Dev nD) (t : Fin cfg0.N) (d) : (dats m 0 c).before 0 t d = iblk m c 0 t :=
  before0_0_of m (dats m 0 c) (array_eq m c 0) (after_0 m c) t d
theorem before_1 (c : Dev nD) (t : Fin cfg0.N) (d) : (dats m 0 c).before 1 t d = iblk m c 1 t :=
  before0_1_of m (dats m 0 c) (array_eq m c 1) (after_1 m c) t d
theorem before_2 (c : Dev nD) (t : Fin cfg0.N) (d) : (dats m 0 c).before 2 t d = iblk m c 2 t :=
  before0_2_of m (dats m 0 c) (array_eq m c 2) (after_2 m c) t d
theorem before_3 (c : Dev nD) (t : Fin cfg0.N) (d) : (dats m 0 c).before 3 t d = iblk m c 3 t :=
  before0_3_of m (dats m 0 c) (array_eq m c 3) (after_3 m c) t d

/-- What a point leaves of an output it stores into. -/
theorem kept_eq {c : Dev nD} (dat : Dat τ (Elt Ideal) Unit ℕ (UR sig nD τ) ℕ cfg0 c) (w : Fin cfg0.W) (t : Fin cfg0.N)
    (hclip : ∀ a, (cfg0.win w).clip (cfg0.grid.coords t) a = none) (d) : dat.kept w t d = dat.after w t := by
  unfold Dat.kept
  rw [Pipeline.fill_of_clip_none w _ hclip d (dat.after w t), Window.fill_cut]

/-- The buffer of an output that neither the point before wrote back nor stored into is as that point found it. -/
theorem before_idle {c : Dev nD} (dat : Dat τ (Elt Ideal) Unit ℕ (UR sig nD τ) ℕ cfg0 c) (w : Fin cfg0.W) (k : ℕ) (h : k + 1 < cfg0.N)
    (hf : (cfg0.win w).fetch ⟨k + 1, h⟩ = false) (hl : (cfg0.win w).flush ⟨k, Nat.lt_of_succ_lt h⟩ = false)
    (hi : cfg0.idle w (cfg0.grid.coords ⟨k, Nat.lt_of_succ_lt h⟩) = true) (d) :
    dat.before w ⟨k + 1, h⟩ d = dat.before w ⟨k, Nat.lt_of_succ_lt h⟩ d := by
  rw [dat.before_of_pos w ⟨k + 1, h⟩ (Nat.succ_ne_zero k) hf d]
  show (if (cfg0.win w).flush ⟨k, _⟩ = true then d else dat.left w ⟨k, _⟩ d) = _
  rw [if_neg (by rw [hl]; exact Bool.false_ne_true)]
  unfold Dat.left; rw [hi]

/-- The buffer of an output that the point before stored into, and did not write back, is what that point left. -/
theorem before_live {c : Dev nD} (dat : Dat τ (Elt Ideal) Unit ℕ (UR sig nD τ) ℕ cfg0 c) (w : Fin cfg0.W) (k : ℕ) (h : k + 1 < cfg0.N)
    (hf : (cfg0.win w).fetch ⟨k + 1, h⟩ = false) (hl : (cfg0.win w).flush ⟨k, Nat.lt_of_succ_lt h⟩ = false)
    (hi : cfg0.idle w (cfg0.grid.coords ⟨k, Nat.lt_of_succ_lt h⟩) = false)
    (hclip : ∀ a, (cfg0.win w).clip (cfg0.grid.coords ⟨k, Nat.lt_of_succ_lt h⟩) a = none) (d) :
    dat.before w ⟨k + 1, h⟩ d = dat.after w ⟨k, Nat.lt_of_succ_lt h⟩ := by
  rw [dat.before_of_pos w ⟨k + 1, h⟩ (Nat.succ_ne_zero k) hf d]
  show (if (cfg0.win w).flush ⟨k, _⟩ = true then d else dat.left w ⟨k, _⟩ d) = _
  rw [if_neg (by rw [hl]; exact Bool.false_ne_true)]
  unfold Dat.left; rw [hi]
  exact kept_eq dat w _ hclip d

theorem first_succ (k : ℕ) (h : k + 1 < cfg0.N) (hk : (k + 1) % 6 ≠ 0) : first ⟨k + 1, h⟩ = first ⟨k, Nat.lt_of_succ_lt h⟩ :=
  Fin.ext (by show (k + 1) / 6 * 6 = k / 6 * 6; omega)

theorem rowsAt_succ (c : Dev nD) (k : ℕ) (h : k + 1 < cfg0.N) (hk : (k + 1) % 6 ≠ 0) :
    rowsAt m c ⟨k + 1, h⟩ = rowsAt m c ⟨k, Nat.lt_of_succ_lt h⟩ := by
  unfold rowsAt; rw [first_succ k h hk]

theorem forgetAt_succ (c : Dev nD) (k : ℕ) (h : k + 1 < cfg0.N) (hk : (k + 1) % 6 ≠ 0) :
    forgetAt m c ⟨k + 1, h⟩ = forgetAt m c ⟨k, Nat.lt_of_succ_lt h⟩ := by
  unfold forgetAt; rw [first_succ k h hk, rowsAt_succ m c k h hk]

theorem turnedAt_succ (c : Dev nD) (k : ℕ) (h : k + 1 < cfg0.N) (hk : 4 ≤ (k + 1) % 6) :
    turnedAt m c ⟨k + 1, h⟩ = turnedAt m c ⟨k, Nat.lt_of_succ_lt h⟩ := by
  unfold turnedAt
  rw [rowsAt_succ m c k h (by omega),
    show lastTurned ⟨k + 1, h⟩ = lastTurned ⟨k, Nat.lt_of_succ_lt h⟩ from Fin.ext (by show min (k + 1) ((k + 1) / 6 * 6 + 3) = min k (k / 6 * 6 + 3); omega)]

/-- After a row block's first point its normalised rows stay in their buffer. -/
theorem before_7 (c : Dev nD) : ∀ (n : ℕ) (h : n < cfg0.N), n % 6 ≠ 0 → ∀ d, (dats m 0 c).before 7 ⟨n, h⟩ d = rowsAt m c ⟨n, h⟩
  | 0, _, hn, _ => absurd rfl hn
  | k + 1, h, hn, d => by
    have hl : (cfg0.win 7).flush ⟨k, Nat.lt_of_succ_lt h⟩ = false := Bool.eq_false_iff.mpr fun e => by
      have := (flush0_7 ⟨k, Nat.lt_of_succ_lt h⟩).mp e; dsimp only at this; omega
    rw [rowsAt_succ m c k h hn]
    by_cases hk : k % 6 = 0
    · have hi : cfg0.idle 7 (cfg0.grid.coords ⟨k, Nat.lt_of_succ_lt h⟩) = false := by rw [idle_7, decide_eq_true hk]; rfl
      exact (before_live (dats m 0 c) 7 k h rfl hl hi (fun _ => rfl) d).trans (after_7 m c _)
    · have hi : cfg0.idle 7 (cfg0.grid.coords ⟨k, Nat.lt_of_succ_lt h⟩) = true := by rw [idle_7, decide_eq_false hk]; rfl
      exact (before_idle (dats m 0 c) 7 k h rfl hl hi d).trans (before_7 c k (Nat.lt_of_succ_lt h) hk d)

/-- After a row block's first point its product with the forget weights stays in its buffer. -/
theorem before_6 (c : Dev nD) : ∀ (n : ℕ) (h : n < cfg0.N), n % 6 ≠ 0 → ∀ d, (dats m 0 c).before 6 ⟨n, h⟩ d = forgetAt m c ⟨n, h⟩
  | 0, _, hn, _ => absurd rfl hn
  | k + 1, h, hn, d => by
    have hl : (cfg0.win 6).flush ⟨k, Nat.lt_of_succ_lt h⟩ = false := Bool.eq_false_iff.mpr fun e => by
      have := (flush0_6 ⟨k, Nat.lt_of_succ_lt h⟩).mp e; dsimp only at this; omega
    rw [forgetAt_succ m c k h hn]
    by_cases hk : k % 6 = 0
    · have hi : cfg0.idle 6 (cfg0.grid.coords ⟨k, Nat.lt_of_succ_lt h⟩) = false := by rw [idle_6, decide_eq_true hk]; rfl
      exact (before_live (dats m 0 c) 6 k h rfl hl hi (fun _ => rfl) d).trans (after_6 m c _)
    · have hi : cfg0.idle 6 (cfg0.grid.coords ⟨k, Nat.lt_of_succ_lt h⟩) = true := by rw [idle_6, decide_eq_false hk]; rfl
      exact (before_idle (dats m 0 c) 6 k h rfl hl hi d).trans (before_6 c k (Nat.lt_of_succ_lt h) hk d)

/-- At the points that project keys the last tile of values stays in its buffer. -/
theorem before_4 (c : Dev nD) : ∀ (n : ℕ) (h : n < cfg0.N), 4 ≤ n % 6 → ∀ d, (dats m 0 c).before 4 ⟨n, h⟩ d = turnedAt m c ⟨n, h⟩
  | 0, _, hn, _ => absurd hn (by decide)
  | k + 1, h, hn, d => by
    have hl : (cfg0.win 4).flush ⟨k, Nat.lt_of_succ_lt h⟩ = false := Bool.eq_false_iff.mpr fun e => by
      have := (flush_4 ⟨k, Nat.lt_of_succ_lt h⟩).mp e; dsimp only at this; omega
    rw [turnedAt_succ m c k h hn]
    by_cases hk : k % 6 ≤ 3
    · have hi : cfg0.idle 4 (cfg0.grid.coords ⟨k, Nat.lt_of_succ_lt h⟩) = false := by rw [idle_4, decide_eq_true hk]; rfl
      exact (before_live (dats m 0 c) 4 k h rfl hl hi (fun _ => rfl) d).trans (after_4 m c _)
    · have hi : cfg0.idle 4 (cfg0.grid.coords ⟨k, Nat.lt_of_succ_lt h⟩) = true := by rw [idle_4, decide_eq_false hk]; rfl
      exact (before_idle (dats m 0 c) 4 k h rfl hl hi d).trans (before_4 c k (Nat.lt_of_succ_lt h) (by omega) d)

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem live_0 (c : Dev nD) (t : Fin cfg0.N) : (dats m 0 c).leavesExact 0 t = owns (c : Thread nD τ) ((cfg0.win 0).stage (cfg0.slots t 0)) fullShare (iblk m c 0 t) := by
  rw [← after_0 m c t]

theorem live_1 (c : Dev nD) (t : Fin cfg0.N) : (dats m 0 c).leavesExact 1 t = owns (c : Thread nD τ) ((cfg0.win 1).stage (cfg0.slots t 1)) fullShare (iblk m c 1 t) := by
  rw [← after_1 m c t]

theorem live_2 (c : Dev nD) (t : Fin cfg0.N) : (dats m 0 c).leavesExact 2 t = owns (c : Thread nD τ) ((cfg0.win 2).stage (cfg0.slots t 2)) fullShare (iblk m c 2 t) := by
  rw [← after_2 m c t]

theorem live_3 (c : Dev nD) (t : Fin cfg0.N) : (dats m 0 c).leavesExact 3 t = owns (c : Thread nD τ) ((cfg0.win 3).stage (cfg0.slots t 3)) fullShare (iblk m c 3 t) := by
  rw [← after_3 m c t]

/-- A window that the point stores into is left at what the body stored. -/
theorem leaves_live {c : Dev nD} (dat : Dat τ (Elt Ideal) Unit ℕ (UR sig nD τ) ℕ cfg0 c) (w : Fin cfg0.W) (t : Fin cfg0.N) (h : cfg0.idle w (cfg0.grid.coords t) = false) :
    dat.leavesExact w t = owns (c : Thread nD τ) ((cfg0.win w).stage (cfg0.slots t w)) fullShare (dat.after w t) := by
  unfold Dat.leavesExact; rw [h]

/-- A window that the point writes back is left at what it then holds. -/
theorem leaves_flush {c : Dev nD} (dat : Dat τ (Elt Ideal) Unit ℕ (UR sig nD τ) ℕ cfg0 c) (w : Fin cfg0.W) (t : Fin cfg0.N) (h : cfg0.idle w (cfg0.grid.coords t) = true)
    (hf : (cfg0.win w).flush t = true) :
    dat.leavesExact w t = owns (c : Thread nD τ) ((cfg0.win w).stage (cfg0.slots t w)) fullShare (dat.after w t) := by
  unfold Dat.leavesExact; rw [h, hf]

theorem rowsAt_first (c : Dev nD) (t : Fin cfg0.N) (h : t.val % 6 = 0) : k0_pay1 (iblk m c 0 t) (iblk m c 1 t) = rowsAt m c t := by
  unfold rowsAt; rw [show first t = t from Fin.ext (by show t.val / 6 * 6 = t.val; omega)]

theorem forgetAt_first (c : Dev nD) (t : Fin cfg0.N) (h : t.val % 6 = 0) : k0_pay2 (iblk m c 3 t) (rowsAt m c t) = forgetAt m c t := by
  unfold forgetAt; rw [show first t = t from Fin.ext (by show t.val / 6 * 6 = t.val; omega)]

theorem turnedAt_live (c : Dev nD) (t : Fin cfg0.N) (h : t.val % 6 ≤ 3) :
    turned (k0_pay7 (tile (grid0.coords t)) (rowsAt m c t) (iblk m c 2 t)) = turnedAt m c t := by
  unfold turnedAt; rw [show lastTurned t = t from Fin.ext (by show min t.val (t.val / 6 * 6 + 3) = t.val; omega)]

set_option maxHeartbeats 2400000 in
/-- The body at a row block's first point. -/
theorem body_A (c : Dev nD) (t : Fin cfg0.N) (ht : t.val % 6 = 0) :
    bodyPre m c t ⊢ wp frame (wpE (defs₀ (F := Ideal)) Variants.none c none) Set.univ (bodyAt0 t) (fun _ => bodyPost m c t) := by
  have i4 : cfg0.idle 4 (cfg0.grid.coords t) = false := by
    rw [idle_4 t, show decide (t.val % 6 ≤ 3) = true from decide_eq_true (by omega)]; rfl
  have i5 : cfg0.idle 5 (cfg0.grid.coords t) = true := by
    rw [idle_5 t, show decide (4 ≤ t.val % 6) = false from decide_eq_false (by omega)]; rfl
  have i6 : cfg0.idle 6 (cfg0.grid.coords t) = false := by
    rw [idle_6 t, show decide (t.val % 6 = 0) = true from decide_eq_true (by omega)]; rfl
  have i7 : cfg0.idle 7 (cfg0.grid.coords t) = false := by
    rw [idle_7 t, show decide (t.val % 6 = 0) = true from decide_eq_true (by omega)]; rfl
  have f5 : (cfg0.win 5).flush t = false := Bool.eq_false_iff.mpr fun e => by have := (flush_5 t).mp e; omega
  unfold bodyPre bodyPost bodyAt0
  rw [show (dats m 0 c).Φ t.succ = (dats m 0 c).Φ t.castSucc from rfl, show (dats m 0 c).owesAt () t.succ = (dats m 0 c).owesAt () t.castSucc from rfl,
    live_0 m c t, live_1 m c t, live_2 m c t, live_3 m c t, leaves_live (dats m 0 c) 4 t i4, after_4 m c t, leaves_live (dats m 0 c) 6 t i6, after_6 m c t, leaves_live (dats m 0 c) 7 t i7, after_7 m c t, Dat.leavesExact_idle (dats m 0 c) 5 t i5 f5]
  simp only [before_0, before_1, before_2, before_3]
  rw [← turnedAt_live m c t (by omega), ← forgetAt_first m c t ht, ← rowsAt_first m c t ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ ((cond0_iff t).mpr ht) ((cond1_iff t).mpr (by omega)) (fun h => by have := (cond2_iff t).mp h; omega) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H6]; · iexists _; iexact H6
  isplitl [H7]; · iexists _; iexact H7
  iintro ⟨H0, H1, H2, H3, H4, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexact H6
  iexact H7

set_option maxHeartbeats 2400000 in
/-- The body at another point that projects queries or values. -/
theorem body_B (c : Dev nD) (t : Fin cfg0.N) (ht : t.val % 6 ≠ 0 ∧ t.val % 6 ≤ 3) :
    bodyPre m c t ⊢ wp frame (wpE (defs₀ (F := Ideal)) Variants.none c none) Set.univ (bodyAt0 t) (fun _ => bodyPost m c t) := by
  have i4 : cfg0.idle 4 (cfg0.grid.coords t) = false := by
    rw [idle_4 t, show decide (t.val % 6 ≤ 3) = true from decide_eq_true (by omega)]; rfl
  have i5 : cfg0.idle 5 (cfg0.grid.coords t) = true := by
    rw [idle_5 t, show decide (4 ≤ t.val % 6) = false from decide_eq_false (by omega)]; rfl
  have i6 : cfg0.idle 6 (cfg0.grid.coords t) = true := by
    rw [idle_6 t, show decide (t.val % 6 = 0) = false from decide_eq_false (by omega)]; rfl
  have i7 : cfg0.idle 7 (cfg0.grid.coords t) = true := by
    rw [idle_7 t, show decide (t.val % 6 = 0) = false from decide_eq_false (by omega)]; rfl
  have f5 : (cfg0.win 5).flush t = false := Bool.eq_false_iff.mpr fun e => by have := (flush_5 t).mp e; omega
  have f6 : (cfg0.win 6).flush t = false := Bool.eq_false_iff.mpr fun e => by have := (flush0_6 t).mp e; omega
  have f7 : (cfg0.win 7).flush t = false := Bool.eq_false_iff.mpr fun e => by have := (flush0_7 t).mp e; omega
  unfold bodyPre bodyPost bodyAt0
  rw [show (dats m 0 c).Φ t.succ = (dats m 0 c).Φ t.castSucc from rfl, show (dats m 0 c).owesAt () t.succ = (dats m 0 c).owesAt () t.castSucc from rfl,
    live_0 m c t, live_1 m c t, live_2 m c t, live_3 m c t, leaves_live (dats m 0 c) 4 t i4, after_4 m c t, Dat.leavesExact_idle (dats m 0 c) 5 t i5 f5, Dat.leavesExact_idle (dats m 0 c) 6 t i6 f6, Dat.leavesExact_idle (dats m 0 c) 7 t i7 f7]
  simp only [before_0, before_1, before_2, before_3, before_7 m c t.val t.isLt (by omega)]
  rw [← turnedAt_live m c t ht.2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_turned c (grid0.coords t) _ _ _ _ _ _ _ _ _ _ _ _ _ _ _ _ (fun h => by have := (cond0_iff t).mp h; omega) ((cond1_iff t).mpr (by omega)) (fun h => by have := (cond2_iff t).mp h; omega) (iblk m c 2 t) (rowsAt m c t) Set.univ _)
  isplitl [H2]; · iexact H2
  isplitl [H7]; · iexact H7
  isplitl [H4]; · iexists _; iexact H4
  iintro ⟨H2, H7, H4⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  iexists d7; iexact H7

set_option maxHeartbeats 2400000 in
/-- The body at a row block's first point that projects keys. -/
theorem body_D (c : Dev nD) (t : Fin cfg0.N) (ht : t.val % 6 = 4) :
    bodyPre m c t ⊢ wp frame (wpE (defs₀ (F := Ideal)) Variants.none c none) Set.univ (bodyAt0 t) (fun _ => bodyPost m c t) := by
  have i4 : cfg0.idle 4 (cfg0.grid.coords t) = true := by
    rw [idle_4 t, show decide (t.val % 6 ≤ 3) = false from decide_eq_false (by omega)]; rfl
  have i5 : cfg0.idle 5 (cfg0.grid.coords t) = false := by
    rw [idle_5 t, show decide (4 ≤ t.val % 6) = true from decide_eq_true (by omega)]; rfl
  have i6 : cfg0.idle 6 (cfg0.grid.coords t) = true := by
    rw [idle_6 t, show decide (t.val % 6 = 0) = false from decide_eq_false (by omega)]; rfl
  have i7 : cfg0.idle 7 (cfg0.grid.coords t) = true := by
    rw [idle_7 t, show decide (t.val % 6 = 0) = false from decide_eq_false (by omega)]; rfl
  have f4 : (cfg0.win 4).flush t = false := Bool.eq_false_iff.mpr fun e => by have := (flush_4 t).mp e; omega
  have f6 : (cfg0.win 6).flush t = false := Bool.eq_false_iff.mpr fun e => by have := (flush0_6 t).mp e; omega
  have f7 : (cfg0.win 7).flush t = false := Bool.eq_false_iff.mpr fun e => by have := (flush0_7 t).mp e; omega
  unfold bodyPre bodyPost bodyAt0
  rw [show (dats m 0 c).Φ t.succ = (dats m 0 c).Φ t.castSucc from rfl, show (dats m 0 c).owesAt () t.succ = (dats m 0 c).owesAt () t.castSucc from rfl,
    live_0 m c t, live_1 m c t, live_2 m c t, live_3 m c t, leaves_live (dats m 0 c) 5 t i5, after_5 m c t, Dat.leavesExact_idle (dats m 0 c) 4 t i4 f4, Dat.leavesExact_idle (dats m 0 c) 6 t i6 f6, Dat.leavesExact_idle (dats m 0 c) 7 t i7 f7]
  simp only [before_0, before_1, before_2, before_3, before_7 m c t.val t.isLt (by omega)]
  unfold splitAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_split c (grid0.coords t) _ _ _ _ _ _ _ _ _ _ _ _ _ _ _ _ (fun h => by have := (cond0_iff t).mp h; omega) (fun h => by have := (cond1_iff t).mp h; omega) ((cond2_iff t).mpr (by omega)) (iblk m c 2 t) (rowsAt m c t) Set.univ _)
  isplitl [H2]; · iexact H2
  isplitl [H7]; · iexact H7
  isplitl [H5]; · iexists _; iexact H5
  iintro ⟨H2, H7, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists d4; iexact H4
  isplitl [H5]; · iexact H5
  isplitl [H6]; · iexists d6; iexact H6
  iexists d7; iexact H7

set_option maxHeartbeats 2400000 in
/-- The body at a row block's last point. -/
theorem body_E (c : Dev nD) (t : Fin cfg0.N) (ht : t.val % 6 = 5) :
    bodyPre m c t ⊢ wp frame (wpE (defs₀ (F := Ideal)) Variants.none c none) Set.univ (bodyAt0 t) (fun _ => bodyPost m c t) := by
  have i4 : cfg0.idle 4 (cfg0.grid.coords t) = true := by
    rw [idle_4 t, show decide (t.val % 6 ≤ 3) = false from decide_eq_false (by omega)]; rfl
  have i5 : cfg0.idle 5 (cfg0.grid.coords t) = false := by
    rw [idle_5 t, show decide (4 ≤ t.val % 6) = true from decide_eq_true (by omega)]; rfl
  have i6 : cfg0.idle 6 (cfg0.grid.coords t) = true := by
    rw [idle_6 t, show decide (t.val % 6 = 0) = false from decide_eq_false (by omega)]; rfl
  have i7 : cfg0.idle 7 (cfg0.grid.coords t) = true := by
    rw [idle_7 t, show decide (t.val % 6 = 0) = false from decide_eq_false (by omega)]; rfl
  have f4 : (cfg0.win 4).flush t = true := (flush_4 t).mpr (by omega)
  have f6 : (cfg0.win 6).flush t = true := (flush0_6 t).mpr (by omega)
  have f7 : (cfg0.win 7).flush t = true := (flush0_7 t).mpr (by omega)
  unfold bodyPre bodyPost bodyAt0
  rw [show (dats m 0 c).Φ t.succ = (dats m 0 c).Φ t.castSucc from rfl, show (dats m 0 c).owesAt () t.succ = (dats m 0 c).owesAt () t.castSucc from rfl,
    live_0 m c t, live_1 m c t, live_2 m c t, live_3 m c t, leaves_live (dats m 0 c) 5 t i5, after_5 m c t, leaves_flush (dats m 0 c) 4 t i4 f4, after_4 m c t, leaves_flush (dats m 0 c) 6 t i6 f6, after_6 m c t, leaves_flush (dats m 0 c) 7 t i7 f7, after_7 m c t]
  simp only [before_0, before_1, before_2, before_3, before_7 m c t.val t.isLt (by omega), before_6 m c t.val t.isLt (by omega), before_4 m c t.val t.isLt (by omega)]
  unfold splitAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_split c (grid0.coords t) _ _ _ _ _ _ _ _ _ _ _ _ _ _ _ _ (fun h => by have := (cond0_iff t).mp h; omega) (fun h => by have := (cond1_iff t).mp h; omega) ((cond2_iff t).mpr (by omega)) (iblk m c 2 t) (rowsAt m c t) Set.univ _)
  isplitl [H2]; · iexact H2
  isplitl [H7]; · iexact H7
  isplitl [H5]; · iexists _; iexact H5
  iintro ⟨H2, H7, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := Ideal) .tc cfg0.body (cfg0.bodyArgs t (cfg0.slots t)) = bodyAt0 t := by
  unfold defs₀; rw [Defs.onTc_tc]

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 6 = 0
  · exact body_A m c t h0
  by_cases h3 : t.val % 6 ≤ 3
  · exact body_B m c t ⟨h0, h3⟩
  by_cases h4 : t.val % 6 = 4
  · exact body_D m c t h4
  exact body_E m c t (by omega)

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every execution ends, each array at what the points wrote back, and the machine quiescent. -/
theorem run_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := array_eq m) (hΦ := fun _ _ => rfl)

/-- Every execution ends with each array at what the points wrote back. -/
theorem run_final : θ_run defs (onTc (τ := τ) (main (F := Ideal))) (s₀ m ρ) (Pipeline.FramePost cfgs (dats m) 0 (V m)) :=
  (θ_run defs _ _).mono (fun _ h => h.1) (run_quiescent m ρ)

/-- The input projection over the reals runs to its end, leaves its arguments as they were and the machine quiescent. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (array_eq m) (run_final m ρ)) ((θ_run defs _ _).mono (fun _ h => h.2) (run_quiescent m ρ))

end Cert.KernelProjIdeal.Hand

end
-- ==== Proof.Proj.lean ====
/-
  The input projection: the rows normalised by their root mean square, multiplied by the rows of the weights and by the
  forget weights, and laid out by head. A row block takes six points, one for each tile of the weights.
-/
module

public import proofs.«01_k».proof.Defs
public import proofs.«01_k».proof.Proof.ProjFrame
public import proofs.«01_k».proof.Proof.Gen.ReferenceProjIdeal.Run
public import proofs.«01_k».proof.Proof.Gen.Pre_finite_forget_weights

@[expose] public section

noncomputable section

open Idealize.ShloMosaic Idealize.ShloMosaic.TcCoe Idealize.SL.Sem Cert
open Idealize.ShloMosaic.Pipeline (Dat)

namespace Cert.KernelProjIdeal.Hand

open Cert.KernelProjIdeal Cert.KernelProjIdeal.Gen

variable (m : (ℓ : Loc nD τ sig) → Buf (Elt Ideal) ℓ) (ρ : Dev nD → PrngReg)

/-- The block of the weights' rows that a row block's point number `n` multiplies by. -/
def order (n : ℕ) : ℕ := if n = 0 then 0 else if n = 1 then 3 else if n = 2 then 2 else if n = 3 then 5 else if n = 4 then 1 else 4

theorem order_lt (n : ℕ) : order n < 6 := by
  unfold order; split_ifs <;> omega

/-- Which block of its array each input's window is at. -/
theorem idx_in : ∀ t : Fin cfg0.N, (win0_0.index t (0 : Fin 2) = t.val / 6 ∧ win0_0.index t (1 : Fin 2) = 0)
    ∧ (win0_1.index t (0 : Fin 2) = 0 ∧ win0_1.index t (1 : Fin 2) = 0)
    ∧ (win0_2.index t (0 : Fin 2) = order (t.val % 6) ∧ win0_2.index t (1 : Fin 2) = 0)
    ∧ (win0_3.index t (0 : Fin 2) = 0 ∧ win0_3.index t (1 : Fin 2) = 0) :=
  (by decide +kernel : ∀ t : Fin grid0.N, (win0_0.index t (0 : Fin 2) = t.val / 6 ∧ win0_0.index t (1 : Fin 2) = 0)
    ∧ (win0_1.index t (0 : Fin 2) = 0 ∧ win0_1.index t (1 : Fin 2) = 0)
    ∧ (win0_2.index t (0 : Fin 2) = order (t.val % 6) ∧ win0_2.index t (1 : Fin 2) = 0)
    ∧ (win0_3.index t (0 : Fin 2) = 0 ∧ win0_3.index t (1 : Fin 2) = 0))

/-- Which block of its array each output's window is at. -/
theorem idx_out : ∀ t : Fin cfg0.N, (win0_4.index t (0 : Fin 4) = min (t.val % 6) 3 ∧ win0_4.index t (1 : Fin 4) = t.val / 6 ∧ win0_4.index t (2 : Fin 4) = 0 ∧ win0_4.index t (3 : Fin 4) = 0)
    ∧ (win0_5.index t (0 : Fin 3) = min (t.val % 6 - 4) 1 ∧ win0_5.index t (1 : Fin 3) = t.val / 6 ∧ win0_5.index t (2 : Fin 3) = 0)
    ∧ (win0_6.index t (0 : Fin 2) = t.val / 6 ∧ win0_6.index t (1 : Fin 2) = 0)
    ∧ (win0_7.index t (0 : Fin 2) = t.val / 6 ∧ win0_7.index t (1 : Fin 2) = 0) :=
  (by decide +kernel : ∀ t : Fin grid0.N, (win0_4.index t (0 : Fin 4) = min (t.val % 6) 3 ∧ win0_4.index t (1 : Fin 4) = t.val / 6 ∧ win0_4.index t (2 : Fin 4) = 0 ∧ win0_4.index t (3 : Fin 4) = 0)
    ∧ (win0_5.index t (0 : Fin 3) = min (t.val % 6 - 4) 1 ∧ win0_5.index t (1 : Fin 3) = t.val / 6 ∧ win0_5.index t (2 : Fin 3) = 0)
    ∧ (win0_6.index t (0 : Fin 2) = t.val / 6 ∧ win0_6.index t (1 : Fin 2) = 0)
    ∧ (win0_7.index t (0 : Fin 2) = t.val / 6 ∧ win0_7.index t (1 : Fin 2) = 0))

/-- Whether a point's tile is one of queries. -/
theorem tile_slt : ∀ t : Fin cfg0.N, Scalar.cmpi .slt (tile (grid0.coords t)) 2#32 = if t.val % 6 < 2 then 1#1 else 0#1 :=
  (by decide +kernel : ∀ t : Fin grid0.N, Scalar.cmpi .slt (tile (grid0.coords t)) 2#32 = if t.val % 6 < 2 then 1#1 else 0#1)

theorem points (t : Fin cfg0.N) : t.val < 96 := lt_of_lt_of_eq t.isLt (show cfg0.N = 96 from N_0)

/-! ## The inputs' blocks at an index -/

/-- The rows that a point stages. -/
theorem rows_apply (c : Dev nD) (t : Fin cfg0.N) (r : Fin 1024) (k : Fin 2048) :
    (iblk m c 0 t : Vec Ideal S1024x2048 .f32) (ix2 r k)
      = (m ((c : Thread nD τ).loc main_arg0) : Vec Ideal S16384x2048 .f32) (ix2 ⟨1024 * (t.val / 6) + r.val, by have := points t; omega⟩ k) := by
  obtain ⟨⟨e0, e1⟩, -⟩ := idx_in t
  show V m c main_arg0 _ = _
  rw [V_main_arg0]
  congr 1
  funext a
  apply Fin.ext
  match a with
  | ⟨0, _⟩ => show win0_0.index t 0 * 1024 + 1 * r.val = 1024 * (t.val / 6) + r.val; rw [e0]; omega
  | ⟨1, _⟩ => show win0_0.index t 1 * 2048 + 1 * k.val = k.val; rw [e1]; omega

/-- A vector read as a row. -/
theorem row_apply (g : Vec Ideal S2048 .f32) (k : Fin 2048) : (shapeCast S1x2048 g shapeCasts_S2048_S1x2048 : Vec Ideal S1x2048 .f32) (ix2 0 k) = g (ix1 k) := by
  pointwise

/-- The gains, as every point stages them: the argument as a row. -/
theorem gains_apply (c : Dev nD) (t : Fin cfg0.N) (k : Fin 2048) :
    (iblk m c 1 t : Vec Ideal S1x2048 .f32) (ix2 0 k) = (m ((c : Thread nD τ).loc main_arg1) : Vec Ideal S2048 .f32) (ix1 k) := by
  obtain ⟨-, ⟨e2, e3⟩, -⟩ := idx_in t
  have hV : V m c main_v0 = (shapeCast S1x2048 (m ((c : Thread nD τ).loc main_arg1)) shapeCasts_S2048_S1x2048 : Vec Ideal S1x2048 .f32) := by
    show StableHlo.after hostOps0 (fun b => m (c, b)) main_v0 = _
    after_results
    rfl
  show V m c main_v0 _ = _
  rw [hV]
  have e : (((cfg0.win 1).blk t).view.emb (ix2 0 k) : S1x2048.Idx) = ix2 0 k := by
    funext a
    apply Fin.ext
    match a with
    | ⟨0, _⟩ => show win0_1.index t 0 * 1 + 1 * 0 = 0; rw [e2]
    | ⟨1, _⟩ => show win0_1.index t 1 * 2048 + 1 * k.val = k.val; rw [e3]; omega
  exact (congrArg _ e).trans (row_apply _ k)

/-- The rows of the weights that a point stages. -/
theorem weights_apply (c : Dev nD) (t : Fin cfg0.N) (q : Fin 1024) (k : Fin 2048) :
    (iblk m c 2 t : Vec Ideal S1024x2048 .bf16) (ix2 q k)
      = (m ((c : Thread nD τ).loc main_arg2) : Vec Ideal S6144x2048 .bf16) (ix2 ⟨1024 * order (t.val % 6) + q.val, by have := order_lt (t.val % 6); omega⟩ k) := by
  obtain ⟨-, -, ⟨e4, e5⟩, -⟩ := idx_in t
  show V m c main_arg2 _ = _
  rw [V_main_arg2]
  congr 1
  funext a
  apply Fin.ext
  match a with
  | ⟨0, _⟩ => show win0_2.index t 0 * 1024 + 1 * q.val = 1024 * order (t.val % 6) + q.val; rw [e4]; omega
  | ⟨1, _⟩ => show win0_2.index t 1 * 2048 + 1 * k.val = k.val; rw [e5]; omega

/-- The forget weights, as every point stages them: whole. -/
theorem forgets_apply (c : Dev nD) (t : Fin cfg0.N) (k : Fin 2048) (q : Fin 128) :
    (iblk m c 3 t : Vec Ideal S2048x128 .f32) (ix2 k q) = (m ((c : Thread nD τ).loc main_arg3) : Vec Ideal S2048x128 .f32) (ix2 k q) := by
  obtain ⟨-, -, -, ⟨e6, e7⟩⟩ := idx_in t
  show V m c main_arg3 _ = _
  rw [V_main_arg3]
  congr 1
  funext a
  apply Fin.ext
  match a with
  | ⟨0, _⟩ => show win0_3.index t 0 * 2048 + 1 * k.val = k.val; rw [e6]; omega
  | ⟨1, _⟩ => show win0_3.index t 1 * 128 + 1 * q.val = q.val; rw [e7]; omega

/-! ## The body's vectors at an index -/

/-- The normalised rows. -/
theorem pay1_apply (x : Vec Ideal S1024x2048 .f32) (g : Vec Ideal S1x2048 .f32) (r : Fin 1024) (k : Fin 2048) :
    k0_pay1 x g (ix2 r k) = Shared.norm (fun l => x (ix2 r l)) (fun l => g (ix2 0 l)) k := by
  unfold Shared.norm
  pointwise [k0_pay1]

/-- A tile of the product that is not scaled. -/
theorem pay43_apply (a w : Vec Ideal S1024x2048 .bf16) (r q : Fin 1024) :
    k0_pay43 a w (ix2 r q) = (∑ k : Fin 2048, a (ix2 r k) * w (ix2 q k) : EReal) := by
  pointwise [k0_pay43]

/-- A tile of the product, scaled if it is one of queries. -/
theorem pay7_apply (n : BitVec 32) (a w : Vec Ideal S1024x2048 .bf16) (r q : Fin 1024) :
    k0_pay7 n a w (ix2 r q) = (∑ k : Fin 2048, a (ix2 r k) * w (ix2 q k) : EReal)
      * Scalar.select (Scalar.cmpi .slt n 2#32) (Ideal.ofBits .f32 0x3E0293EE#32) (Ideal.ofBits .f32 0x3F800000#32) := by
  pointwise [k0_pay7]

/-- The product with the forget weights and with what their rounding loses, which over the reals is nothing. -/
theorem pay2_apply (v : Vec Ideal S2048x128 .f32) (a : Vec Ideal S1024x2048 .bf16) (r : Fin 1024) (q : Fin 128) :
    k0_pay2 v a (ix2 r q) = (∑ k : Fin 2048, a (ix2 r k) * v (ix2 k q) : EReal) + (∑ k : Fin 2048, a (ix2 r k) * (v (ix2 k q) - v (ix2 k q)) : EReal) := by
  pointwise [k0_pay2]

/-! ## What the points write back -/

/-- The normalised rows, at row `r` and column `k`. -/
def normAt (x : Vec Ideal S16384x2048 .f32) (g : Vec Ideal S2048 .f32) (r : Fin 16384) (k : Fin 2048) : EReal :=
  Shared.norm (fun l => x (ix2 r l)) (fun l => g (ix1 l)) k

/-- The projection, at row `r` and for the weights' row `q`. -/
def projAt (x : Vec Ideal S16384x2048 .f32) (g : Vec Ideal S2048 .f32) (w : Vec Ideal S6144x2048 .bf16) (r : Fin 16384) (q : Fin 6144) : EReal :=
  ∑ k : Fin 2048, normAt x g r k * w (ix2 q k)

/-- What the group of heads number `n` is multiplied by: the queries' scale, or one. -/
def scale (n : ℕ) : EReal := if n < 2 then Ideal.ofBits .f32 0x3E0293EE#32 else Ideal.ofBits .f32 0x3F800000#32

theorem rowsAt_apply (c : Dev nD) (t : Fin cfg0.N) (r : Fin 1024) (k : Fin 2048) :
    rowsAt m c t (ix2 r k) = normAt (m ((c : Thread nD τ).loc main_arg0)) (m ((c : Thread nD τ).loc main_arg1)) ⟨1024 * (t.val / 6) + r.val, by have := points t; omega⟩ k := by
  unfold rowsAt normAt
  rw [pay1_apply]
  simp only [rows_apply, gains_apply]
  have e : (first t).val / 6 = t.val / 6 := by show t.val / 6 * 6 / 6 = _; omega
  simp only [e]

/-- The tile of queries or values that a point writes back. -/
theorem turnedAt_apply (c : Dev nD) (t : Fin cfg0.N) (y0 : Fin 8) (y1 : Fin 4) (y2 : Fin 128) (y3 : Fin 256) :
    turnedAt m c t (ix4 y0 y1 y2 y3) = projAt (m ((c : Thread nD τ).loc main_arg0)) (m ((c : Thread nD τ).loc main_arg1)) (m ((c : Thread nD τ).loc main_arg2))
        ⟨1024 * (t.val / 6) + (256 * y1.val + y3.val), by have := points t; omega⟩
        ⟨1024 * order (min (t.val % 6) 3) + (128 * y0.val + y2.val), by have := order_lt (min (t.val % 6) 3); omega⟩
      * scale (min (t.val % 6) 3) := by
  have hd : (lastTurned t).val / 6 = t.val / 6 := by show min t.val (t.val / 6 * 6 + 3) / 6 = _; omega
  have hm : (lastTurned t).val % 6 = min (t.val % 6) 3 := by show min t.val (t.val / 6 * 6 + 3) % 6 = _; omega
  unfold turnedAt
  show k0_pay7 (tile (grid0.coords (lastTurned t))) (rowsAt m c t) (iblk m c 2 (lastTurned t)) (ix2 ⟨256 * y1.val + y3.val, by omega⟩ ⟨128 * y0.val + y2.val, by omega⟩) = _
  rw [pay7_apply, tile_slt, hm]
  unfold projAt scale
  congr 1
  · refine Finset.sum_congr rfl fun k _ => ?_
    rw [rowsAt_apply, weights_apply]
    simp only [hm]
  · by_cases h : min (t.val % 6) 3 < 2
    · rw [if_pos h, if_pos h]; rfl
    · rw [if_neg h, if_neg h]; rfl

/-- The tile of keys that a point writes back. -/
theorem splitAt_apply (c : Dev nD) (t : Fin cfg0.N) (y0 : Fin 8) (y1 : Fin 1024) (y2 : Fin 128) :
    splitAt m c t (ix3 y0 y1 y2) = projAt (m ((c : Thread nD τ).loc main_arg0)) (m ((c : Thread nD τ).loc main_arg1)) (m ((c : Thread nD τ).loc main_arg2))
        ⟨1024 * (t.val / 6) + y1.val, by have := points t; omega⟩
        ⟨1024 * order (t.val % 6) + (128 * y0.val + y2.val), by have := order_lt (t.val % 6); omega⟩ := by
  unfold splitAt
  show k0_pay43 (rowsAt m c t) (iblk m c 2 t) (ix2 ⟨y1.val, y1.isLt⟩ ⟨128 * y0.val + y2.val, by omega⟩) = _
  rw [pay43_apply]
  unfold projAt
  refine Finset.sum_congr rfl fun k _ => ?_
  rw [rowsAt_apply, weights_apply]

/-- Nothing is lost of the forget weights: each less itself is zero. -/
def Lossless (v : Vec Ideal S2048x128 .f32) : Prop := ∀ k q, (v (ix2 k q) - v (ix2 k q) : EReal) = 0

/-- Where nothing is lost, the product with what is lost adds nothing. -/
theorem pay2_lossless (v : Vec Ideal S2048x128 .f32) (hv : Lossless v) (a : Vec Ideal S1024x2048 .bf16) (r : Fin 1024) (q : Fin 128) :
    k0_pay2 v a (ix2 r q) = (∑ k : Fin 2048, a (ix2 r k) * v (ix2 k q) : EReal) := by
  have e : (∑ k : Fin 2048, a (ix2 r k) * (v (ix2 k q) - v (ix2 k q)) : EReal) = 0 :=
    Finset.sum_eq_zero fun k _ => by rw [hv, mul_zero]
  rw [pay2_apply, e, add_zero]

/-- The product with the forget weights that a point writes back, the weights finite. -/
theorem forgetAt_apply (c : Dev nD) (hv : Lossless (m ((c : Thread nD τ).loc main_arg3)))
    (t : Fin cfg0.N) (r : Fin 1024) (q : Fin 128) :
    forgetAt m c t (ix2 r q) = (∑ k : Fin 2048, normAt (m ((c : Thread nD τ).loc main_arg0)) (m ((c : Thread nD τ).loc main_arg1)) ⟨1024 * (t.val / 6) + r.val, by have := points t; omega⟩ k
      * ((m ((c : Thread nD τ).loc main_arg3)) : Vec Ideal S2048x128 .f32) (ix2 k q) : EReal) := by
  unfold forgetAt
  rw [pay2_lossless _ (fun k q => by rw [forgets_apply]; exact hv k q)]
  simp only [rowsAt_apply, forgets_apply]

/-! ## The arrays -/

/-- The queries and values, by head, block of rows, column and row. -/
def G4 (c : Dev nD) : Buf (Elt Ideal) ((c : Thread nD τ).loc main_v1_0) := fun i : S32x64x128x256.Idx =>
  projAt (m ((c : Thread nD τ).loc main_arg0)) (m ((c : Thread nD τ).loc main_arg1)) (m ((c : Thread nD τ).loc main_arg2))
      ⟨256 * (i 1).val + (i 3).val, by have h1 : (i 1).val < 64 := (i 1).isLt; have h3 : (i 3).val < 256 := (i 3).isLt; omega⟩
      ⟨1024 * order ((i 0).val / 8) + (128 * ((i 0).val % 8) + (i 2).val), by have h2 : (i 2).val < 128 := (i 2).isLt; have := order_lt ((i 0).val / 8); omega⟩
    * scale ((i 0).val / 8)

/-- The keys, by head, row and column. -/
def G5 (c : Dev nD) : Buf (Elt Ideal) ((c : Thread nD τ).loc main_v1_1) := fun i : S16x16384x128.Idx =>
  projAt (m ((c : Thread nD τ).loc main_arg0)) (m ((c : Thread nD τ).loc main_arg1)) (m ((c : Thread nD τ).loc main_arg2)) (i 1)
      ⟨1024 * order (4 + (i 0).val / 8) + (128 * ((i 0).val % 8) + (i 2).val), by have h2 : (i 2).val < 128 := (i 2).isLt; have := order_lt (4 + (i 0).val / 8); omega⟩

/-- The product with the forget weights. -/
def G6 (c : Dev nD) : Buf (Elt Ideal) ((c : Thread nD τ).loc main_v1_2) := fun i : S16384x128.Idx =>
  (∑ k : Fin 2048, normAt (m ((c : Thread nD τ).loc main_arg0)) (m ((c : Thread nD τ).loc main_arg1)) (i 0) k * ((m ((c : Thread nD τ).loc main_arg3)) : Vec Ideal S2048x128 .f32) (ix2 k (i 1)) : EReal)

/-- The normalised rows. -/
def G7 (c : Dev nD) : Buf (Elt Ideal) ((c : Thread nD τ).loc main_v1_3) := fun i : S16384x2048.Idx =>
  normAt (m ((c : Thread nD τ).loc main_arg0)) (m ((c : Thread nD τ).loc main_arg1)) (i 0) (i 1)

/-- What a point writes back of queries and values is its block of the array. -/
theorem flushed_4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after_4]
  obtain ⟨⟨e0, e1, e2, e3⟩, -⟩ := idx_out t
  funext y
  have b0 : (((cfg0.win 4).blk t).view.emb y 0).val = win0_4.index t 0 * 8 + 1 * (y 0).val := rfl
  have b1 : (((cfg0.win 4).blk t).view.emb y 1).val = win0_4.index t 1 * 4 + 1 * (y 1).val := rfl
  have b2 : (((cfg0.win 4).blk t).view.emb y 2).val = win0_4.index t 2 * 128 + 1 * (y 2).val := rfl
  have b3 : (((cfg0.win 4).blk t).view.emb y 3).val = win0_4.index t 3 * 256 + 1 * (y 3).val := rfl
  rw [e0] at b0; rw [e1] at b1; rw [e2] at b2; rw [e3] at b3
  have y0 : (y 0).val < 8 := (y 0).isLt
  have hx : (cfg0.win 4).xinj (grid0.coords t) y = ix4 (y 0) (y 1) (y 2) (y 3) := by
    funext a; match a with | ⟨0, _⟩ => rfl | ⟨1, _⟩ => rfl | ⟨2, _⟩ => rfl | ⟨3, _⟩ => rfl
  refine (congrArg (turnedAt m c t) hx).trans ((turnedAt_apply m c t (y 0) (y 1) (y 2) (y 3)).trans ?_)
  show _ = G4 m c (((cfg0.win 4).blk t).view.emb y)
  unfold G4
  have q : (((cfg0.win 4).blk t).view.emb y 0).val / 8 = min (t.val % 6) 3 := by rw [b0]; omega
  have r : (((cfg0.win 4).blk t).view.emb y 0).val % 8 = (y 0).val := by rw [b0]; omega
  refine congrArg₂ (fun a b : EReal => a * b) (congrArg₂ (projAt (m ((c : Thread nD τ).loc main_arg0)) (m ((c : Thread nD τ).loc main_arg1)) (m ((c : Thread nD τ).loc main_arg2))) (Fin.ext ?_) (Fin.ext ?_)) (congrArg scale ?_)
  · show _ = 256 * (((cfg0.win 4).blk t).view.emb y 1).val + (((cfg0.win 4).blk t).view.emb y 3).val
    rw [b1, b3]; show 1024 * (t.val / 6) + (256 * (y 1).val + (y 3).val) = _; omega
  · show _ = 1024 * order ((((cfg0.win 4).blk t).view.emb y 0).val / 8) + (128 * ((((cfg0.win 4).blk t).view.emb y 0).val % 8) + (((cfg0.win 4).blk t).view.emb y 2).val)
    rw [q, r, b2]; show 1024 * order (min (t.val % 6) 3) + (128 * (y 0).val + (y 2).val) = _; omega
  · exact q.symm

/-- What a point writes back of keys is its block of the array. -/
theorem flushed_5 (c : Dev nD) (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after_5]
  have ht : 4 ≤ t.val % 6 := (flush_5 t).mp hf
  obtain ⟨-, ⟨e0, e1, e2⟩, -⟩ := idx_out t
  funext y
  have b0 : (((cfg0.win 5).blk t).view.emb y 0).val = win0_5.index t 0 * 8 + 1 * (y 0).val := rfl
  have b1 : (((cfg0.win 5).blk t).view.emb y 1).val = win0_5.index t 1 * 1024 + 1 * (y 1).val := rfl
  have b2 : (((cfg0.win 5).blk t).view.emb y 2).val = win0_5.index t 2 * 128 + 1 * (y 2).val := rfl
  rw [e0] at b0; rw [e1] at b1; rw [e2] at b2
  have y0 : (y 0).val < 8 := (y 0).isLt
  have hx : (cfg0.win 5).xinj (grid0.coords t) y = ix3 (y 0) (y 1) (y 2) := by
    funext a; match a with | ⟨0, _⟩ => rfl | ⟨1, _⟩ => rfl | ⟨2, _⟩ => rfl
  refine (congrArg (splitAt m c t) hx).trans ((splitAt_apply m c t (y 0) (y 1) (y 2)).trans ?_)
  show _ = G5 m c (((cfg0.win 5).blk t).view.emb y)
  unfold G5
  have q : 4 + (((cfg0.win 5).blk t).view.emb y 0).val / 8 = t.val % 6 := by rw [b0]; omega
  have r : (((cfg0.win 5).blk t).view.emb y 0).val % 8 = (y 0).val := by rw [b0]; omega
  refine congrArg₂ (projAt (m ((c : Thread nD τ).loc main_arg0)) (m ((c : Thread nD τ).loc main_arg1)) (m ((c : Thread nD τ).loc main_arg2))) (Fin.ext ?_) (Fin.ext ?_)
  · show _ = (((cfg0.win 5).blk t).view.emb y 1).val
    rw [b1]; show 1024 * (t.val / 6) + (y 1).val = _; omega
  · show _ = 1024 * order (4 + (((cfg0.win 5).blk t).view.emb y 0).val / 8) + (128 * ((((cfg0.win 5).blk t).view.emb y 0).val % 8) + (((cfg0.win 5).blk t).view.emb y 2).val)
    rw [q, r, b2]; show 1024 * order (t.val % 6) + (128 * (y 0).val + (y 2).val) = _; omega

/-- What a point writes back of the product with the forget weights is its block of the array, the weights finite. -/
theorem flushed_6 (c : Dev nD) (hv : Lossless (m ((c : Thread nD τ).loc main_arg3))) (t : Fin cfg0.N) :
    (dats m 0 c).flushed 6 t = ((cfg0.win 6).blk t).view.read (Elt Ideal) (G6 m c) := by
  show (cfg0.win 6).cut (grid0.coords t) ((dats m 0 c).after 6 t) = _
  rw [after_6]
  obtain ⟨-, -, ⟨e0, e1⟩, -⟩ := idx_out t
  funext y
  have hx : (cfg0.win 6).xinj (grid0.coords t) y = ix2 (y 0) (y 1) := by
    funext a; match a with | ⟨0, _⟩ => rfl | ⟨1, _⟩ => rfl
  have he : (((cfg0.win 6).blk t).view.emb y : S16384x128.Idx)
      = ix2 ⟨1024 * (t.val / 6) + (y 0).val, by have := points t; have h : (y 0).val < 1024 := (y 0).isLt; omega⟩ (y 1) := by
    funext a
    apply Fin.ext
    match a with
    | ⟨0, _⟩ => show win0_6.index t 0 * 1024 + 1 * (y 0).val = 1024 * (t.val / 6) + (y 0).val; rw [e0]; omega
    | ⟨1, _⟩ => show win0_6.index t 1 * 128 + 1 * (y 1).val = (y 1).val; rw [e1]; omega
  exact (congrArg (forgetAt m c t) hx).trans ((forgetAt_apply m c hv t (y 0) (y 1)).trans (congrArg (G6 m c) he).symm)

/-- What a point writes back of the normalised rows is its block of the array. -/
theorem flushed_7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after_7]
  obtain ⟨-, -, -, ⟨e0, e1⟩⟩ := idx_out t
  funext y
  have hx : (cfg0.win 7).xinj (grid0.coords t) y = ix2 (y 0) (y 1) := by
    funext a; match a with | ⟨0, _⟩ => rfl | ⟨1, _⟩ => rfl
  have he : (((cfg0.win 7).blk t).view.emb y : S16384x2048.Idx)
      = ix2 ⟨1024 * (t.val / 6) + (y 0).val, by have := points t; have h : (y 0).val < 1024 := (y 0).isLt; omega⟩ (y 1) := by
    funext a
    apply Fin.ext
    match a with
    | ⟨0, _⟩ => show win0_7.index t 0 * 1024 + 1 * (y 0).val = 1024 * (t.val / 6) + (y 0).val; rw [e0]; omega
    | ⟨1, _⟩ => show win0_7.index t 1 * 2048 + 1 * (y 1).val = (y 1).val; rw [e1]; omega
  exact (congrArg (rowsAt m c t) hx).trans ((rowsAt_apply m c t (y 0) (y 1)).trans (congrArg (G7 m c) he).symm)

/-- The number of a point is below the number of points. -/
theorem point_lt {n : ℕ} (h : n < 96) : n < cfg0.N := lt_of_lt_of_eq h (show 96 = cfg0.N from N_0.symm)

/-- Every index of the queries and values lies in a block that some point writes back. -/
theorem covered_4 (i : S32x64x128x256.Idx) : ∃ t : Fin cfg0.N, (cfg0.win 4).flush t = true ∧ i ∈ ((cfg0.win 4).blk t).view.set := by
  have h0 : (i 0).val < 32 := (i 0).isLt
  have h1 : (i 1).val < 64 := (i 1).isLt
  have h2 : (i 2).val < 128 := (i 2).isLt
  have h3 : (i 3).val < 256 := (i 3).isLt
  obtain ⟨n, hn5, hn, hnf⟩ : ∃ n, n ≤ 5 ∧ min n 3 = (i 0).val / 8 ∧ (n ≤ 2 ∨ n = 5) := by
    by_cases h : (i 0).val / 8 = 3
    · exact ⟨5, by omega, by omega, by omega⟩
    · exact ⟨(i 0).val / 8, by omega, by omega, by omega⟩
  obtain ⟨t, ht⟩ : ∃ t : Fin cfg0.N, t.val = 6 * ((i 1).val / 4) + n := ⟨⟨_, point_lt (by omega)⟩, rfl⟩
  obtain ⟨⟨e0, e1, e2, e3⟩, -⟩ := idx_out t
  rw [show t.val % 6 = n by omega, hn] at e0
  rw [show t.val / 6 = (i 1).val / 4 by omega] at e1
  refine ⟨t, (flush_4 t).mpr (by omega), ?_⟩
  show i ∈ ((View.whole main_v1_0).slice (win0_4.rect t)).set
  rw [View.set_slice_whole, Rect.mem_set_unit]
  intro a
  match a with
  | ⟨0, _⟩ => show win0_4.index t 0 * 8 ≤ (i 0).val ∧ (i 0).val < win0_4.index t 0 * 8 + 8; rw [e0]; omega
  | ⟨1, _⟩ => show win0_4.index t 1 * 4 ≤ (i 1).val ∧ (i 1).val < win0_4.index t 1 * 4 + 4; rw [e1]; omega
  | ⟨2, _⟩ => show win0_4.index t 2 * 128 ≤ (i 2).val ∧ (i 2).val < win0_4.index t 2 * 128 + 128; rw [e2]; omega
  | ⟨3, _⟩ => show win0_4.index t 3 * 256 ≤ (i 3).val ∧ (i 3).val < win0_4.index t 3 * 256 + 256; rw [e3]; omega

/-- Every index of the keys lies in a block that some point writes back. -/
theorem covered_5 (i : S16x16384x128.Idx) : ∃ t : Fin cfg0.N, (cfg0.win 5).flush t = true ∧ i ∈ ((cfg0.win 5).blk t).view.set := by
  have h0 : (i 0).val < 16 := (i 0).isLt
  have h1 : (i 1).val < 16384 := (i 1).isLt
  have h2 : (i 2).val < 128 := (i 2).isLt
  obtain ⟨t, ht⟩ : ∃ t : Fin cfg0.N, t.val = 6 * ((i 1).val / 1024) + 4 + (i 0).val / 8 := ⟨⟨_, point_lt (by omega)⟩, rfl⟩
  obtain ⟨-, ⟨e0, e1, e2⟩, -⟩ := idx_out t
  refine ⟨t, (flush_5 t).mpr (by omega), ?_⟩
  show i ∈ ((View.whole main_v1_1).slice (win0_5.rect t)).set
  rw [View.set_slice_whole, Rect.mem_set_unit]
  intro a
  match a with
  | ⟨0, _⟩ => show win0_5.index t 0 * 8 ≤ (i 0).val ∧ (i 0).val < win0_5.index t 0 * 8 + 8; rw [e0]; omega
  | ⟨1, _⟩ => show win0_5.index t 1 * 1024 ≤ (i 1).val ∧ (i 1).val < win0_5.index t 1 * 1024 + 1024; rw [e1]; omega
  | ⟨2, _⟩ => show win0_5.index t 2 * 128 ≤ (i 2).val ∧ (i 2).val < win0_5.index t 2 * 128 + 128; rw [e2]; omega

/-- Every index of the product with the forget weights lies in a block that some point writes back. -/
theorem covered_6 (i : S16384x128.Idx) : ∃ t : Fin cfg0.N, (cfg0.win 6).flush t = true ∧ i ∈ ((cfg0.win 6).blk t).view.set := by
  have h0 : (i 0).val < 16384 := (i 0).isLt
  have h1 : (i 1).val < 128 := (i 1).isLt
  obtain ⟨t, ht⟩ : ∃ t : Fin cfg0.N, t.val = 6 * ((i 0).val / 1024) + 5 := ⟨⟨_, point_lt (by omega)⟩, rfl⟩
  obtain ⟨-, -, ⟨e0, e1⟩, -⟩ := idx_out t
  refine ⟨t, (flush0_6 t).mpr (by omega), ?_⟩
  show i ∈ ((View.whole main_v1_2).slice (win0_6.rect t)).set
  rw [View.set_slice_whole, Rect.mem_set_unit]
  intro a
  match a with
  | ⟨0, _⟩ => show win0_6.index t 0 * 1024 ≤ (i 0).val ∧ (i 0).val < win0_6.index t 0 * 1024 + 1024; rw [e0]; omega
  | ⟨1, _⟩ => show win0_6.index t 1 * 128 ≤ (i 1).val ∧ (i 1).val < win0_6.index t 1 * 128 + 128; rw [e1]; omega

/-- Every index of the normalised rows lies in a block that some point writes back. -/
theorem covered_7 (i : S16384x2048.Idx) : ∃ t : Fin cfg0.N, (cfg0.win 7).flush t = true ∧ i ∈ ((cfg0.win 7).blk t).view.set := by
  have h0 : (i 0).val < 16384 := (i 0).isLt
  have h1 : (i 1).val < 2048 := (i 1).isLt
  obtain ⟨t, ht⟩ : ∃ t : Fin cfg0.N, t.val = 6 * ((i 0).val / 1024) + 5 := ⟨⟨_, point_lt (by omega)⟩, rfl⟩
  obtain ⟨-, -, -, ⟨e0, e1⟩⟩ := idx_out t
  refine ⟨t, (flush0_7 t).mpr (by omega), ?_⟩
  show i ∈ ((View.whole main_v1_3).slice (win0_7.rect t)).set
  rw [View.set_slice_whole, Rect.mem_set_unit]
  intro a
  match a with
  | ⟨0, _⟩ => show win0_7.index t 0 * 1024 ≤ (i 0).val ∧ (i 0).val < win0_7.index t 0 * 1024 + 1024; rw [e0]; omega
  | ⟨1, _⟩ => show win0_7.index t 1 * 2048 ≤ (i 1).val ∧ (i 1).val < win0_7.index t 1 * 2048 + 2048; rw [e1]; omega

/-- The run leaves the four arrays at the projection, the product and the normalised rows, and the arguments as they were. -/
theorem run_value (hv : ∀ c : Dev nD, Lossless (m ((c : Thread nD τ).loc main_arg3))) :
    θ_run defs (onTc (τ := τ) (main (F := Ideal))) ⟨m, fun _ => 0, ρ⟩ fun r => ∀ c : Dev nD,
      r.2.mem ((c : Thread nD τ).loc main_v1_0) = G4 m c
      ∧ r.2.mem ((c : Thread nD τ).loc main_v1_1) = G5 m c
      ∧ r.2.mem ((c : Thread nD τ).loc main_v1_2) = G6 m c
      ∧ r.2.mem ((c : Thread nD τ).loc main_v1_3) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans ((dats m 0 c).arrAt_eq_of_cover 4 _ (fun t _ => flushed_4 m c t) covered_4),
      ((h.1 c).1 5).trans ((dats m 0 c).arrAt_eq_of_cover 5 _ (fun t hf => flushed_5 m c t hf) covered_5),
      ((h.1 c).1 6).trans ((dats m 0 c).arrAt_eq_of_cover 6 _ (fun t _ => flushed_6 m c (hv c) t) covered_6),
      ((h.1 c).1 7).trans ((dats m 0 c).arrAt_eq_of_cover 7 _ (fun t _ => flushed_7 m c t) covered_7), h.2 c⟩)
    (θ_run_and (run_final m ρ) (frame_of m ρ (dats m) (array_eq m) (run_final m ρ)))

/-- The projection by the numbers of its row and of the weights' row. -/
theorem projAt_eq (x : Vec Ideal S16384x2048 .f32) (g : Vec Ideal S2048 .f32) (w : Vec Ideal S6144x2048 .bf16) {a b : Fin 16384} {p q : Fin 6144}
    (h : a.val = b.val) (h' : p.val = q.val) : projAt x g w a p = projAt x g w b q := by
  rw [Fin.ext h, Fin.ext h']

/-- The four groups of heads laid one after the other are the array of the queries and values. -/
theorem ladder4 (x : Vec Ideal S16384x2048 .f32) (g : Vec Ideal S2048 .f32) (w : Vec Ideal S6144x2048 .bf16)
    (i0 : Fin 32) (i1 : Fin 64) (i2 : Fin 128) (i3 : Fin 256) :
    (if h : i0.val < 8 then projAt x g w ⟨i1.val * 256 + i3.val, by omega⟩ ⟨i0.val * 128 + i2.val, by omega⟩ * Ideal.ofBits .f32 0x3E0293EE#32
      else if h : i0.val - 8 < 8 then projAt x g w ⟨i1.val * 256 + i3.val, by omega⟩ ⟨3072 + ((i0.val - 8) * 128 + i2.val), by omega⟩ * Ideal.ofBits .f32 0x3E0293EE#32
      else if h : i0.val - 8 - 8 < 8 then projAt x g w ⟨i1.val * 256 + i3.val, by omega⟩ ⟨2048 + ((i0.val - 8 - 8) * 128 + i2.val), by omega⟩
      else projAt x g w ⟨i1.val * 256 + i3.val, by omega⟩ ⟨5120 + ((i0.val - 8 - 8 - 8) * 128 + i2.val), by omega⟩ : EReal)
    = projAt x g w ⟨256 * i1.val + i3.val, by omega⟩ ⟨1024 * order (i0.val / 8) + (128 * (i0.val % 8) + i2.val), by have := order_lt (i0.val / 8); omega⟩
      * scale (i0.val / 8) := by
  by_cases h0 : i0.val < 8
  · rw [dif_pos h0]
    have e : i0.val / 8 = 0 := by omega
    have hs : scale (i0.val / 8) = Ideal.ofBits .f32 0x3E0293EE#32 := by rw [e]; rfl
    rw [hs]
    refine congrArg (fun s : EReal => s * Ideal.ofBits .f32 0x3E0293EE#32) (projAt_eq x g w (by show i1.val * 256 + i3.val = 256 * i1.val + i3.val; omega) ?_)
    show _ = 1024 * order (i0.val / 8) + (128 * (i0.val % 8) + i2.val)
    rw [e, show order 0 = 0 from rfl]; dsimp only; omega
  rw [dif_neg h0]
  by_cases h1 : i0.val - 8 < 8
  · rw [dif_pos h1]
    have e : i0.val / 8 = 1 := by omega
    have hs : scale (i0.val / 8) = Ideal.ofBits .f32 0x3E0293EE#32 := by rw [e]; rfl
    rw [hs]
    refine congrArg (fun s : EReal => s * Ideal.ofBits .f32 0x3E0293EE#32) (projAt_eq x g w (by show i1.val * 256 + i3.val = 256 * i1.val + i3.val; omega) ?_)
    show _ = 1024 * order (i0.val / 8) + (128 * (i0.val % 8) + i2.val)
    rw [e, show order 1 = 3 from rfl]; dsimp only; omega
  rw [dif_neg h1]
  by_cases h2 : i0.val - 8 - 8 < 8
  · rw [dif_pos h2]
    have e : i0.val / 8 = 2 := by omega
    have hs : scale (i0.val / 8) = 1 := by rw [e]; exact Ideal.ofBits_one_f32
    rw [hs, mul_one]
    refine projAt_eq x g w (by show i1.val * 256 + i3.val = 256 * i1.val + i3.val; omega) ?_
    show _ = 1024 * order (i0.val / 8) + (128 * (i0.val % 8) + i2.val)
    rw [e, show order 2 = 2 from rfl]; dsimp only; omega
  · rw [dif_neg h2]
    have e : i0.val / 8 = 3 := by omega
    have hs : scale (i0.val / 8) = 1 := by rw [e]; exact Ideal.ofBits_one_f32
    rw [hs, mul_one]
    refine projAt_eq x g w (by show i1.val * 256 + i3.val = 256 * i1.val + i3.val; omega) ?_
    show _ = 1024 * order (i0.val / 8) + (128 * (i0.val % 8) + i2.val)
    rw [e, show order 3 = 5 from rfl]; dsimp only; omega

/-- The two groups of heads laid one after the other are the array of the keys. -/
theorem ladder2 (x : Vec Ideal S16384x2048 .f32) (g : Vec Ideal S2048 .f32) (w : Vec Ideal S6144x2048 .bf16)
    (i0 : Fin 16) (i1 : Fin 16384) (i2 : Fin 128) :
    (if h : i0.val < 8 then projAt x g w i1 ⟨1024 + (i0.val * 128 + i2.val), by omega⟩
      else projAt x g w i1 ⟨4096 + ((i0.val - 8) * 128 + i2.val), by omega⟩ : EReal)
    = projAt x g w i1 ⟨1024 * order (4 + i0.val / 8) + (128 * (i0.val % 8) + i2.val), by have := order_lt (4 + i0.val / 8); omega⟩ := by
  by_cases h0 : i0.val < 8
  · rw [dif_pos h0]
    have e : 4 + i0.val / 8 = 4 := by omega
    refine projAt_eq x g w rfl ?_
    show _ = 1024 * order (4 + i0.val / 8) + (128 * (i0.val % 8) + i2.val)
    rw [e, show order 4 = 1 from rfl]; dsimp only; omega
  · rw [dif_neg h0]
    have e : 4 + i0.val / 8 = 5 := by omega
    refine projAt_eq x g w rfl ?_
    show _ = 1024 * order (4 + i0.val / 8) + (128 * (i0.val % 8) + i2.val)
    rw [e, show order 5 = 4 from rfl]; dsimp only; omega

/-- What the precondition says of each forget weight. -/
theorem finite_apply (x : Vec Ideal S16384x2048 .f32) (g : Vec Ideal S2048 .f32) (w : Vec Ideal S6144x2048 .bf16) (v : Vec Ideal S2048x128 .f32)
    (h : Cert.Pre_finite_forget_weights.fn (F := Ideal) x g w v = fun _ => 1#1) (k : Fin 2048) (q : Fin 128) :
    v (ix2 k q) - v (ix2 k q) = (0 : EReal) := by
  have e := congrFun h (ix2 k q)
  pointwise [Cert.Pre_finite_forget_weights.fn] at e
  have lt : max (v (ix2 k q) : EReal) (-(v (ix2 k q))) < ⊤ := by
    by_contra hn
    refine absurd (e.symm.trans (congrArg BitVec.ofBool (decide_eq_false ?_))) (by decide)
    exact fun hl => hn (lt_of_lt_of_le hl le_top)
  generalize (v (ix2 k q) : EReal) = a at lt ⊢
  induction a using EReal.rec with
  | bot => exact absurd lt (by simp)
  | top => exact absurd lt (by simp)
  | coe r => rw [← EReal.coe_sub, sub_self, EReal.coe_zero]

end Cert.KernelProjIdeal.Hand

namespace Cert.Proof

/-- The kernel over the reals runs, and leaves its arguments and every counter as they were. -/
theorem quiescent_KernelProjIdeal : Cert.quiescent_KernelProjIdeal := fun m ρ _ => Cert.KernelProjIdeal.Hand.frame_ideal m ρ

/-- The same for finite forget weights. -/
theorem quiescent_KernelProjIdeal_pre_finite_forget_weights : Cert.quiescent_KernelProjIdeal_pre_finite_forget_weights := fun m ρ _ =>
  Cert.KernelProjIdeal.Hand.frame_ideal m ρ

/-- The reference runs, and leaves its arguments and every counter as they were. -/
theorem quiescent_ReferenceProjIdeal : Cert.quiescent_ReferenceProjIdeal := fun m ρ _ =>
  (θ_run Cert.ReferenceProjIdeal.defs _ _).mono (fun r h => ⟨fun c => (h c).2.2.2.2, sem_eq_zero_of_no_sems (by decide) r.2⟩)
    (Cert.ReferenceProjIdeal.Value.run (F := Ideal) m ρ)

/-- The same for finite forget weights. -/
theorem quiescent_ReferenceProjIdeal_pre_finite_forget_weights : Cert.quiescent_ReferenceProjIdeal_pre_finite_forget_weights := fun m ρ _ =>
  quiescent_ReferenceProjIdeal m ρ trivial

set_option maxHeartbeats 4000000 in
/-- The kernel and its reference end with the same four arrays, the forget weights finite. -/
theorem algebraic_KernelProjIdeal_ReferenceProjIdeal_pre_finite_forget_weights : Cert.algebraic_KernelProjIdeal_ReferenceProjIdeal_pre_finite_forget_weights := by
  intro m ρ m' ρ' hpre hagree
  refine ⟨fun c => Cert.KernelProjIdeal.Hand.G4 m c, fun c => Cert.KernelProjIdeal.Hand.G5 m c, fun c => Cert.KernelProjIdeal.Hand.G6 m c, fun c => Cert.KernelProjIdeal.Hand.G7 m c, ?_, ?_⟩
  · exact Cert.KernelProjIdeal.Hand.run_value m ρ fun c => Cert.KernelProjIdeal.Hand.finite_apply _ _ _ _ (hpre c)
  · refine (θ_run Cert.ReferenceProjIdeal.defs _ _).mono (fun _ h c => ⟨?_, ?_, ?_, ?_, (h c).2.2.2.2⟩) (Cert.ReferenceProjIdeal.Value.run (F := Ideal) m' ρ')
    · rw [(h c).1]
      unfold Cert.ReferenceProjIdeal.Value.res_main_v38
      rw [(hagree c).1, (hagree c).2.1, (hagree c).2.2.1]
      funext i
      idx_vars i
      unfold Cert.KernelProjIdeal.Hand.G4 Cert.KernelProjIdeal.Hand.projAt Cert.KernelProjIdeal.Hand.normAt Shared.norm
      pointwise
      exact Cert.KernelProjIdeal.Hand.ladder4 (m ((c : Thread Cert.KernelProjIdeal.nD Cert.KernelProjIdeal.τ).loc Cert.KernelProjIdeal.main_arg0)) (m ((c : Thread Cert.KernelProjIdeal.nD Cert.KernelProjIdeal.τ).loc Cert.KernelProjIdeal.main_arg1)) (m ((c : Thread Cert.KernelProjIdeal.nD Cert.KernelProjIdeal.τ).loc Cert.KernelProjIdeal.main_arg2)) i0 i1 i2 i3
    · rw [(h c).2.1, (hagree c).1, (hagree c).2.1, (hagree c).2.2.1]
      funext i
      idx_vars i
      unfold Cert.KernelProjIdeal.Hand.G5 Cert.KernelProjIdeal.Hand.projAt Cert.KernelProjIdeal.Hand.normAt Shared.norm
      pointwise
      exact Cert.KernelProjIdeal.Hand.ladder2 (m ((c : Thread Cert.KernelProjIdeal.nD Cert.KernelProjIdeal.τ).loc Cert.KernelProjIdeal.main_arg0)) (m ((c : Thread Cert.KernelProjIdeal.nD Cert.KernelProjIdeal.τ).loc Cert.KernelProjIdeal.main_arg1)) (m ((c : Thread Cert.KernelProjIdeal.nD Cert.KernelProjIdeal.τ).loc Cert.KernelProjIdeal.main_arg2)) i0 i1 i2
    · rw [(h c).2.2.1, (hagree c).1, (hagree c).2.1, (hagree c).2.2.2]
      funext i
      idx_vars i
      unfold Cert.KernelProjIdeal.Hand.G6 Cert.KernelProjIdeal.Hand.normAt Shared.norm
      pointwise
    · rw [(h c).2.2.2.1, (hagree c).1, (hagree c).2.1]
      funext i
      idx_vars i
      unfold Cert.KernelProjIdeal.Hand.G7 Cert.KernelProjIdeal.Hand.normAt Shared.norm
      pointwise

end Cert.Proof

end
-- ==== Proof.MobaIdealRun.lean ====
/-
  The block attention's body, run once: from its staged operands at their contents and its results and scratch at
  any contents it runs to its end, whichever of its conditionals are taken, and leaves the operands as they were.
-/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option sl_exec.squeezeSlice true in
/-- The body's triple: the nine staged operands are held at their contents and handed back so; the five results and the
    seven scratch buffers are held at some contents before and after. -/
theorem body_run (c : Dev nD) (i : grid0.Coords) (arg3 : Memref sig .tc .smem S8x32 .f32) (harg3 : arg3.IsWhole) (arg4 : Memref sig .tc .vmem S2x2x128x256 .bf16) (harg4 : arg4.IsWhole) (arg5 : Memref sig .tc .vmem S2x32x256x128 .bf16) (harg5 : arg5.IsWhole) (arg6 : Memref sig .tc .vmem S2x32x128x256 .bf16) (harg6 : arg6.IsWhole) (arg7 : Memref sig .tc .vmem S2x3x512x512 .f32) (harg7 : arg7.IsWhole) (arg8 : Memref sig .tc .vmem S16x8192 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S16x2048 .f32) (harg11 : arg11.IsWhole) (arg12 : Memref sig .tc .vmem S512x256 .bf16) (harg12 : arg12.IsWhole) (arg13 : Memref sig .tc .vmem S16x8192 .bf16) (harg13 : arg13.IsWhole) (arg14 : Memref sig .tc .vmem S16x2048 .bf16) (harg14 : arg14.IsWhole) (arg15 : Memref sig .tc .vmem S16x2048 .bf16) (harg15 : arg15.IsWhole) (arg16 : Memref sig .tc .vmem S16x2048 .bf16) (harg16 : arg16.IsWhole) (arg17 : Memref sig .tc .vmem S2x16x512x256 .bf16) (harg17 : arg17.IsWhole) (arg18 : Memref sig .tc .vmem S2x32x128 .f32) (harg18 : arg18.IsWhole) (arg19 : Memref sig .tc .vmem S2x96x128 .bf16) (harg19 : arg19.IsWhole) (arg20 : Memref sig .tc .vmem S2x2x512x512 .f32) (harg20 : arg20.IsWhole) (arg21 : Memref sig .tc .vmem S2x1x512 .f32) (harg21 : arg21.IsWhole) (arg22 : Memref sig .tc .vmem S2x1x512 .f32) (harg22 : arg22.IsWhole) (arg23 : Memref sig .tc .vmem S2x128x512 .f32) (harg23 : arg23.IsWhole)
    (x0 : Vec F S8x32 .f32) (x1 : Vec F S2x2x128x256 .bf16) (x2 : Vec F S2x32x256x128 .bf16) (x3 : Vec F S2x32x128x256 .bf16) (x4 : Vec F S2x3x512x512 .f32) (x5 : Vec F S16x8192 .f32) (x6 : Vec F S16x2048 .f32) (x7 : Vec F S16x2048 .f32) (x8 : Vec F S16x2048 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E
          (cc0_moba_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_moba_attn_eq_skeleton]; unfold cc0_moba_attn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec_parts
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

end Cert.KernelIdeal.Hand

end
-- ==== Proof.MobaIdeal.lean ====
/-
  The block attention's frame over the reals: every execution ends, its arguments are as they were and every counter is at zero.
  What the kernel leaves in its results is not stated; the scratch it keeps between grid points is held at some contents.
-/
module

public import proofs.«01_k».proof.Proof.MobaIdealRun
public import proofs.«01_k».proof.Defs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said afterwards: the five results'. -/
def unsaid : Fin 14 → Bool := fun w => decide (9 ≤ w.val)

/-- What is held on core `c` between grid points: the arrays as launched, each operand's buffer at its block, the results'
    buffers unnamed, the scratch at some contents; an array two windows read is dealt between them. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q w := Pipeline.shareOf spec0 w
  owed _ := 0

/-- The arrays are those of the launch. -/
theorem data_A (c : Dev nD) (w : Fin cfg0.W) : (data m 0 c).A w = V m c (Pipeline.arrRef spec0 w) := by
  dsimp only [data]

/-- Operand 0's buffer after the body: its block. -/
theorem after_0 (c : Dev nD) (t : Fin cfg0.N) : (data m 0 c).after 0 t = iblk m c 0 t := by dsimp only [data]
/-- Operand 0's buffer before the body: its block. -/
theorem before_0 (c : Dev nD) (t : Fin cfg0.N) (d) : (data m 0 c).before 0 t d = iblk m c 0 t :=
  before0_0_of m (data m 0 c) (data_A m c 0) (after_0 m c) t d
/-- Operand 1's buffer after the body: its block. -/
theorem after_1 (c : Dev nD) (t : Fin cfg0.N) : (data m 0 c).after 1 t = iblk m c 1 t := by dsimp only [data]
/-- Operand 1's buffer before the body: its block. -/
theorem before_1 (c : Dev nD) (t : Fin cfg0.N) (d) : (data m 0 c).before 1 t d = iblk m c 1 t :=
  before0_1_of m (data m 0 c) (data_A m c 1) (after_1 m c) t d
/-- Operand 2's buffer after the body: its block. -/
theorem after_2 (c : Dev nD) (t : Fin cfg0.N) : (data m 0 c).after 2 t = iblk m c 2 t := by dsimp only [data]
/-- Operand 2's buffer before the body: its block. -/
theorem before_2 (c : Dev nD) (t : Fin cfg0.N) (d) : (data m 0 c).before 2 t d = iblk m c 2 t :=
  before0_2_of m (data m 0 c) (data_A m c 2) (after_2 m c) t d
/-- Operand 3's buffer after the body: its block. -/
theorem after_3 (c : Dev nD) (t : Fin cfg0.N) : (data m 0 c).after 3 t = iblk m c 3 t := by dsimp only [data]
/-- Operand 3's buffer before the body: its block. -/
theorem before_3 (c : Dev nD) (t : Fin cfg0.N) (d) : (data m 0 c).before 3 t d = iblk m c 3 t :=
  before0_3_of m (data m 0 c) (data_A m c 3) (after_3 m c) t d
/-- Operand 4's buffer after the body: its block. -/
theorem after_4 (c : Dev nD) (t : Fin cfg0.N) : (data m 0 c).after 4 t = iblk m c 4 t := by dsimp only [data]
/-- Operand 4's buffer before the body: its block. -/
theorem before_4 (c : Dev nD) (t : Fin cfg0.N) (d) : (data m 0 c).before 4 t d = iblk m c 4 t :=
  before0_4_of m (data m 0 c) (data_A m c 4) (after_4 m c) t d
/-- Operand 5's buffer after the body: its block. -/
theorem after_5 (c : Dev nD) (t : Fin cfg0.N) : (data m 0 c).after 5 t = iblk m c 5 t := by dsimp only [data]
/-- Operand 5's buffer before the body: its block. -/
theorem before_5 (c : Dev nD) (t : Fin cfg0.N) (d) : (data m 0 c).before 5 t d = iblk m c 5 t :=
  before0_5_of m (data m 0 c) (data_A m c 5) (after_5 m c) t d
/-- Operand 6's buffer after the body: its block. -/
theorem after_6 (c : Dev nD) (t : Fin cfg0.N) : (data m 0 c).after 6 t = iblk m c 6 t := by dsimp only [data]
/-- Operand 6's buffer before the body: its block. -/
theorem before_6 (c : Dev nD) (t : Fin cfg0.N) (d) : (data m 0 c).before 6 t d = iblk m c 6 t :=
  before0_6_of m (data m 0 c) (data_A m c 6) (after_6 m c) t d
/-- Operand 7's buffer after the body: its block. -/
theorem after_7 (c : Dev nD) (t : Fin cfg0.N) : (data m 0 c).after 7 t = iblk m c 7 t := by dsimp only [data]
/-- Operand 7's buffer before the body: its block. -/
theorem before_7 (c : Dev nD) (t : Fin cfg0.N) (d) : (data m 0 c).before 7 t d = iblk m c 7 t :=
  before0_7_of m (data m 0 c) (data_A m c 7) (after_7 m c) t d
/-- Operand 8's buffer after the body: its block. -/
theorem after_8 (c : Dev nD) (t : Fin cfg0.N) : (data m 0 c).after 8 t = iblk m c 8 t := by dsimp only [data]
/-- Operand 8's buffer before the body: its block. -/
theorem before_8 (c : Dev nD) (t : Fin cfg0.N) (d) : (data m 0 c).before 8 t d = iblk m c 8 t :=
  before0_8_of m (data m 0 c) (data_A m c 8) (after_8 m c) t d

/-- The buffers held at a point before the body, -/
def held (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d))

/-- and after it. -/
def left (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d))

/-- What is held of the scratch, buffer by buffer: each at some contents. -/
theorem scratch_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA; rw [scopedRest0_eq]; simp only [owns_whole]

set_option maxHeartbeats 2000000 in
/-- The body at any grid point. -/
theorem body_at (c : Dev nD) (t : Fin cfg0.N) :
    held m c t ⊢ wp frame (wpE (defs₀ (F := F)) Variants.none c none) Set.univ (bodyAt0 t) (fun _ => left m c t) := by
  unfold held left bodyAt0
  simp only [before_0, before_1, before_2, before_3, before_4, before_5, before_6, before_7, before_8]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl,
    after_0, after_1, after_2, after_3, after_4, after_5, after_6, after_7, after_8, scratch_eq]
  iintro ⟨⟨⟨H14, H15, H16, H17, H18, H19, H20⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H0, H1, H2, H3, H4, H5, H6, H7, H8, H9, H10, H11, H12, H13, H14, H15, H16, H17, H18, H19, H20⟩
  isplitl [H14 H15 H16 H17 H18 H19 H20 Hg]
  · isplitl [H14 H15 H16 H17 H18 H19 H20]
    · isplitl [H14]; · iexact H14
      isplitl [H15]; · iexact H15
      isplitl [H16]; · iexact H16
      isplitl [H17]; · iexact H17
      isplitl [H18]; · iexact H18
      isplitl [H19]; · iexact H19
      iexact H20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body's entry in the table of bodies. -/
theorem body_row (t : Fin cfg0.N) : defs₀ (F := F) .tc cfg0.body (cfg0.bodyArgs t (cfg0.slots t)) = bodyAt0 t := by
  unfold defs₀; rw [Defs.onTc_tc]

/-- The body's obligation at every point. -/
theorem body_ok (c : Dev nD) : BodyObligation (data (F := F) m 0 c) (defs₀ (F := F)) Variants.none () Set.univ unsaid := fun t => by
  rw [bigSep_W0, bigSep_W0, body_row]
  exact triple_restated (body_at m c t) rfl .rfl fun _ => .rfl

set_option backward.isDefEq.respectTransparency.types false in
/-- The launch: every execution ends, with what is said of the arrays and every counter at zero. -/
theorem launched : θ_run defs (onTc (τ := τ) (main (F := F))) (s₀ m ρ)
    (fun r => (Pipeline.RDat.FramePost (cfgs 0) (fun c => (data m 0 c).toRForget unsaid) (V m)) r ∧ r.2.sem = fun _ => 0) :=
  Pipeline.θ_run_frame_forget_shared (Q' := _) cfgs (data m) (0 : Fin 1) launch₀0 defs₀ Variants.none unsaid m ρ main
    (hbody := fun c => (body_ok m c).loose) (hq := fun _ _ _ => rfl)
    (howed := fun _ _ => rfl) (V := V m) (hmain := hmain m Variants.none) (hA := data_A m) (hΦ := fun _ _ => rfl)

/-- The frame: the arguments end unchanged and every counter at zero. -/
theorem frame_whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r (h : _ ∧ _) => ⟨fun c => ⟨(Pipeline.RDat.FramePost.arr_in h.1 c 3 rfl).trans (data_A m c 3),
      (Pipeline.RDat.FramePost.arr_in h.1 c 2 rfl).trans (data_A m c 2),
      (Pipeline.RDat.FramePost.arr_in h.1 c 4 rfl).trans (data_A m c 4),
      (Pipeline.RDat.FramePost.arr_in h.1 c 0 rfl).trans (data_A m c 0),
      (Pipeline.RDat.FramePost.arr_in h.1 c 5 rfl).trans (data_A m c 5),
      (Pipeline.RDat.FramePost.arr_in h.1 c 6 rfl).trans (data_A m c 6),
      (Pipeline.RDat.FramePost.arr_in h.1 c 7 rfl).trans (data_A m c 7),
      (Pipeline.RDat.FramePost.arr_in h.1 c 8 rfl).trans (data_A m c 8)⟩, h.2⟩) (launched m ρ)

end Cert.KernelIdeal.Hand

namespace Cert.Proof

open Idealize.ShloMosaic

/-- The claim. -/
theorem quiescent_KernelIdeal : Cert.quiescent_KernelIdeal (hKernelIdeal := Cert.KernelIdeal.Gen.facts) :=
  fun m ρ _ => Cert.KernelIdeal.Hand.frame_whole m ρ

end Cert.Proof

end
-- ==== Proof.CrossRef.lean ====
/-
  The reference of the cross attention, in stages, each read at an index.
-/
module

public import proofs.«01_k».proof.Defs
public import proofs.«01_k».proof.Proof.Gen.ReferenceCrossIdeal.Run
public import proofs.«01_k».proof.Proof.Common

@[expose] public section

noncomputable section

open Idealize.ShloMosaic Idealize.ShloMosaic.TcCoe Idealize.SL.Sem Cert

namespace Cert.ReferenceCrossIdeal.Value

open Cert.ReferenceCrossIdeal Cert.ReferenceCrossIdeal.Gen

/-- The queries, head by head. -/
def refQ (h : FVec Ideal S16384x2048 .f32) (g : FVec Ideal S2048 .f32) (w : FVec Ideal S2048x512 .bf16) : FVec Ideal S2x4x8192x128 .f32 :=
  transpose S2x4x8192x128 [0, 2, 1, 3] (shapeCast S2x8192x4x128 (shapeCast S2x8192x512 (Host.dotGeneral dot_S16384x2048_S2048x512_S16384x512_1_0_0_1_n_n none
    (mulf (mulf h (broadcastInDim S16384x2048 ![0, 1] bcast_S16384x1_S16384x2048_0_1 (Host.rsqrt (addf (Host.divf
      (broadcastInDim S16384x1 ![0] bcast_S16384_S16384x1_0 (Host.reduceAdd (mulf h h) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 g)))
    (extf .f32 w bitsLt_bf16_f32)) shapeCasts_S16384x512_S2x8192x512) shapeCasts_S2x8192x512_S2x8192x4x128) transposes_S2x8192x4x128_S2x4x8192x128_0_2_1_3

/-- The keys, head by head. -/
def refK (kv : FVec Ideal S512x1024 .bf16) : FVec Ideal S2x4x256x128 .f32 :=
  transpose S2x4x256x128 [0, 2, 1, 3] (shapeCast S2x256x4x128 (extractStridedSlice S2x256x512 ![0, 0, 0] (shapeCast S2x256x1024 (extf .f32 kv bitsLt_bf16_f32)
    shapeCasts_S512x1024_S2x256x1024) slices_S2x256x1024_S2x256x512_0_0_0) shapeCasts_S2x256x512_S2x256x4x128) transposes_S2x256x4x128_S2x4x256x128_0_2_1_3

/-- The values, head by head. -/
def refV (kv : FVec Ideal S512x1024 .bf16) : FVec Ideal S2x4x256x128 .f32 :=
  transpose S2x4x256x128 [0, 2, 1, 3] (shapeCast S2x256x4x128 (extractStridedSlice S2x256x512 ![0, 0, 512] (shapeCast S2x256x1024 (extf .f32 kv bitsLt_bf16_f32)
    shapeCasts_S512x1024_S2x256x1024) slices_S2x256x1024_S2x256x512_0_0_512) shapeCasts_S2x256x512_S2x256x4x128) transposes_S2x256x4x128_S2x4x256x128_0_2_1_3

/-- The logits. -/
def refZ (q : FVec Ideal S2x4x8192x128 .f32) (k : FVec Ideal S2x4x256x128 .f32) : FVec Ideal S2x4x8192x256 .f32 :=
  Host.divf (Host.dotGeneral dot_S2x4x8192x128_S2x4x256x128_S2x4x8192x256_3_3_2_2_01_01 none q k)
    (broadcastInDim S2x4x8192x256 ![] bcast_S_S2x4x8192x256 (Host.sqrt (constant S_ .f32 0x43000000#32)))

/-- The greatest logit of each row. -/
def refM (z : FVec Ideal S2x4x8192x256 .f32) : FVec Ideal S2x4x8192 .f32 :=
  Host.reduce FloatOps.maximumf z (constant S_ .f32 0xFF800000#32) reducesTo_S2x4x8192x256_S2x4x8192_d3 h_S_

/-- The exponentials of the logits less their row's greatest. -/
def refE (z : FVec Ideal S2x4x8192x256 .f32) (u : FVec Ideal S2x4x8192 .f32) : FVec Ideal S2x4x8192x256 .f32 :=
  Host.exp (subf z (broadcastInDim S2x4x8192x256 ![0, 1, 2, 3] bcast_S2x4x8192x1_S2x4x8192x256_0_1_2_3 (broadcastInDim S2x4x8192x1 ![0, 1, 2] bcast_S2x4x8192_S2x4x8192x1_0_1_2
    (maximumf (broadcastInDim S2x4x8192 ![] bcast_S_S2x4x8192 (constant S_ .f32 0xFF800000#32)) u))))

/-- The weights: each exponential divided by its row's sum. -/
def refP (e : FVec Ideal S2x4x8192x256 .f32) : FVec Ideal S2x4x8192x256 .f32 :=
  Host.divf e (broadcastInDim S2x4x8192x256 ![0, 1, 2, 3] bcast_S2x4x8192x1_S2x4x8192x256_0_1_2_3 (broadcastInDim S2x4x8192x1 ![0, 1, 2] bcast_S2x4x8192_S2x4x8192x1_0_1_2
    (Host.reduceAdd e (constant S_ .f32 0x00000000#32) reducesTo_S2x4x8192x256_S2x4x8192_d3 h_S_)))

/-- The heads' outputs, side by side. -/
def refO (p : FVec Ideal S2x4x8192x256 .f32) (v : FVec Ideal S2x4x256x128 .f32) : FVec Ideal S16384x512 .f32 :=
  shapeCast S16384x512 (shapeCast S2x8192x512 (transpose S2x8192x4x128 [0, 2, 1, 3] (Host.dotGeneral dot_S2x4x8192x256_S2x4x256x128_S2x4x8192x128_3_2_2_3_01_01 none p v)
    transposes_S2x4x8192x128_S2x8192x4x128_0_2_1_3) shapeCasts_S2x8192x4x128_S2x8192x512) shapeCasts_S2x8192x512_S16384x512

/-- The result: the outputs projected and added to the stream. -/
def refOut (h : FVec Ideal S16384x2048 .f32) (o : FVec Ideal S16384x512 .f32) (w : FVec Ideal S512x2048 .bf16) : FVec Ideal S16384x2048 .f32 :=
  addf h (Host.dotGeneral dot_S16384x512_S512x2048_S16384x2048_1_0_0_1_n_n none o (extf .f32 w bitsLt_bf16_f32))

/-- The reference's result is the stages', one after the other. -/
theorem res_eq (m : (ℓ : Loc nD τ sig) → Buf (Elt Ideal) ℓ) (c : Dev nD) :
    let z := refZ (refQ (m ((c.tc : Thread nD τ).loc main_arg0)) (m ((c.tc : Thread nD τ).loc main_arg1)) (m ((c.tc : Thread nD τ).loc main_arg2)))
        (refK (m ((c.tc : Thread nD τ).loc main_arg3)))
    res_main_v47 m c = refOut (m ((c.tc : Thread nD τ).loc main_arg0))
      (refO (refP (refE z (refM z))) (refV (m ((c.tc : Thread nD τ).loc main_arg3)))) (m ((c.tc : Thread nD τ).loc main_arg4)) := by
  dsimp only
  unfold res_main_v47 refOut refO refP refE refM refZ refQ refK refV
  rfl

/-- The queries, at an index. -/
theorem refQ_apply (h : FVec Ideal S16384x2048 .f32) (g : FVec Ideal S2048 .f32) (w : FVec Ideal S2048x512 .bf16) (b : Fin 2) (n : Fin 4) (i : Fin 8192) (d : Fin 128) :
    refQ h g w (ix4 b n i d) = (∑ k : Fin 2048, Shared.norm (fun l => h (ix2 ⟨b.val * 8192 + i.val, by omega⟩ l)) (fun l => g (ix1 l)) k * w (ix2 k ⟨n.val * 128 + d.val, by omega⟩) : EReal) := by
  unfold refQ Shared.norm
  pointwise

/-- The keys, at an index. -/
theorem refK_apply (kv : FVec Ideal S512x1024 .bf16) (b : Fin 2) (n : Fin 4) (i : Fin 256) (d : Fin 128) :
    refK kv (ix4 b n i d) = kv (ix2 ⟨b.val * 256 + i.val, by omega⟩ ⟨n.val * 128 + d.val, by omega⟩) := by
  unfold refK
  pointwise

/-- The values, at an index. -/
theorem refV_apply (kv : FVec Ideal S512x1024 .bf16) (b : Fin 2) (n : Fin 4) (i : Fin 256) (d : Fin 128) :
    refV kv (ix4 b n i d) = kv (ix2 ⟨b.val * 256 + i.val, by omega⟩ ⟨512 + (n.val * 128 + d.val), by omega⟩) := by
  unfold refV
  pointwise

/-- The logits, at an index. -/
theorem refZ_apply (q : FVec Ideal S2x4x8192x128 .f32) (k : FVec Ideal S2x4x256x128 .f32) (b : Fin 2) (n : Fin 4) (i : Fin 8192) (j : Fin 256) :
    refZ q k (ix4 b n i j) = Ideal.div (∑ d : Fin 128, q (ix4 b n i d) * k (ix4 b n j d)) (Ideal.sqrt (Ideal.ofBits .f32 0x43000000#32)) := by
  unfold refZ
  pointwise

/-- A maximum over the last of four axes, at an index. -/
theorem hostMax_apply {n0 n1 n2 n3 : ℕ} {u : Shape} (h : (⟨4, ![n0, n1, n2, n3]⟩ : Shape).ReducesTo [3] ⟨3, ![n0, n1, n2]⟩) (hu : 0 < u.numel) (w : BitVec 32)
    (z : FVec Ideal ⟨4, ![n0, n1, n2, n3]⟩ .f32) (b : Fin n0) (n : Fin n1) (i : Fin n2) :
    Host.reduce FloatOps.maximumf z (constant u .f32 w) h hu (ix3 b n i) = (Finset.univ : Finset (Fin n3)).fold max (Ideal.ofBits .f32 w) (fun x => z (ix4 b n i x)) := by
  pointwise

/-- The greatest logit of a row. -/
theorem refM_apply (z : FVec Ideal S2x4x8192x256 .f32) (b : Fin 2) (n : Fin 4) (i : Fin 8192) :
    refM z (ix3 b n i) = (Finset.univ : Finset (Fin 256)).fold max (Ideal.ofBits .f32 0xFF800000#32) (fun x => z (ix4 b n i x)) := by
  unfold refM
  exact hostMax_apply _ _ _ _ _ _ _

/-- The exponentials, at an index. -/
theorem refE_apply (z : FVec Ideal S2x4x8192x256 .f32) (u : FVec Ideal S2x4x8192 .f32) (b : Fin 2) (n : Fin 4) (i : Fin 8192) (j : Fin 256) :
    refE z u (ix4 b n i j) = Ideal.exp (z (ix4 b n i j) - max (Ideal.ofBits .f32 0xFF800000#32) (u (ix3 b n i))) := by
  unfold refE
  pointwise

/-- The weights, at an index. -/
theorem refP_apply (e : FVec Ideal S2x4x8192x256 .f32) (b : Fin 2) (n : Fin 4) (i : Fin 8192) (j : Fin 256) :
    refP e (ix4 b n i j) = Ideal.div (e (ix4 b n i j)) (∑ x : Fin 256, e (ix4 b n i x)) := by
  unfold refP
  pointwise

/-- The heads' outputs, at an index. -/
theorem refO_apply (p : FVec Ideal S2x4x8192x256 .f32) (v : FVec Ideal S2x4x256x128 .f32) (r : Fin 16384) (x : Fin 512) :
    refO p v (ix2 r x) = (∑ j : Fin 256, p (ix4 ⟨r.val / 8192, by omega⟩ ⟨x.val / 128, by omega⟩ ⟨r.val % 8192, by omega⟩ j)
      * v (ix4 ⟨r.val / 8192, by omega⟩ ⟨x.val / 128, by omega⟩ j ⟨x.val % 128, by omega⟩) : EReal) := by
  unfold refO
  pointwise

/-- The result, at an index. -/
theorem refOut_apply (h : FVec Ideal S16384x2048 .f32) (o : FVec Ideal S16384x512 .f32) (w : FVec Ideal S512x2048 .bf16) (r : Fin 16384) (q : Fin 2048) :
    refOut h o w (ix2 r q) = h (ix2 r q) + (∑ x : Fin 512, o (ix2 r x) * w (ix2 x q) : EReal) := by
  unfold refOut
  pointwise

end Cert.ReferenceCrossIdeal.Value

end
-- ==== Proof.Soft.lean ====
/-
  Softmax over the extended reals: a row of real logits weighed in base two, normalised after the values are summed, is the
  row weighed in base e and normalised before. And a normalised row with real gains is a row of reals.
-/
module

public import proofs.«01_k».proof.Proof.Common

@[expose] public section

noncomputable section

namespace Idealize.ShloMosaic.Shared

/-- The programs' word for minus infinity. -/
theorem ofBits_neg_inf : Ideal.ofBits .f32 0xFF800000#32 = ⊥ := by simp [Ideal.ofBits, Ideal.ieee]

/-- The programs' word for 2048. -/
theorem ofBits_2048 : Ideal.ofBits .f32 0x45000000#32 = ((2048 : ℝ) : EReal) := by
  simp [Ideal.ofBits, Ideal.ieee, -EReal.coe_mul]; norm_num

/-- The programs' word for 128. -/
theorem ofBits_128 : Ideal.ofBits .f32 0x43000000#32 = ((128 : ℝ) : EReal) := by
  simp [Ideal.ofBits, Ideal.ieee, -EReal.coe_mul]; norm_num

/-- The offset under the root is a positive real. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- A sum of reals is a real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum times a real that is not negative is the sum of the products. -/
theorem sum_mul_coe {ι : Type*} (s : Finset ι) (f : ι → EReal) {a : ℝ} (ha : 0 ≤ a) : (∑ i ∈ s, f i) * (a : EReal) = ∑ i ∈ s, f i * (a : EReal) := by
  classical
  induction s using Finset.induction_on with
  | empty => simp
  | insert b s hb ih =>
    rw [Finset.sum_insert hb, Finset.sum_insert hb, ← ih]
    exact EReal.right_distrib_of_nonneg_of_ne_top (by exact_mod_cast ha) (EReal.coe_ne_top a) _ _

/-- A square of an extended real is not negative. -/
theorem mul_self_nonneg (x : EReal) : 0 ≤ x * x := by
  induction x using EReal.rec with
  | bot => simp
  | top => simp
  | coe r => exact_mod_cast _root_.mul_self_nonneg r

/-- A row normalised with real gains is a row of reals: where the row is not real its sum of squares is infinite, and
    the reciprocal root is zero. -/
theorem norm_real (x g : Fin 2048 → EReal) (hg : ∀ k, ∃ r : ℝ, g k = r) (k : Fin 2048) : ∃ r : ℝ, norm x g k = r := by
  obtain ⟨e, he, hE⟩ := ofBits_eps
  obtain ⟨gk, hgk⟩ := hg k
  unfold norm
  rw [hE, ofBits_2048, hgk, Ideal.div_coe (by norm_num)]
  by_cases hx : ∀ l, ∃ r : ℝ, x l = r
  · choose y hy using hx
    simp only [hy, ← EReal.coe_mul, coe_sum, ← EReal.coe_add]
    have h0 : 0 < (∑ l, y l * y l) * (1 / 2048) + e := by
      have : 0 ≤ ∑ l, y l * y l := Finset.sum_nonneg fun l _ => _root_.mul_self_nonneg (y l)
      positivity
    rw [Ideal.rsqrt_coe, if_neg (not_lt.mpr h0.le), if_neg h0.ne']
    exact ⟨_, by rw [← EReal.coe_mul, ← EReal.coe_mul]⟩
  · push Not at hx
    obtain ⟨l, hl⟩ := hx
    have hsq : x l * x l = ⊤ := by
      induction h : x l using EReal.rec with
      | bot => simp
      | top => simp
      | coe r => exact absurd h (hl r)
    have hS : ∑ l, x l * x l = ⊤ := by
      refine top_le_iff.mp (hsq ▸ ?_)
      exact Finset.single_le_sum (f := fun l => x l * x l) (fun i _ => mul_self_nonneg (x i)) (Finset.mem_univ l)
    rw [hS, EReal.top_mul_coe_of_pos (by norm_num), EReal.top_add_coe, Ideal.rsqrt_top, mul_zero, zero_mul]
    exact ⟨0, rfl⟩

/-- The greatest of a row of reals, scaled by a factor that is not negative, is reached where the row's greatest is. -/
theorem fold_max_eq {n : ℕ} (z : Fin n → ℝ) (j : Fin n) (hj : ∀ i, z i ≤ z j) :
    (Finset.univ : Finset (Fin n)).fold max (⊥ : EReal) (fun i => (z i : EReal)) = z j := by
  refine le_antisymm (Finset.fold_max_le _ |>.mpr ⟨bot_le, fun i _ => by exact_mod_cast hj i⟩) ?_
  exact (Finset.le_fold_max _).mpr (Or.inr ⟨j, Finset.mem_univ _, le_rfl⟩)

/-- What a head gives at one element of its output, as the kernel computes it. -/
def headK (q : Fin 128 → EReal) (k : Fin 256 → Fin 128 → EReal) (v : Fin 256 → EReal) : EReal :=
  let s := fun j => ∑ d, q d * k j d
  let u := (Finset.univ : Finset (Fin 256)).fold max (Ideal.ofBits .f32 0xFF800000#32) s
  (∑ j, Ideal.exp2 (s j - u) * v j) * Ideal.div 1 (∑ j, Ideal.exp2 (s j - u))

/-- What a head gives at one element of its output, as the reference computes it. -/
def headR (q : Fin 128 → EReal) (k : Fin 256 → Fin 128 → EReal) (v : Fin 256 → EReal) : EReal :=
  let z := fun j => Ideal.div (∑ d, q d * k j d) (Ideal.sqrt (Ideal.ofBits .f32 0x43000000#32))
  let u := max (Ideal.ofBits .f32 0xFF800000#32) ((Finset.univ : Finset (Fin 256)).fold max (Ideal.ofBits .f32 0xFF800000#32) z)
  ∑ j, Ideal.div (Ideal.exp (z j - u)) (∑ i, Ideal.exp (z i - u)) * v j

/-- A power of two whose exponent is scaled by `1 / log 2` is a power of e. -/
theorem exp2_scaled (x : ℝ) : Ideal.exp2 ((x * (Real.log 2)⁻¹ : ℝ) : EReal) = (Real.exp x : EReal) := by
  rw [Ideal.exp2_coe]
  congr 1
  show (2 : ℝ) ^ (x * (Real.log 2)⁻¹) = _
  rw [Real.rpow_def_of_pos (by norm_num)]
  congr 1
  have : Real.log 2 ≠ 0 := (Real.log_pos (by norm_num)).ne'
  field_simp

/-- Real queries, scaled by `1 / (√128 · log 2)`, and real keys give the kernel the reference's head. -/
theorem headK_eq_headR (q : Fin 128 → EReal) (k : Fin 256 → Fin 128 → EReal) (v : Fin 256 → EReal)
    (hq : ∀ d, ∃ r : ℝ, q d = r) (hk : ∀ j d, ∃ r : ℝ, k j d = r) :
    headK (fun d => q d * (((Real.sqrt 128)⁻¹ * (Real.log 2)⁻¹ : ℝ) : EReal)) k v = headR q k v := by
  choose a ha using hq
  choose b hb using hk
  obtain ⟨z, hz⟩ : ∃ z : Fin 256 → ℝ, z = fun j => (∑ d, a d * b j d) * (Real.sqrt 128)⁻¹ := ⟨_, rfl⟩
  have hs : ∀ j, ∑ d, q d * (((Real.sqrt 128)⁻¹ * (Real.log 2)⁻¹ : ℝ) : EReal) * k j d = ((z j * (Real.log 2)⁻¹ : ℝ) : EReal) := fun j => by
    simp only [ha, hb, ← EReal.coe_mul, coe_sum, hz]
    congr 1
    rw [Finset.sum_mul, Finset.sum_mul]
    exact Finset.sum_congr rfl fun d _ => by ring
  have hr : ∀ j, Ideal.div (∑ d, q d * k j d) (Ideal.sqrt (Ideal.ofBits .f32 0x43000000#32)) = (z j : EReal) := fun j => by
    rw [ofBits_128, Ideal.sqrt_coe, if_neg (by norm_num), Ideal.div_coe (Real.sqrt_pos.mpr (by norm_num)).ne']
    simp only [ha, hb, ← EReal.coe_mul, coe_sum, hz, one_div]
  obtain ⟨j, -, hj⟩ := Finset.exists_max_image (Finset.univ : Finset (Fin 256)) z ⟨0, Finset.mem_univ _⟩
  have hL : 0 ≤ (Real.log 2)⁻¹ := inv_nonneg.mpr (Real.log_nonneg (by norm_num))
  unfold headK headR
  dsimp only
  simp only [hs, hr, ofBits_neg_inf]
  rw [fold_max_eq z j fun i => hj i (Finset.mem_univ _),
    fold_max_eq (fun i => z i * (Real.log 2)⁻¹) j fun i => mul_le_mul_of_nonneg_right (hj i (Finset.mem_univ _)) hL, max_eq_right bot_le]
  have he : ∀ i, Ideal.exp2 (((z i * (Real.log 2)⁻¹ : ℝ) : EReal) - ((z j * (Real.log 2)⁻¹ : ℝ) : EReal)) = (Real.exp (z i - z j) : EReal) := fun i => by
    rw [← EReal.coe_sub, ← sub_mul, exp2_scaled]
  simp only [he]
  simp only [← EReal.coe_sub, Ideal.exp_coe, coe_sum]
  have hS : 0 < ∑ i, Real.exp (z i - z j) := Finset.sum_pos (fun i _ => Real.exp_pos _) ⟨0, Finset.mem_univ _⟩
  simp only [Ideal.div_coe hS.ne', one_mul]
  rw [sum_mul_coe _ _ (by positivity)]
  exact Finset.sum_congr rfl fun i _ => mul_right_comm _ _ _

end Idealize.ShloMosaic.Shared

end
-- ==== Proof.Cross.lean ====
/-
  The cross attention: each of the 16 points takes 1024 rows of the stream, normalises and projects them to the queries of
  four heads, attends to the 256 memory positions of its sequence, and adds the projected outputs to the rows.
-/
module

public import proofs.«01_k».proof.Defs
public import proofs.«01_k».proof.Proof.Gen.KernelCrossIdeal.Value
public import proofs.«01_k».proof.Proof.Gen.Pre_finite_gains_queries_keys
public import proofs.«01_k».proof.Proof.CrossRef
public import proofs.«01_k».proof.Proof.Soft
public import Idealize.ShloMosaic.Lib.ReduceAll
public import Idealize.ShloMosaic.Lib.WordCmp

@[expose] public section

noncomputable section

open Idealize.ShloMosaic Idealize.ShloMosaic.TcCoe Idealize.SL.Sem Cert
open Idealize.ShloMosaic.Pipeline (Dat)

namespace Cert.KernelCrossIdeal.Value

open Cert.KernelCrossIdeal Cert.KernelCrossIdeal.Gen

variable (m : (ℓ : Loc nD τ sig) → Buf (Elt Ideal) ℓ) (ρ : Dev nD → PrngReg)

/-- What the queries are scaled by. -/
abbrev scale : EReal := (((Real.sqrt 128)⁻¹ * (Real.log 2)⁻¹ : ℝ) : EReal)

/-- The named constant of the program is the scale. -/
theorem named_scale : Named.named (F := Ideal) κ "query_scale" (φ := .f32) 0x3E0293EE#32 = scale :=
  IdealRules.named_const.ideal_named_scalar _ _ _ _ rfl

/-- The scaled queries, at an index. -/
theorem pay2_apply (x : Vec Ideal S1024x2048 .f32) (g : Vec Ideal S1x2048 .f32) (w : Vec Ideal S2048x512 .bf16) (r : Fin 1024) (q : Fin 512) :
    k0_pay2 x g w (ix2 r q) = (∑ k : Fin 2048, Shared.norm (fun l => x (ix2 r l)) (fun l => g (ix2 0 l)) k * w (ix2 k q)) * scale := by
  rw [← named_scale]
  unfold Shared.norm
  pointwise [k0_pay2]

/-- Four blocks of columns side by side, at a column: the block it lies in. -/
theorem side_by_side (f : Fin 4 → Fin 128 → EReal) (x : Fin 512) :
    (if h : x.val < 128 then f 0 ⟨x.val, h⟩
      else if h : x.val - 128 < 128 then f 1 ⟨x.val - 128, h⟩
      else if h : x.val - 128 - 128 < 128 then f 2 ⟨x.val - 128 - 128, h⟩
      else f 3 ⟨x.val - 128 - 128 - 128, by omega⟩) = f ⟨x.val / 128, by omega⟩ ⟨x.val % 128, by omega⟩ := by
  have hf : ∀ {n n' : Fin 4} {y y' : Fin 128}, n.val = n'.val → y.val = y'.val → f n y = f n' y' := fun hn hy => by rw [Fin.ext hn, Fin.ext hy]
  split
  · exact hf (by show 0 = x.val / 128; omega) (by dsimp only; omega)
  split
  · exact hf (by show 1 = x.val / 128; omega) (by dsimp only; omega)
  split
  · exact hf (by show 2 = x.val / 128; omega) (by dsimp only; omega)
  · exact hf (by show 3 = x.val / 128; omega) (by dsimp only; omega)

/-- What the point stores, from the queries and the four heads' keys and values, at an index. -/
theorem stored_apply (h : Vec Ideal S1024x2048 .f32) (g : Vec Ideal S1x2048 .f32) (wq : Vec Ideal S2048x512 .bf16) (k0 v0 k1 v1 k2 v2 k3 v3 : Vec Ideal S1x256x128 .bf16)
    (w : Vec Ideal S512x2048 .bf16) (K : Fin 4 → Fin 256 → Fin 128 → EReal) (U : Fin 4 → Fin 256 → Fin 128 → EReal)
    (e0 : ∀ j d, k0 (ix3 0 j d) = K 0 j d) (e1 : ∀ j d, k1 (ix3 0 j d) = K 1 j d) (e2 : ∀ j d, k2 (ix3 0 j d) = K 2 j d) (e3 : ∀ j d, k3 (ix3 0 j d) = K 3 j d)
    (u0 : ∀ j d, v0 (ix3 0 j d) = U 0 j d) (u1 : ∀ j d, v1 (ix3 0 j d) = U 1 j d) (u2 : ∀ j d, v2 (ix3 0 j d) = U 2 j d) (u3 : ∀ j d, v3 (ix3 0 j d) = U 3 j d)
    (r : Fin 1024) (c : Fin 2048) :
    k0_pay1 h (k0_pay2 h g wq) (k0_pay7 (k0_pay4 h g wq k0) (k0_pay5 h g wq k0 v0) k0_pay6) (k0_pay8 (k0_pay2 h g wq) k1 v1)
        (k0_pay10 (k0_pay2 h g wq) k2) (k0_pay11 (k0_pay2 h g wq) k2 v2) k3 v3 w (ix2 r c)
      = h (ix2 r c) + ∑ x : Fin 512, Shared.headK (fun d => k0_pay2 h g wq (ix2 r ⟨x.val / 128 * 128 + d.val, by omega⟩)) (K ⟨x.val / 128, by omega⟩)
          (fun j => U ⟨x.val / 128, by omega⟩ j ⟨x.val % 128, by omega⟩) * w (ix2 x c) := by
  obtain ⟨q, hq⟩ : ∃ q, q = k0_pay2 h g wq := ⟨_, rfl⟩
  have hx : ∀ x : Fin 512, Shared.headK (fun d => q (ix2 r ⟨x.val / 128 * 128 + d.val, by omega⟩)) (K ⟨x.val / 128, by omega⟩)
      (fun j => U ⟨x.val / 128, by omega⟩ j ⟨x.val % 128, by omega⟩) = _ := fun x =>
    (side_by_side (fun n y => Shared.headK (fun d => q (ix2 r ⟨n.val * 128 + d.val, by omega⟩)) (K n) (fun j => U n j y)) x).symm
  rw [← hq]
  simp only [hx]
  unfold Shared.headK
  pointwise [k0_pay1, k0_pay7, k0_pay4, k0_pay5, k0_pay6, k0_pay8, k0_pay10, k0_pay11, k0_pay9, k0_pay3, e0, e1, e2, e3, u0, u1, u2, u3]
  subst hq
  rfl

/-- What point `t` reads and writes: rows `t * 1024` on, the gains and the weights whole, the memory of sequence `t / 8`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The rows that point `t` stages. -/
theorem rows_apply (c : Dev nD) (t : Fin cfg0.N) (r : Fin 1024) (k : Fin 2048) (h : t.val * 1024 + r.val < 16384) :
    (iblk m c 0 t : Vec Ideal S1024x2048 .f32) (ix2 r k) = (m ((c : Thread nD τ).loc main_arg0) : Vec Ideal S16384x2048 .f32) (ix2 ⟨t.val * 1024 + r.val, h⟩ k) := by
  obtain ⟨e0, e1, -⟩ := idx_facts t
  show V m c main_arg0 _ = _
  rw [V_main_arg0]
  congr 1
  funext a
  apply Fin.ext
  match a with
  | ⟨0, _⟩ => show win0_0.index t 0 * 1024 + 1 * r.val = t.val * 1024 + r.val; rw [e0]; omega
  | ⟨1, _⟩ => show win0_0.index t 1 * 2048 + 1 * k.val = k.val; rw [e1]; omega

/-- A vector read as a row. -/
theorem row_apply (g : Vec Ideal S2048 .f32) (k : Fin 2048) : (shapeCast S1x2048 g shapeCasts_S2048_S1x2048 : Vec Ideal S1x2048 .f32) (ix2 0 k) = g (ix1 k) := by
  pointwise

/-- The gains, as every point stages them: the argument as a row. -/
theorem gains_apply (c : Dev nD) (t : Fin cfg0.N) (k : Fin 2048) :
    (iblk m c 1 t : Vec Ideal S1x2048 .f32) (ix2 0 k) = (m ((c : Thread nD τ).loc main_arg1) : Vec Ideal S2048 .f32) (ix1 k) := by
  obtain ⟨-, -, e2, e3, -⟩ := idx_facts t
  have hV : V m c main_v1 = (shapeCast S1x2048 (m ((c : Thread nD τ).loc main_arg1)) shapeCasts_S2048_S1x2048 : Vec Ideal S1x2048 .f32) := by
    show StableHlo.after hostOps0 (fun b => m (c, b)) main_v1 = _
    after_results
    rfl
  show V m c main_v1 _ = _
  rw [hV]
  have e : (((cfg0.win 1).blk t).view.emb (ix2 0 k) : S1x2048.Idx) = ix2 0 k := by
    funext a
    apply Fin.ext
    match a with
    | ⟨0, _⟩ => show win0_1.index t 0 * 1 + 1 * 0 = 0; rw [e2]
    | ⟨1, _⟩ => show win0_1.index t 1 * 2048 + 1 * k.val = k.val; rw [e3]; omega
  exact (congrArg _ e).trans (row_apply _ k)

/-- The query weights that every point stages. -/
theorem queries_apply (c : Dev nD) (t : Fin cfg0.N) (k : Fin 2048) (q : Fin 512) :
    (iblk m c 2 t : Vec Ideal S2048x512 .bf16) (ix2 k q) = (m ((c : Thread nD τ).loc main_arg2) : Vec Ideal S2048x512 .bf16) (ix2 k q) := by
  obtain ⟨-, -, -, -, e4, e5, -⟩ := idx_facts t
  show V m c main_arg2 _ = _
  rw [V_main_arg2]
  congr 1
  funext a
  apply Fin.ext
  match a with
  | ⟨0, _⟩ => show win0_2.index t 0 * 2048 + 1 * k.val = k.val; rw [e4]; omega
  | ⟨1, _⟩ => show win0_2.index t 1 * 512 + 1 * q.val = q.val; rw [e5]; omega

/-- The memory's rows read as two sequences of 256. -/
theorem sequences_apply (kv : Vec Ideal S512x1024 .bf16) (b : Fin 2) (j : Fin 256) (x : Fin 1024) :
    (shapeCast S2x256x1024 kv shapeCasts_S512x1024_S2x256x1024 : Vec Ideal S2x256x1024 .bf16) (ix3 b j x) = kv (ix2 ⟨b.val * 256 + j.val, by omega⟩ x) := by
  pointwise

/-- The memory that point `t` stages, from column `o` on: the keys and values of its sequence. -/
theorem memory_apply (c : Dev nD) (t : Fin cfg0.N) (o : ℕ) (ho : ∀ a, (![0, 0, o] : Fin 3 → ℕ) a + S1x256x128.size a ≤ S1x256x1024.size a) (j : Fin 256) (d : Fin 128)
    (h : t.val / 8 * 256 + j.val < 512) (h' : o + d.val < 1024) :
    View.ld (iblk m c 3 t : Vec Ideal S1x256x1024 .bf16) (Rect.unit (s := S1x256x1024) ![0, 0, o] S1x256x128.size ho) (ix3 0 j d)
      = (m ((c : Thread nD τ).loc main_arg3) : Vec Ideal S512x1024 .bf16) (ix2 ⟨t.val / 8 * 256 + j.val, h⟩ ⟨o + d.val, h'⟩) := by
  obtain ⟨-, -, -, -, -, -, e6, e7, e8, -⟩ := idx_facts t
  have hV : V m c main_v0 = (shapeCast S2x256x1024 (m ((c : Thread nD τ).loc main_arg3)) shapeCasts_S512x1024_S2x256x1024 : Vec Ideal S2x256x1024 .bf16) := by
    show StableHlo.after hostOps0 (fun b => m (c, b)) main_v0 = _
    after_results
    rfl
  have hb : t.val / 8 < 2 := by have := t.isLt; have : cfg0.N = 16 := N_0; omega
  show V m c main_v0 _ = _
  rw [hV]
  have e : (((cfg0.win 3).blk t).view.emb ((Rect.unit (s := S1x256x1024) ![0, 0, o] S1x256x128.size ho).idx (ix3 0 j d)) : S2x256x1024.Idx) = ix3 ⟨t.val / 8, hb⟩ j ⟨o + d.val, h'⟩ := by
    funext a
    apply Fin.ext
    match a with
    | ⟨0, _⟩ => show win0_3.index t 0 * 1 + 1 * (0 + 1 * 0) = t.val / 8; rw [e6]; omega
    | ⟨1, _⟩ => show win0_3.index t 1 * 256 + 1 * (0 + 1 * j.val) = j.val; rw [e7]; omega
    | ⟨2, _⟩ => show win0_3.index t 2 * 1024 + 1 * (o + 1 * d.val) = o + d.val; rw [e8]; omega
  exact (congrArg _ e).trans (sequences_apply _ _ _ _)

/-- The output weights that every point stages. -/
theorem out_weights_apply (c : Dev nD) (t : Fin cfg0.N) (k : Fin 512) (q : Fin 2048) :
    (iblk m c 4 t : Vec Ideal S512x2048 .bf16) (ix2 k q) = (m ((c : Thread nD τ).loc main_arg4) : Vec Ideal S512x2048 .bf16) (ix2 k q) := by
  obtain ⟨-, -, -, -, -, -, -, -, -, e9, e10, -⟩ := idx_facts t
  show V m c main_arg4 _ = _
  rw [V_main_arg4]
  congr 1
  funext a
  apply Fin.ext
  match a with
  | ⟨0, _⟩ => show win0_4.index t 0 * 512 + 1 * k.val = k.val; rw [e9]; omega
  | ⟨1, _⟩ => show win0_4.index t 1 * 2048 + 1 * q.val = q.val; rw [e10]; omega

/-- Row `r` of the queries, at column `x`, before they are scaled. -/
def queryAt (h : Vec Ideal S16384x2048 .f32) (g : Vec Ideal S2048 .f32) (wq : Vec Ideal S2048x512 .bf16) (r : Fin 16384) (x : Fin 512) : EReal :=
  ∑ k : Fin 2048, Shared.norm (fun l => h (ix2 r l)) (fun l => g (ix1 l)) k * wq (ix2 k x)

/-- Column `x` of the memory of the sequence that row `r` belongs to. -/
def memoryAt (kv : Vec Ideal S512x1024 .bf16) (r : Fin 16384) (j : Fin 256) (x : Fin 1024) : EReal :=
  kv (ix2 ⟨r.val / 8192 * 256 + j.val, by omega⟩ x)

/-- The kernel's result, at row `r` and column `q`. -/
def crossAt (h : Vec Ideal S16384x2048 .f32) (g : Vec Ideal S2048 .f32) (wq : Vec Ideal S2048x512 .bf16) (kv : Vec Ideal S512x1024 .bf16) (w : Vec Ideal S512x2048 .bf16)
    (r : Fin 16384) (q : Fin 2048) : EReal :=
  h (ix2 r q) + ∑ x : Fin 512, Shared.headK (fun d => queryAt h g wq r ⟨x.val / 128 * 128 + d.val, by omega⟩ * scale)
    (fun j d => memoryAt kv r j ⟨x.val / 128 * 128 + d.val, by omega⟩) (fun j => memoryAt kv r j ⟨512 + (x.val / 128 * 128 + x.val % 128), by omega⟩) * w (ix2 x q)

/-- What point `t` stores, at an index. -/
theorem block_apply (c : Dev nD) (t : Fin cfg0.N) (r : Fin 1024) (q : Fin 2048) (h : t.val * 1024 + r.val < 16384) :
    out0_5 (iblk m c 0 t) (iblk m c 1 t) (iblk m c 2 t) (iblk m c 3 t) (iblk m c 4 t) (ix2 r q)
      = crossAt (m ((c : Thread nD τ).loc main_arg0)) (m ((c : Thread nD τ).loc main_arg1)) (m ((c : Thread nD τ).loc main_arg2)) (m ((c : Thread nD τ).loc main_arg3))
        (m ((c : Thread nD τ).loc main_arg4)) ⟨t.val * 1024 + r.val, h⟩ q := by
  have hN : cfg0.N = 16 := N_0
  have ht := t.isLt
  have hr := r.isLt
  have hb : (t.val * 1024 + r.val) / 8192 = t.val / 8 := by omega
  have hm : ∀ (o : ℕ) (ho : ∀ a, (![0, 0, o] : Fin 3 → ℕ) a + S1x256x128.size a ≤ S1x256x1024.size a) (y : Fin 128 → Fin 1024) (hy : ∀ d, (y d).val = o + d.val) (j : Fin 256) (d : Fin 128),
      View.ld (iblk m c 3 t : Vec Ideal S1x256x1024 .bf16) (Rect.unit (s := S1x256x1024) ![0, 0, o] S1x256x128.size ho) (ix3 0 j d)
        = memoryAt (m ((c : Thread nD τ).loc main_arg3)) ⟨t.val * 1024 + r.val, h⟩ j (y d) := fun o ho y hy j d => by
    have hj := j.isLt
    have hd := (y d).isLt
    rw [hy] at hd
    refine (memory_apply m c t o ho j d (by omega) hd).trans ?_
    unfold memoryAt
    congr 2
    · exact Fin.ext (by dsimp only; omega)
    · exact Fin.ext (hy d).symm
  unfold out0_5 k0_pay12
  rw [View.canon_unit_zero Shared.hz2]
  simp only [View.ld_unit_zero (S := S1024x2048) Shared.hz2, View.ld_unit_zero (S := S1x2048) Shared.hz2, View.ld_unit_zero (S := S2048x512) Shared.hz2,
    View.ld_unit_zero (S := S512x2048) Shared.hz2]
  refine (stored_apply _ _ _ _ _ _ _ _ _ _ _ _
    (fun n j d => memoryAt (m ((c : Thread nD τ).loc main_arg3)) ⟨t.val * 1024 + r.val, h⟩ j ⟨n.val * 128 + d.val, by omega⟩)
    (fun n j d => memoryAt (m ((c : Thread nD τ).loc main_arg3)) ⟨t.val * 1024 + r.val, h⟩ j ⟨512 + (n.val * 128 + d.val), by omega⟩)
    (hm 0 _ (fun d => ⟨0 * 128 + d.val, by omega⟩) fun d => by dsimp only) (hm 128 _ (fun d => ⟨1 * 128 + d.val, by omega⟩) fun d => by dsimp only)
    (hm 256 _ (fun d => ⟨2 * 128 + d.val, by omega⟩) fun d => by dsimp only) (hm 384 _ (fun d => ⟨3 * 128 + d.val, by omega⟩) fun d => by dsimp only)
    (hm 512 _ (fun d => ⟨512 + (0 * 128 + d.val), by omega⟩) fun d => by dsimp only; omega) (hm 640 _ (fun d => ⟨512 + (1 * 128 + d.val), by omega⟩) fun d => by dsimp only; omega)
    (hm 768 _ (fun d => ⟨512 + (2 * 128 + d.val), by omega⟩) fun d => by dsimp only; omega) (hm 896 _ (fun d => ⟨512 + (3 * 128 + d.val), by omega⟩) fun d => by dsimp only; omega) r q).trans ?_
  unfold crossAt queryAt
  simp only [pay2_apply, rows_apply m c t _ _ h, gains_apply, queries_apply, out_weights_apply]

/-- The result array. -/
def G (c : Dev nD) : Buf (Elt Ideal) ((c : Thread nD τ).loc main_v2) := fun i : S16384x2048.Idx =>
  crossAt (m ((c : Thread nD τ).loc main_arg0)) (m ((c : Thread nD τ).loc main_arg1)) (m ((c : Thread nD τ).loc main_arg2)) (m ((c : Thread nD τ).loc main_arg3))
    (m ((c : Thread nD τ).loc main_arg4)) (i 0) (i 1)

/-- What a point writes back is its block of the result array. -/
theorem flushed_eq (c : Dev nD) (t : Fin cfg0.N) :
    (dats m 0 c).flushed 5 t = ((cfg0.win 5).blk t).view.read (Elt Ideal) (G m c) := by
  rw [flushed5]
  obtain ⟨-, -, -, -, -, -, -, -, -, -, -, e11, e12⟩ := idx_facts t
  have hN : cfg0.N = 16 := N_0
  have ht := t.isLt
  funext y
  have hy : (y 0).val < 1024 := (y 0).isLt
  have hx : (cfg0.win 5).xinj (grid0.coords t) y = ix2 (y 0) (y 1) := by
    funext a; match a with | ⟨0, _⟩ => rfl | ⟨1, _⟩ => rfl
  have he : (((cfg0.win 5).blk t).view.emb y : S16384x2048.Idx) = ix2 (⟨t.val * 1024 + (y 0).val, by omega⟩ : Fin 16384) (y 1) := by
    funext a
    apply Fin.ext
    match a with
    | ⟨0, _⟩ => show win0_5.index t 0 * 1024 + 1 * (y 0).val = t.val * 1024 + (y 0).val; rw [e11]; omega
    | ⟨1, _⟩ => show win0_5.index t 1 * 2048 + 1 * (y 1).val = (y 1).val; rw [e12]; omega
  refine (congrArg (out0_5 (iblk m c 0 t) (iblk m c 1 t) (iblk m c 2 t) (iblk m c 3 t) (iblk m c 4 t)) hx).trans (Eq.trans ?_ (congrArg (G m c) he).symm)
  exact block_apply m c t (y 0) (y 1) _

/-- Every index of the result lies in some point's block. -/
theorem covered (i : S16384x2048.Idx) : ∃ t : Fin cfg0.N, (cfg0.win 5).flush t = true ∧ i ∈ ((cfg0.win 5).blk t).view.set := by
  have h0 : (i 0).val < 16384 := (i 0).isLt
  have h1 : (i 1).val < 2048 := (i 1).isLt
  have hN : cfg0.N = 16 := N_0
  obtain ⟨t, ht⟩ : ∃ t : Fin cfg0.N, t.val = (i 0).val / 1024 := ⟨⟨(i 0).val / 1024, by omega⟩, rfl⟩
  obtain ⟨-, -, -, -, -, -, -, -, -, -, -, e11, e12⟩ := idx_facts t
  refine ⟨t, flush0_5 _, ?_⟩
  show i ∈ ((View.whole main_v2).slice (win0_5.rect t)).set
  rw [View.set_slice_whole, Rect.mem_set_unit]
  intro a
  match a with
  | ⟨0, _⟩ => show win0_5.index t 0 * 1024 ≤ (i 0).val ∧ (i 0).val < win0_5.index t 0 * 1024 + 1024; rw [e11]; omega
  | ⟨1, _⟩ => show win0_5.index t 1 * 2048 ≤ (i 1).val ∧ (i 1).val < win0_5.index t 1 * 2048 + 2048; rw [e12]; omega

/-- The array after the run is the result array. -/
theorem final (c : Dev nD) : (dats m 0 c).arrAt 5 cfg0.N = G m c :=
  (dats m 0 c).arrAt_eq_of_cover 5 _ (fun t _ => flushed_eq m c t) covered

/-- An extended real whose magnitude the programs' word for infinity exceeds is a real. -/
theorem real_of_abs_lt {a b : EReal} (e : BitVec.ofBool (decide (max a (-a) < b)) = 1#1) : ∃ r : ℝ, a = r := by
  have lt : max a (-a) < ⊤ := lt_of_lt_of_le ((WordCmp.ofBool_decide_eq_one_iff _).mp e) le_top
  induction a using EReal.rec with
  | bot => exact absurd lt (by simp)
  | top => exact absurd lt (by simp)
  | coe r => exact ⟨r, rfl⟩

/-- What the precondition says: the gains, the query weights and the keys are real. -/
theorem finite_apply (h : Vec Ideal S16384x2048 .f32) (g : Vec Ideal S2048 .f32) (wq : Vec Ideal S2048x512 .bf16) (kv : Vec Ideal S512x1024 .bf16) (w : Vec Ideal S512x2048 .bf16)
    (hpre : Cert.Pre_finite_gains_queries_keys.fn (F := Ideal) h g wq kv w = fun _ => 1#1) :
    (∀ k, ∃ r : ℝ, (g (ix1 k) : EReal) = r) ∧ (∀ k x, ∃ r : ℝ, (wq (ix2 k x) : EReal) = r) ∧ (∀ (j : Fin 512) (x : Fin 512), ∃ r : ℝ, (kv (ix2 j ⟨x.val, by omega⟩) : EReal) = r) := by
  have e := congrFun hpre (fun a => a.elim0)
  haveI : Subsingleton (Cert.Pre_finite_gains_queries_keys.S_).Idx := ⟨fun a b => funext fun i => i.elim0⟩
  obtain ⟨e12, e3⟩ := IntOp.andi_eq_one.mp e
  obtain ⟨e1, e2⟩ := IntOp.andi_eq_one.mp e12
  refine ⟨fun k => ?_, fun k x => ?_, fun j x => ?_⟩
  · exact real_of_abs_lt (Host.reduce_andi_all _ _ _ _ _ e1 (ix1 k))
  · exact real_of_abs_lt (Host.reduce_andi_all _ _ _ _ _ e2 (ix2 k x))
  · have := Host.reduce_andi_all _ _ _ _ _ e3 (ix2 j x)
    pointwise at this
    exact real_of_abs_lt this

end Cert.KernelCrossIdeal.Value

namespace Cert.Proof

open Cert.ReferenceCrossIdeal.Value in
/-- The reference's result, at an index: the same heads, weighed in base e and normalised first. -/
theorem cross_reference (h : FVec Ideal Cert.ReferenceCrossIdeal.S16384x2048 .f32) (g : FVec Ideal Cert.ReferenceCrossIdeal.S2048 .f32) (wq : FVec Ideal Cert.ReferenceCrossIdeal.S2048x512 .bf16)
    (kv : FVec Ideal Cert.ReferenceCrossIdeal.S512x1024 .bf16) (w : FVec Ideal Cert.ReferenceCrossIdeal.S512x2048 .bf16) (r : Fin 16384) (q : Fin 2048) :
    refOut h (refO (refP (refE (refZ (refQ h g wq) (refK kv)) (refM (refZ (refQ h g wq) (refK kv))))) (refV kv)) w (ix2 r q)
      = h (ix2 r q) + ∑ x : Fin 512, Shared.headR (fun d => Cert.KernelCrossIdeal.Value.queryAt h g wq r ⟨x.val / 128 * 128 + d.val, by omega⟩)
          (fun j d => Cert.KernelCrossIdeal.Value.memoryAt kv r j ⟨x.val / 128 * 128 + d.val, by omega⟩)
          (fun j => Cert.KernelCrossIdeal.Value.memoryAt kv r j ⟨512 + (x.val / 128 * 128 + x.val % 128), by omega⟩) * w (ix2 x q) := by
  have hr : (⟨r.val / 8192 * 8192 + r.val % 8192, by omega⟩ : Fin 16384) = r := Fin.ext (by dsimp only; omega)
  unfold Shared.headR Cert.KernelCrossIdeal.Value.queryAt Cert.KernelCrossIdeal.Value.memoryAt
  simp only [refOut_apply, refO_apply, refP_apply, refE_apply, refM_apply, refZ_apply, refQ_apply, refK_apply, refV_apply, hr]

/-- Where the precondition holds, the kernel's result is the reference's, at every index. -/
theorem cross_eq (h : FVec Ideal Cert.KernelCrossIdeal.S16384x2048 .f32) (g : FVec Ideal Cert.KernelCrossIdeal.S2048 .f32) (wq : FVec Ideal Cert.KernelCrossIdeal.S2048x512 .bf16)
    (kv : FVec Ideal Cert.KernelCrossIdeal.S512x1024 .bf16) (w : FVec Ideal Cert.KernelCrossIdeal.S512x2048 .bf16)
    (hpre : Cert.Pre_finite_gains_queries_keys.fn (F := Ideal) h g wq kv w = fun _ => 1#1) (r : Fin 16384) (q : Fin 2048) :
    h (ix2 r q) + ∑ x : Fin 512, Shared.headR (fun d => Cert.KernelCrossIdeal.Value.queryAt h g wq r ⟨x.val / 128 * 128 + d.val, by omega⟩)
          (fun j d => Cert.KernelCrossIdeal.Value.memoryAt kv r j ⟨x.val / 128 * 128 + d.val, by omega⟩)
          (fun j => Cert.KernelCrossIdeal.Value.memoryAt kv r j ⟨512 + (x.val / 128 * 128 + x.val % 128), by omega⟩) * w (ix2 x q)
      = Cert.KernelCrossIdeal.Value.crossAt h g wq kv w r q := by
  obtain ⟨hg, hw, hk⟩ := Cert.KernelCrossIdeal.Value.finite_apply h g wq kv w hpre
  unfold Cert.KernelCrossIdeal.Value.crossAt
  refine congrArg _ (Finset.sum_congr rfl fun x _ => congrArg (· * _) (Shared.headK_eq_headR _ _ _ (fun d => ?_) fun j d => ?_).symm)
  · unfold Cert.KernelCrossIdeal.Value.queryAt
    choose n hn using Shared.norm_real (fun l => h (ix2 r l)) (fun l => g (ix1 l)) hg
    choose u hu using hw
    simp only [hn, hu, ← EReal.coe_mul, Shared.coe_sum]
    exact ⟨_, rfl⟩
  · exact hk ⟨r.val / 8192 * 256 + j.val, by omega⟩ ⟨x.val / 128 * 128 + d.val, by omega⟩

/-- The kernel over the reals runs for real gains, query weights and keys, and leaves its arguments and every counter as they were. -/
theorem quiescent_KernelCrossIdeal_pre_finite_gains_queries_keys : Cert.quiescent_KernelCrossIdeal_pre_finite_gains_queries_keys := fun m ρ _ =>
  Cert.KernelCrossIdeal.Gen.frame m ρ

/-- The reference runs, and leaves its arguments and every counter as they were. -/
theorem quiescent_ReferenceCrossIdeal : Cert.quiescent_ReferenceCrossIdeal := fun m ρ _ =>
  (θ_run Cert.ReferenceCrossIdeal.defs _ _).mono (fun r h => ⟨fun c => (h c).2, sem_eq_zero_of_no_sems (by decide) r.2⟩)
    (Cert.ReferenceCrossIdeal.Value.run (F := Ideal) m ρ)

/-- The same for real gains, query weights and keys. -/
theorem quiescent_ReferenceCrossIdeal_pre_finite_gains_queries_keys : Cert.quiescent_ReferenceCrossIdeal_pre_finite_gains_queries_keys := fun m ρ _ =>
  quiescent_ReferenceCrossIdeal m ρ trivial

/-- The one named constant denotes the real that it was computed from. -/
theorem preserves_KernelCross_KernelCrossIdeal : Cert.preserves_KernelCross_KernelCrossIdeal :=
  IdealRules.named_const.statement Cert.KernelCrossIdeal.κ "query_scale" .f32 0x3E0293EE#32 (((Real.sqrt 128)⁻¹ * (Real.log 2)⁻¹ : ℝ) : EReal) rfl

/-- The kernel and its reference end with the same array, the gains, query weights and keys real. -/
theorem algebraic_KernelCrossIdeal_ReferenceCrossIdeal_pre_finite_gains_queries_keys : Cert.algebraic_KernelCrossIdeal_ReferenceCrossIdeal_pre_finite_gains_queries_keys := by
  intro m ρ m' ρ' hpre hagree
  refine ⟨fun c => Cert.KernelCrossIdeal.Value.G m c, ?_, ?_⟩
  · exact (θ_run Cert.KernelCrossIdeal.defs _ _).mono
      (fun _ h c => ⟨(h c).1.trans (Cert.KernelCrossIdeal.Value.final m c), (h c).2⟩)
      (Cert.KernelCrossIdeal.Value.run_blocks (F := Ideal) m ρ)
  · refine (θ_run Cert.ReferenceCrossIdeal.defs _ _).mono (fun _ h c => ⟨?_, (h c).2⟩) (Cert.ReferenceCrossIdeal.Value.run (F := Ideal) m' ρ')
    rw [(h c).1, Cert.ReferenceCrossIdeal.Value.res_eq, (hagree c).1, (hagree c).2.1, (hagree c).2.2.1, (hagree c).2.2.2.1, (hagree c).2.2.2.2]
    funext i
    idx_vars i
    exact (cross_reference _ _ _ _ _ i0 i1).trans (cross_eq _ _ _ _ _ (hpre c) i0 i1)

end Cert.Proof

end
-- ==== Proof.FoxChk.lean ====
/-
  The offsets and loops of the forgetting attention's body stay in range whenever the number of tiles it skips is at
  most the number of the query block.
-/
module

public import proofs.«01_k».proof.KernelFox

@[expose] public section

set_option maxRecDepth 16384

noncomputable section

namespace Cert.KernelFox.Hand

open Cert.KernelFox
open Idealize.ShloMosaic

/-- A grid point whose last coordinate is `k`. -/
def point (k : Fin 16) : grid0.Coords := fun a => match a with
  | 0 => (0 : Fin 2)
  | 1 => (0 : Fin 4)
  | 2 => k

set_option maxHeartbeats 0 in
/-- Each number of skipped tiles that does not exceed the query block's number keeps every offset and loop in range. -/
theorem chk_table : ∀ k n : Fin 16, n ≤ k → k0_chk1 (point k) (BitVec.ofNat 32 n.val) := by decide +kernel

/-- The conditions depend on a grid point through its last coordinate only. -/
theorem chk_last (i : grid0.Coords) (v : BitVec 32) (h : k0_chk1 (point (i 2)) v) : k0_chk1 i v := h

/-- A number of skipped tiles that does not exceed the query block's number keeps every offset and loop in range. -/
theorem chk_of_le (i : grid0.Coords) (n : ℕ) (h : n ≤ (i 2).val) : k0_chk1 i (BitVec.ofNat 32 n) :=
  chk_last i _ (chk_table (i 2) ⟨n, lt_of_le_of_lt h (i 2).isLt⟩ h)

end Cert.KernelFox.Hand

end
-- ==== Proof.FoxSkip.lean ====
/-
  The number of tiles that the forgetting attention skips, at machine words: a count of earlier tiles, so at most the number
  of the query block, whatever the words it is computed from.
-/
module

public import proofs.«01_k».proof.Proof.FoxChk
public import proofs.«01_k».proof.Proof.Gen.KernelFox.Skeleton
public import Idealize.ShloMosaic.Lib.NatWordsOrder
public import Idealize.ShloMosaic.Lib.Pipeline.Value
public import Idealize.ShloMosaic.Lib.WordCmp

@[expose] public section

set_option maxRecDepth 16384

noncomputable section

namespace Cert.KernelFox.Hand

open Cert.KernelFox Cert.KernelFox.Gen
open Idealize.ShloMosaic Idealize.ShloMosaic.TcCoe

/-- The number of the 128 lanes that a mask holds. -/
def held (m : IVec S1x128 1) (j : S1.Idx) : ℕ :=
  (Finset.univ.filter fun k : Fin (S1x128.size 1) => m (reduces_S1x128_S1.lift j k) = 1).card

/-- No more than 128 lanes are held. -/
theorem held_le (m : IVec S1x128 1) (j : S1.Idx) : held m j ≤ 128 :=
  (Finset.card_le_univ _).trans (le_of_eq (Fintype.card_fin 128))

/-- A mask that holds only lanes below `n` holds at most `n` lanes. -/
theorem held_le_of (m : IVec S1x128 1) (j : S1.Idx) (n : ℕ) (h : ∀ y : S1x128.Idx, m y = 1 → (y 1).val < n) : held m j ≤ n := by
  refine (Finset.card_le_card_of_injOn (t := Finset.range n) (fun k => k.val) (fun k hk => ?_) (fun a _ b _ e => Fin.ext e)).trans
    (le_of_eq (Finset.card_range n))
  have := h _ (Finset.mem_filter.1 hk).2
  rw [Shape.Reduces.lift_val] at this
  exact Finset.mem_coe.2 (Finset.mem_range.2 this)

/-- The sum over the lanes of a mask's ones and zeros is the word of the number of lanes it holds. -/
theorem sum_held (m : IVec S1x128 1) (j : S1.Idx) :
    multiReduction (F := Bits) .add [1] S1 (select m k0_pay672 k0_pay673) 0x00000000#32 reduces_S1x128_S1 (.inl rfl) rfl j
      = Bits.f32OfNat (held m j) := by
  have hs : (Bits.reduceFiber reduces_S1x128_S1 j).sum (fun y => if m y = 1 then 1 else 0) = held m j := by
    refine (reduces_S1x128_S1.sum_filter_drop_single (fun y => if m y = 1 then 1 else 0) j).trans ?_
    rw [Finset.sum_ite, Finset.sum_const_zero, add_zero, Finset.sum_const, nsmul_one]
    rfl
  have h1 : Bits.f32OfNat 1 = (0x3F800000#32 : Bits .f32) := by rw [Bits.f32OfNat_eq 1 (by decide)]; decide
  have hle := held_le m j
  refine (Bits.multiReduction_add_nat [1] reduces_S1x128_S1 (select m k0_pay672 k0_pay673) j (fun y => if m y = 1 then 1 else 0)
    (fun y _ => ?_) (by rw [hs]; omega)).trans (by rw [hs])
  show Bits.natOfF32? (if m y = 1 then (0x3F800000#32 : Bits .f32) else (0x00000000#32 : Bits .f32)) = some (if m y = 1 then 1 else 0)
  split
  · rw [← h1]; exact Bits.natOfF32?_f32OfNat 1 (by decide)
  · exact (congrArg Bits.natOfF32? Bits.f32OfNat_zero.symm).trans (Bits.natOfF32?_f32OfNat 0 (by decide))

/-- The integer of the lesser of two counts is the lesser count. -/
theorem fptosi_count (a b : ℕ) (ha : a ≤ 128) (hb : b ≤ 128) :
    Scalar.fptosi 32 (Scalar.minimumf (F := Bits) (Bits.f32OfNat a) (Bits.f32OfNat b)) = BitVec.ofNat 32 (min a b) := by
  have hm : min a b ≤ 128 := (min_le_left _ _).trans ha
  exact (congrArg (Bits.fptosi32 32) (Bits.minf32_nat (by omega) (by omega))).trans (Bits.fptosi32_nat (min a b) (by omega))

/-- A lane counted by the second mask comes before the query block. -/
theorem lane_lt (n : ℕ) (hn : n < 16) (p q : Vec Bits S1x1x128 .f32) (w : IVec S1x128 1) (y : S1x128.Idx)
    (h : andi (k0_pay678 (BitVec.ofNat 32 n) (iota .tc S1x128 32 [1] iota_S1x128_d1_w32) p q) w y = 1) : (y 1).val < n := by
  have hy : (y 1).val < 128 := (y 1).isLt
  by_contra hc
  have hlt : cmpi .slt (iota .tc S1x128 32 [1] iota_S1x128_d1_w32) (broadcast S1x128 (BitVec.ofNat 32 n)) y = 0#1 := by
    show IntOp.cmpi .slt (iota .tc S1x128 32 [1] iota_S1x128_d1_w32 y) (BitVec.ofNat 32 n) = 0#1
    rw [iota_single_apply, WordCmp.cmpi_slt_ofNat (by omega) (by omega)]
    simp [hc]
  have h' : (cmpi .slt (iota .tc S1x128 32 [1] iota_S1x128_d1_w32) (broadcast S1x128 (BitVec.ofNat 32 n)) y
      &&& cmpf .ogt (k0_pay677 (BitVec.ofNat 32 n) (iota .tc S1x128 32 [1] iota_S1x128_d1_w32) p q) (broadcast S1x128 (Scalar.ofBits .f32 0x00000000#32)) y) &&& w y = 1#1 := h
  rw [hlt, BitVec.zero_and, BitVec.zero_and] at h'
  exact absurd h' (by decide)

/-- Whatever the words that the number of skipped tiles is computed from, it keeps every offset and loop in range. -/
theorem skip_ok (i : grid0.Coords) (m : IVec S1x128 1) (p q r : Vec Bits S1x1x128 .f32) (u : FVec Bits S1x128 .f32) (v : FVec Bits S1x1 .f32) :
    k0_chk1 i (Scalar.fptosi 32 (k0_pay682 (k0_pay674 m k0_pay672 k0_pay673)
      (k0_pay678 (BitVec.ofNat 32 (i 2).val) (iota .tc S1x128 32 [1] iota_S1x128_d1_w32) p q) u v r)) := by
  obtain ⟨w, j, hw⟩ : ∃ (w : IVec S1x128 1) (j : S1.Idx), k0_pay682 (k0_pay674 m k0_pay672 k0_pay673)
      (k0_pay678 (BitVec.ofNat 32 (i 2).val) (iota .tc S1x128 32 [1] iota_S1x128_d1_w32) p q) u v r
      = Scalar.minimumf (F := Bits)
          (multiReduction (F := Bits) .add [1] S1 (select m k0_pay672 k0_pay673) 0x00000000#32 reduces_S1x128_S1 (.inl rfl) rfl
            j)
          (multiReduction (F := Bits) .add [1] S1 (select (andi (k0_pay678 (BitVec.ofNat 32 (i 2).val) (iota .tc S1x128 32 [1] iota_S1x128_d1_w32) p q) w) k0_pay672 k0_pay673) 0x00000000#32 reduces_S1x128_S1 (.inl rfl) rfl
            j) := ⟨_, _, rfl⟩
  rw [hw, sum_held, sum_held]
  have hb := held_le_of _ j (i 2).val (lane_lt (i 2).val (i 2).isLt p q w)
  refine Eq.mpr (congrArg (k0_chk1 i) (fptosi_count _ _ (held_le _ _) (held_le _ _))) (chk_of_le i _ ((min_le_right _ _).trans hb))

end Cert.KernelFox.Hand

end
-- ==== Proof.FoxIdealRun.lean ====
/-
  The forgetting attention's body, run once: from its staged operands at their contents and its results and scratch at
  any contents it runs to its end, whichever of its conditionals are taken, and leaves the operands as they were.
-/
module

public import proofs.«01_k».proof.Proof.Gen.KernelFoxIdeal.Frame
public import proofs.«01_k».proof.Proof.Gen.KernelFoxIdeal.Loops

@[expose] public section

set_option maxRecDepth 16384

noncomputable section

namespace Cert.KernelFoxIdeal.Hand

open Cert.KernelFoxIdeal Cert.KernelFoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The lane numbers of a row of 128. -/
abbrev lanes : IVec S1x128 32 := iota .tc S1x128 32 [1] iota_S1x128_d1_w32

/-- What the body needs of the number of tiles it skips at a grid point, whatever the words that number is computed from. -/
def Skips (i : grid0.Coords) : Prop :=
  ∀ (a : FVec F S128x256 .bf16) (b : Vec F S1x1x128x256 .bf16) (p q r p' q' r' : Vec F S1x1x128 .f32) (u : FVec F S1x128 .f32) (v : FVec F S1x1 .f32),
    k0_chk1 i (Scalar.fptosi 32 (k0_pay682 (k0_pay674 (k0_pay671 (BitVec.ofNat 32 (i 2).val) lanes a b p q r) k0_pay672 k0_pay673)
      (k0_pay678 (BitVec.ofNat 32 (i 2).val) lanes p' q') u v r'))

set_option maxHeartbeats 8000000 in
set_option sl_exec.squeezeSlice true in
/-- The body's triple: the eight staged operands are held at their contents and handed back so; the five results and the
    six scratch buffers are held at some contents before and after. -/
theorem body_run (c : Dev nD) (i : grid0.Coords) (arg3 : Memref sig .tc .vmem S2x2x128x256 .bf16) (harg3 : arg3.IsWhole) (arg4 : Memref sig .tc .vmem S2x32x256x128 .bf16) (harg4 : arg4.IsWhole) (arg5 : Memref sig .tc .vmem S2x32x128x256 .bf16) (harg5 : arg5.IsWhole) (arg6 : Memref sig .tc .vmem S8192x128 .f32) (harg6 : arg6.IsWhole) (arg7 : Memref sig .tc .vmem S64x2048 .f32) (harg7 : arg7.IsWhole) (arg8 : Memref sig .tc .vmem S32x2048 .f32) (harg8 : arg8.IsWhole) (arg9 : Memref sig .tc .vmem S16x512 .f32) (harg9 : arg9.IsWhole) (arg10 : Memref sig .tc .vmem S16x2048 .f32) (harg10 : arg10.IsWhole) (arg11 : Memref sig .tc .vmem S512x256 .bf16) (harg11 : arg11.IsWhole) (arg12 : Memref sig .tc .vmem S64x2048 .bf16) (harg12 : arg12.IsWhole) (arg13 : Memref sig .tc .vmem S32x2048 .bf16) (harg13 : arg13.IsWhole) (arg14 : Memref sig .tc .vmem S16x512 .bf16) (harg14 : arg14.IsWhole) (arg15 : Memref sig .tc .vmem S16x2048 .bf16) (harg15 : arg15.IsWhole) (arg16 : Memref sig .tc .vmem S2x16x512x256 .bf16) (harg16 : arg16.IsWhole) (arg17 : Memref sig .tc .vmem S2x8x128 .f32) (harg17 : arg17.IsWhole) (arg18 : Memref sig .tc .vmem S2x2x512x512 .f32) (harg18 : arg18.IsWhole) (arg19 : Memref sig .tc .vmem S2x1x512 .f32) (harg19 : arg19.IsWhole) (arg20 : Memref sig .tc .vmem S2x1x512 .f32) (harg20 : arg20.IsWhole) (arg21 : Memref sig .tc .vmem S2x128x512 .f32) (harg21 : arg21.IsWhole)
    (hs : Skips (F := F) i)
    (x0 : Vec F S2x2x128x256 .bf16) (x1 : Vec F S2x32x256x128 .bf16) (x2 : Vec F S2x32x128x256 .bf16) (x3 : Vec F S8192x128 .f32) (x4 : Vec F S64x2048 .f32) (x5 : Vec F S32x2048 .f32) (x6 : Vec F S16x512 .f32) (x7 : Vec F S16x2048 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E
          (cc0_fox_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_fox_attn_eq_skeleton]; unfold cc0_fox_attn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec_parts (disch := exact hs _ _ _ _ _ _ _ _ _ _)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.KernelFoxIdeal.Hand

end
-- ==== Proof.FoxIdealChk.lean ====
/-
  The offsets and loops of the forgetting attention's body stay in range whenever the number of tiles it skips is at
  most the number of the query block.
-/
module

public import proofs.«01_k».proof.KernelFoxIdeal

@[expose] public section

set_option maxRecDepth 16384

noncomputable section

namespace Cert.KernelFoxIdeal.Hand

open Cert.KernelFoxIdeal
open Idealize.ShloMosaic

/-- A grid point whose last coordinate is `k`. -/
def point (k : Fin 16) : grid0.Coords := fun a => match a with
  | 0 => (0 : Fin 2)
  | 1 => (0 : Fin 4)
  | 2 => k

set_option maxHeartbeats 0 in
/-- Each number of skipped tiles that does not exceed the query block's number keeps every offset and loop in range. -/
theorem chk_table : ∀ k n : Fin 16, n ≤ k → k0_chk1 (point k) (BitVec.ofNat 32 n.val) := by decide +kernel

/-- The conditions depend on a grid point through its last coordinate only. -/
theorem chk_last (i : grid0.Coords) (v : BitVec 32) (h : k0_chk1 (point (i 2)) v) : k0_chk1 i v := h

/-- A number of skipped tiles that does not exceed the query block's number keeps every offset and loop in range. -/
theorem chk_of_le (i : grid0.Coords) (n : ℕ) (h : n ≤ (i 2).val) : k0_chk1 i (BitVec.ofNat 32 n) :=
  chk_last i _ (chk_table (i 2) ⟨n, lt_of_le_of_lt h (i 2).isLt⟩ h)

end Cert.KernelFoxIdeal.Hand

end
-- ==== Proof.FoxIdealSkip.lean ====
/-
  The number of tiles that the forgetting attention skips, over the reals: a count of earlier tiles, so at most the number
  of the query block, whatever the words it is computed from.
-/
module

public import proofs.«01_k».proof.Proof.FoxIdealChk
public import proofs.«01_k».proof.Proof.Gen.KernelFoxIdeal.Skeleton
public import Idealize.ShloMosaic.PureOps.Ideal.Laws
public import Idealize.ShloMosaic.Lib.Pipeline.Value
public import Idealize.ShloMosaic.Lib.WordCmp

@[expose] public section

set_option maxRecDepth 16384

noncomputable section

namespace Cert.KernelFoxIdeal.Hand

open Cert.KernelFoxIdeal Cert.KernelFoxIdeal.Gen
open Idealize.ShloMosaic Idealize.ShloMosaic.TcCoe

/-- The number of the 128 lanes that a mask holds. -/
def held (m : IVec S1x128 1) (j : S1.Idx) : ℕ :=
  (Finset.univ.filter fun k : Fin (S1x128.size 1) => m (reduces_S1x128_S1.lift j k) = 1).card

/-- No more than 128 lanes are held. -/
theorem held_le (m : IVec S1x128 1) (j : S1.Idx) : held m j ≤ 128 :=
  (Finset.card_le_univ _).trans (le_of_eq (Fintype.card_fin 128))

/-- A mask that holds only lanes below `n` holds at most `n` lanes. -/
theorem held_le_of (m : IVec S1x128 1) (j : S1.Idx) (n : ℕ) (h : ∀ y : S1x128.Idx, m y = 1 → (y 1).val < n) : held m j ≤ n := by
  refine (Finset.card_le_card_of_injOn (t := Finset.range n) (fun k => k.val) (fun k hk => ?_) (fun a _ b _ e => Fin.ext e)).trans
    (le_of_eq (Finset.card_range n))
  have := h _ (Finset.mem_filter.1 hk).2
  rw [Shape.Reduces.lift_val] at this
  exact Finset.mem_coe.2 (Finset.mem_range.2 this)

/-- The sum over the lanes of a mask's ones and zeros is the number of lanes it holds. -/
theorem sum_held (m : IVec S1x128 1) (j : S1.Idx) :
    multiReduction (F := Ideal) .add [1] S1 (select m k0_pay672 k0_pay673) 0x00000000#32 reduces_S1x128_S1 (.inl rfl) rfl j
      = ((held m j : ℝ) : EReal) := by
  refine (Ideal.multiReduction_add_single _ _ reduces_S1x128_S1 (.inl rfl) rfl j).trans ?_
  have h1 : ∀ y, (k0_pay672 (F := Ideal)) y = (1 : EReal) := fun y => by
    show Ideal.ofBits .f32 0x3F800000#32 = 1
    simp [Ideal.ofBits, Ideal.ieee, -EReal.coe_mul]; norm_num
  have h0 : ∀ y, (k0_pay673 (F := Ideal)) y = (0 : EReal) := fun y => by
    show Ideal.ofBits .f32 0x00000000#32 = 0
    simp [Ideal.ofBits, Ideal.ieee]
  simp only [select, Scalar.select, h1, h0]
  rw [Finset.sum_ite, Finset.sum_const_zero, add_zero, Finset.sum_const, nsmul_one]
  rfl

/-- The integer of the lesser of two counts is the lesser count. -/
theorem fptosi_count (a b : ℕ) (ha : a ≤ 128) : Ideal.fptosi 32 (min ((a : ℝ) : EReal) ((b : ℝ) : EReal)) = BitVec.ofNat 32 (min a b) := by
  rw [← EReal.coe_strictMono.monotone.map_min, ← Nat.cast_min]
  have hm : min a b ≤ 128 := (min_le_left _ _).trans ha
  generalize min a b = k at hm
  have hk : Ideal.toIntClamped (-(2 ^ 31 : Nat)) ((2 ^ 31 : Nat) - 1) ((k : ℝ) : EReal) = (k : ℤ) := by
    show max _ (min _ (if 0 ≤ (k : ℝ) then ⌊(k : ℝ)⌋ else ⌈(k : ℝ)⌉)) = _
    rw [if_pos (Nat.cast_nonneg k), Int.floor_natCast]
    norm_num
    omega
  unfold Ideal.fptosi
  rw [hk]
  exact BitVec.ofInt_natCast 32 k

/-- A lane counted by the second mask comes before the query block. -/
theorem lane_lt (n : ℕ) (hn : n < 16) (p q : Vec Ideal S1x1x128 .f32) (w : IVec S1x128 1) (y : S1x128.Idx)
    (h : andi (k0_pay678 (BitVec.ofNat 32 n) (iota .tc S1x128 32 [1] iota_S1x128_d1_w32) p q) w y = 1) : (y 1).val < n := by
  have hy : (y 1).val < 128 := (y 1).isLt
  by_contra hc
  have hlt : cmpi .slt (iota .tc S1x128 32 [1] iota_S1x128_d1_w32) (broadcast S1x128 (BitVec.ofNat 32 n)) y = 0#1 := by
    show IntOp.cmpi .slt (iota .tc S1x128 32 [1] iota_S1x128_d1_w32 y) (BitVec.ofNat 32 n) = 0#1
    rw [iota_single_apply, WordCmp.cmpi_slt_ofNat (by omega) (by omega)]
    simp [hc]
  have h' : (cmpi .slt (iota .tc S1x128 32 [1] iota_S1x128_d1_w32) (broadcast S1x128 (BitVec.ofNat 32 n)) y
      &&& cmpf .ogt (k0_pay677 (BitVec.ofNat 32 n) (iota .tc S1x128 32 [1] iota_S1x128_d1_w32) p q) (broadcast S1x128 (Scalar.ofBits .f32 0x00000000#32)) y) &&& w y = 1#1 := h
  rw [hlt, BitVec.zero_and, BitVec.zero_and] at h'
  exact absurd h' (by decide)

/-- Whatever the words that the number of skipped tiles is computed from, it keeps every offset and loop in range. -/
theorem skip_ok (i : grid0.Coords) (m : IVec S1x128 1) (p q r : Vec Ideal S1x1x128 .f32) (u : FVec Ideal S1x128 .f32) (v : FVec Ideal S1x1 .f32) :
    k0_chk1 i (Scalar.fptosi 32 (k0_pay682 (k0_pay674 m k0_pay672 k0_pay673)
      (k0_pay678 (BitVec.ofNat 32 (i 2).val) (iota .tc S1x128 32 [1] iota_S1x128_d1_w32) p q) u v r)) := by
  obtain ⟨w, j, hw⟩ : ∃ (w : IVec S1x128 1) (j : S1.Idx), k0_pay682 (k0_pay674 m k0_pay672 k0_pay673)
      (k0_pay678 (BitVec.ofNat 32 (i 2).val) (iota .tc S1x128 32 [1] iota_S1x128_d1_w32) p q) u v r
      = Scalar.minimumf (F := Ideal)
          (multiReduction (F := Ideal) .add [1] S1 (select m k0_pay672 k0_pay673) 0x00000000#32 reduces_S1x128_S1 (.inl rfl) rfl
            j)
          (multiReduction (F := Ideal) .add [1] S1 (select (andi (k0_pay678 (BitVec.ofNat 32 (i 2).val) (iota .tc S1x128 32 [1] iota_S1x128_d1_w32) p q) w) k0_pay672 k0_pay673) 0x00000000#32 reduces_S1x128_S1 (.inl rfl) rfl
            j) := ⟨_, _, rfl⟩
  rw [hw, sum_held, sum_held]
  have hb := held_le_of _ j (i 2).val (lane_lt (i 2).val (i 2).isLt p q w)
  refine Eq.mpr (congrArg (k0_chk1 i) (fptosi_count _ _ (held_le _ _))) (chk_of_le i _ ((min_le_right _ _).trans hb))

end Cert.KernelFoxIdeal.Hand

end
-- ==== Proof.FoxIdeal.lean ====
/-
  The forgetting attention's frame over the reals: every execution ends, its arguments are as they were and every counter is at zero.
  What the kernel leaves in its results is not stated; the scratch it keeps between grid points is held at some contents.
-/
module

public import proofs.«01_k».proof.Proof.FoxIdealRun
public import proofs.«01_k».proof.Proof.FoxIdealSkip
public import proofs.«01_k».proof.Defs

@[expose] public section

set_option maxRecDepth 16384

noncomputable section

namespace Cert.KernelFoxIdeal.Hand

open Cert.KernelFoxIdeal Cert.KernelFoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said afterwards: the five results'. -/
def unsaid : Fin 13 → Bool := fun w => decide (8 ≤ w.val)

/-- What is held on core `c` between grid points: the arrays as launched, each operand's buffer at its block, the results'
    buffers unnamed, the scratch at some contents; an array two windows read is dealt between them. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

/-- The arrays are those of the launch. -/
theorem data_A (c : Dev nD) (w : Fin cfg0.W) : (data m 0 c).A w = V m c (Pipeline.arrRef spec0 w) := by
  dsimp only [data]

/-- Operand 0's buffer after the body: its block. -/
theorem after_0 (c : Dev nD) (t : Fin cfg0.N) : (data m 0 c).after 0 t = iblk m c 0 t := by dsimp only [data]
/-- Operand 0's buffer before the body: its block. -/
theorem before_0 (c : Dev nD) (t : Fin cfg0.N) (d) : (data m 0 c).before 0 t d = iblk m c 0 t :=
  before0_0_of m (data m 0 c) (data_A m c 0) (after_0 m c) t d
/-- Operand 1's buffer after the body: its block. -/
theorem after_1 (c : Dev nD) (t : Fin cfg0.N) : (data m 0 c).after 1 t = iblk m c 1 t := by dsimp only [data]
/-- Operand 1's buffer before the body: its block. -/
theorem before_1 (c : Dev nD) (t : Fin cfg0.N) (d) : (data m 0 c).before 1 t d = iblk m c 1 t :=
  before0_1_of m (data m 0 c) (data_A m c 1) (after_1 m c) t d
/-- Operand 2's buffer after the body: its block. -/
theorem after_2 (c : Dev nD) (t : Fin cfg0.N) : (data m 0 c).after 2 t = iblk m c 2 t := by dsimp only [data]
/-- Operand 2's buffer before the body: its block. -/
theorem before_2 (c : Dev nD) (t : Fin cfg0.N) (d) : (data m 0 c).before 2 t d = iblk m c 2 t :=
  before0_2_of m (data m 0 c) (data_A m c 2) (after_2 m c) t d
/-- Operand 3's buffer after the body: its block. -/
theorem after_3 (c : Dev nD) (t : Fin cfg0.N) : (data m 0 c).after 3 t = iblk m c 3 t := by dsimp only [data]
/-- Operand 3's buffer before the body: its block. -/
theorem before_3 (c : Dev nD) (t : Fin cfg0.N) (d) : (data m 0 c).before 3 t d = iblk m c 3 t :=
  before0_3_of m (data m 0 c) (data_A m c 3) (after_3 m c) t d
/-- Operand 4's buffer after the body: its block. -/
theorem after_4 (c : Dev nD) (t : Fin cfg0.N) : (data m 0 c).after 4 t = iblk m c 4 t := by dsimp only [data]
/-- Operand 4's buffer before the body: its block. -/
theorem before_4 (c : Dev nD) (t : Fin cfg0.N) (d) : (data m 0 c).before 4 t d = iblk m c 4 t :=
  before0_4_of m (data m 0 c) (data_A m c 4) (after_4 m c) t d
/-- Operand 5's buffer after the body: its block. -/
theorem after_5 (c : Dev nD) (t : Fin cfg0.N) : (data m 0 c).after 5 t = iblk m c 5 t := by dsimp only [data]
/-- Operand 5's buffer before the body: its block. -/
theorem before_5 (c : Dev nD) (t : Fin cfg0.N) (d) : (data m 0 c).before 5 t d = iblk m c 5 t :=
  before0_5_of m (data m 0 c) (data_A m c 5) (after_5 m c) t d
/-- Operand 6's buffer after the body: its block. -/
theorem after_6 (c : Dev nD) (t : Fin cfg0.N) : (data m 0 c).after 6 t = iblk m c 6 t := by dsimp only [data]
/-- Operand 6's buffer before the body: its block. -/
theorem before_6 (c : Dev nD) (t : Fin cfg0.N) (d) : (data m 0 c).before 6 t d = iblk m c 6 t :=
  before0_6_of m (data m 0 c) (data_A m c 6) (after_6 m c) t d
/-- Operand 7's buffer after the body: its block. -/
theorem after_7 (c : Dev nD) (t : Fin cfg0.N) : (data m 0 c).after 7 t = iblk m c 7 t := by dsimp only [data]
/-- Operand 7's buffer before the body: its block. -/
theorem before_7 (c : Dev nD) (t : Fin cfg0.N) (d) : (data m 0 c).before 7 t d = iblk m c 7 t :=
  before0_7_of m (data m 0 c) (data_A m c 7) (after_7 m c) t d

/-- The buffers held at a point before the body, -/
def before (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- and after it. -/
def left (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- What is held of the scratch, buffer by buffer: each at some contents. -/
theorem scratch_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA; rw [scopedRest0_eq]; simp only [owns_whole]

set_option maxHeartbeats 2000000 in
/-- The body at any grid point. -/
theorem body_at (hs : ∀ i, Skips (F := F) i) (c : Dev nD) (t : Fin cfg0.N) :
    before m c t ⊢ wp frame (wpE (defs₀ (F := F)) Variants.none c none) Set.univ (bodyAt0 t) (fun _ => left m c t) := by
  unfold before left bodyAt0
  simp only [before_0, before_1, before_2, before_3, before_4, before_5, before_6, before_7]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl,
    after_0, after_1, after_2, after_3, after_4, after_5, after_6, after_7, scratch_eq]
  iintro ⟨⟨⟨H13, H14, H15, H16, H17, H18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (grid0.coords t) _ _ _ _ _ _ _ _ _ _ _ _ _ _ _ _ _ _ _ _ _ _ _ _ _ _ _ _ _ _ _ _ _ _ _ _ _ _ (hs _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexact H18
  iintro ⟨H0, H1, H2, H3, H4, H5, H6, H7, H8, H9, H10, H11, H12, H13, H14, H15, H16, H17, H18⟩
  isplitl [H13 H14 H15 H16 H17 H18 Hg]
  · isplitl [H13 H14 H15 H16 H17 H18]
    · isplitl [H13]; · iexact H13
      isplitl [H14]; · iexact H14
      isplitl [H15]; · iexact H15
      isplitl [H16]; · iexact H16
      isplitl [H17]; · iexact H17
      iexact H18
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body's entry in the table of bodies. -/
theorem body_row (t : Fin cfg0.N) : defs₀ (F := F) .tc cfg0.body (cfg0.bodyArgs t (cfg0.slots t)) = bodyAt0 t := by
  unfold defs₀; rw [Defs.onTc_tc]

/-- The body's obligation at every point. -/
theorem body_ok (hs : ∀ i, Skips (F := F) i) (c : Dev nD) : BodyObligation (data (F := F) m 0 c) (defs₀ (F := F)) Variants.none () Set.univ unsaid := fun t => by
  rw [bigSep_W0, bigSep_W0, body_row]
  exact triple_restated (body_at m hs c t) rfl .rfl fun _ => .rfl

set_option backward.isDefEq.respectTransparency.types false in
/-- The launch: every execution ends, with what is said of the arrays and every counter at zero. -/
theorem launched (hs : ∀ i, Skips (F := F) i) : θ_run defs (onTc (τ := τ) (main (F := F))) (s₀ m ρ)
    (fun r => (Pipeline.RDat.FramePost (cfgs 0) (fun c => (data m 0 c).toRForget unsaid) (V m)) r ∧ r.2.sem = fun _ => 0) :=
  Pipeline.θ_run_frame_forget_shared (Q' := _) cfgs (data m) (0 : Fin 1) launch₀0 defs₀ Variants.none unsaid m ρ main
    (hbody := fun c => (body_ok m hs c).loose) (hq := fun _ _ _ => rfl)
    (howed := fun _ _ => rfl) (V := V m) (hmain := hmain m Variants.none) (hA := data_A m) (hΦ := fun _ _ => rfl)

/-- The frame: the arguments end unchanged and every counter at zero. -/
theorem frame_whole (hs : ∀ i, Skips (F := F) i) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : _ ∧ _) => ⟨fun c => ⟨(Pipeline.RDat.FramePost.arr_in h.1 c 2 rfl).trans (data_A m c 2),
      (Pipeline.RDat.FramePost.arr_in h.1 c 1 rfl).trans (data_A m c 1),
      (Pipeline.RDat.FramePost.arr_in h.1 c 3 rfl).trans (data_A m c 3),
      (Pipeline.RDat.FramePost.arr_in h.1 c 4 rfl).trans (data_A m c 4),
      (Pipeline.RDat.FramePost.arr_in h.1 c 5 rfl).trans (data_A m c 5),
      (Pipeline.RDat.FramePost.arr_in h.1 c 6 rfl).trans (data_A m c 6),
      (Pipeline.RDat.FramePost.arr_in h.1 c 7 rfl).trans (data_A m c 7)⟩, h.2⟩) (launched m ρ hs)

end Cert.KernelFoxIdeal.Hand

namespace Cert.Proof

open Idealize.ShloMosaic

/-- The claim. -/
theorem quiescent_KernelFoxIdeal : Cert.quiescent_KernelFoxIdeal (hKernelFoxIdeal := Cert.KernelFoxIdeal.Gen.facts) :=
  fun m ρ _ => Cert.KernelFoxIdeal.Hand.frame_whole m ρ fun i a b p q r p' q' r' u v => Cert.KernelFoxIdeal.Hand.skip_ok i _ p' q' r' u v

end Cert.Proof

end
-- ==== Proof.lean ====
/-
  The claims of the statement, each from its proof: every kernel runs to its end and leaves its arguments and every counter
  as they were, at bits and over the reals (the frames); its reference likewise; the program read over the reals is the
  program itself (nothing was rewritten but one constant, given its name); and kernel and reference end with the same arrays.
-/
module

public import proofs.«01_k».proof.Defs
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.ReferenceGateIdeal
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.ReferenceKvIdeal
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.ReferenceProjIdeal
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelCross
public import proofs.«01_k».proof.Proof.Gen.KernelCross.Skeleton
public import proofs.«01_k».proof.Proof.Gen.KernelCross.Launch
public import proofs.«01_k».proof.Proof.Gen.KernelCross.Points
public import proofs.«01_k».proof.Proof.Gen.KernelCross.Frame
public import proofs.«01_k».proof.Proof.Gen.KernelCrossIdeal
public import proofs.«01_k».proof.Proof.Gen.KernelCrossIdeal.Skeleton
public import proofs.«01_k».proof.Proof.Gen.KernelCrossIdeal.Launch
public import proofs.«01_k».proof.Proof.Gen.KernelCrossIdeal.Points
public import proofs.«01_k».proof.Proof.Gen.KernelCrossIdeal.Frame
public import proofs.«01_k».proof.Proof.Gen.ReferenceCrossIdeal
public import proofs.«01_k».proof.Proof.Gen.KernelFox
public import proofs.«01_k».proof.Proof.Gen.KernelFox.Skeleton
public import proofs.«01_k».proof.Proof.Gen.KernelFox.Loops
public import proofs.«01_k».proof.Proof.Gen.KernelFox.Launch
public import proofs.«01_k».proof.Proof.Gen.KernelFox.Points
public import proofs.«01_k».proof.Proof.Gen.KernelFox.Frame
public import proofs.«01_k».proof.Proof.Gen.KernelFoxIdeal
public import proofs.«01_k».proof.Proof.Gen.KernelFoxIdeal.Skeleton
public import proofs.«01_k».proof.Proof.Gen.KernelFoxIdeal.Loops
public import proofs.«01_k».proof.Proof.Gen.KernelFoxIdeal.Launch
public import proofs.«01_k».proof.Proof.Gen.KernelFoxIdeal.Points
public import proofs.«01_k».proof.Proof.Gen.KernelFoxIdeal.Frame
public import proofs.«01_k».proof.Proof.Gen.Pre_finite_forget_weights
public import proofs.«01_k».proof.Proof.Gen.Pre_finite_gains_queries_keys
public import proofs.«01_k».proof.Proof.Gen.KernelDownIdeal.Value
public import proofs.«01_k».proof.Proof.Gen.ReferenceDownIdeal.Run
public import proofs.«01_k».proof.Proof.Down
public import proofs.«01_k».proof.Proof.Gen.KernelUpIdeal.Value
public import proofs.«01_k».proof.Proof.Gen.ReferenceUpIdeal.Run
public import proofs.«01_k».proof.Proof.Up
public import proofs.«01_k».proof.Proof.Gen.KernelGateIdeal.Value
public import proofs.«01_k».proof.Proof.Gen.ReferenceGateIdeal.Run
public import proofs.«01_k».proof.Proof.Gate
public import proofs.«01_k».proof.Proof.Gen.KernelMergeIdeal.Value
public import proofs.«01_k».proof.Proof.Gen.ReferenceMergeIdeal.Run
public import proofs.«01_k».proof.Proof.Merge
public import proofs.«01_k».proof.Proof.Gen.KernelMixIdeal.Value
public import proofs.«01_k».proof.Proof.Gen.ReferenceMixIdeal.Run
public import proofs.«01_k».proof.Proof.Mix
public import proofs.«01_k».proof.Proof.Gen.KernelKvIdeal.Value
public import proofs.«01_k».proof.Proof.Gen.ReferenceKvIdeal.Run
public import proofs.«01_k».proof.Proof.Kv
public import proofs.«01_k».proof.Proof.Gen.ReferenceProjIdeal.Run
public import proofs.«01_k».proof.Proof.ProjBitsFrame
public import proofs.«01_k».proof.Proof.Proj
public import proofs.«01_k».proof.Proof.Moba
public import proofs.«01_k».proof.Proof.MobaIdeal
public import proofs.«01_k».proof.Proof.Gen.KernelCrossIdeal.Value
public import proofs.«01_k».proof.Proof.Gen.ReferenceCrossIdeal.Run
public import proofs.«01_k».proof.Proof.Cross
public import proofs.«01_k».proof.Proof.Fox
public import proofs.«01_k».proof.Proof.FoxIdeal
public import Idealize.ShloMosaic.Adequacy
public import Idealize.ShloMosaic.Init

@[expose] public section

noncomputable section

namespace Cert.Proof

open Idealize.ShloMosaic Idealize.SL.Sem

/-- Every claim. -/
theorem claim : Cert.Claim := ⟨Cert.KernelDown.Gen.facts, Cert.KernelDownIdeal.Gen.facts, Cert.ReferenceDownIdeal.Gen.facts, Cert.KernelUp.Gen.facts, Cert.KernelUpIdeal.Gen.facts, Cert.ReferenceUpIdeal.Gen.facts, Cert.KernelGate.Gen.facts, Cert.KernelGateIdeal.Gen.facts, Cert.ReferenceGateIdeal.Gen.facts, Cert.KernelMerge.Gen.facts, Cert.KernelMergeIdeal.Gen.facts, Cert.ReferenceMergeIdeal.Gen.facts, Cert.KernelMix.Gen.facts, Cert.KernelMixIdeal.Gen.facts, Cert.ReferenceMixIdeal.Gen.facts, Cert.KernelKv.Gen.facts, Cert.KernelKvIdeal.Gen.facts, Cert.ReferenceKvIdeal.Gen.facts, Cert.KernelProj.Gen.facts, Cert.KernelProjIdeal.Gen.facts, Cert.ReferenceProjIdeal.Gen.facts, Cert.Kernel.Gen.facts, Cert.KernelIdeal.Gen.facts, Cert.KernelCross.Gen.facts, Cert.KernelCrossIdeal.Gen.facts, Cert.ReferenceCrossIdeal.Gen.facts, Cert.KernelFox.Gen.facts, Cert.KernelFoxIdeal.Gen.facts, Cert.Pre_finite_forget_weights.Gen.facts, Cert.Pre_finite_gains_queries_keys.Gen.facts,
  fun m ρ _ => Cert.KernelDown.Gen.frame m ρ,
  fun m ρ _ => Cert.KernelDownIdeal.Gen.frame m ρ,
  quiescent_ReferenceDownIdeal,
  fun m ρ _ => Cert.KernelUp.Gen.frame m ρ,
  fun m ρ _ => Cert.KernelUpIdeal.Gen.frame m ρ,
  quiescent_ReferenceUpIdeal,
  fun m ρ _ => Cert.KernelGate.Gen.frame m ρ,
  fun m ρ _ => Cert.KernelGateIdeal.Gen.frame m ρ,
  quiescent_ReferenceGateIdeal,
  fun m ρ _ => Cert.KernelMerge.Gen.frame m ρ,
  fun m ρ _ => Cert.KernelMergeIdeal.Gen.frame m ρ,
  quiescent_ReferenceMergeIdeal,
  fun m ρ _ => Cert.KernelMix.Gen.frame m ρ,
  fun m ρ _ => Cert.KernelMixIdeal.Gen.frame m ρ,
  quiescent_ReferenceMixIdeal,
  fun m ρ _ => Cert.KernelKv.Gen.frame m ρ,
  fun m ρ _ => Cert.KernelKvIdeal.Gen.frame m ρ,
  quiescent_ReferenceKvIdeal,
  quiescent_KernelProj,
  quiescent_KernelProjIdeal,
  quiescent_KernelProjIdeal_pre_finite_forget_weights,
  quiescent_ReferenceProjIdeal,
  quiescent_ReferenceProjIdeal_pre_finite_forget_weights,
  quiescent_Kernel,
  quiescent_KernelIdeal,
  fun m ρ _ => Cert.KernelCross.Gen.frame m ρ,
  fun m ρ _ => Cert.KernelCrossIdeal.Gen.frame m ρ,
  quiescent_KernelCrossIdeal_pre_finite_gains_queries_keys,
  quiescent_ReferenceCrossIdeal,
  quiescent_ReferenceCrossIdeal_pre_finite_gains_queries_keys,
  quiescent_KernelFox,
  quiescent_KernelFoxIdeal,
  trivial,
  algebraic_KernelDownIdeal_ReferenceDownIdeal,
  trivial,
  algebraic_KernelUpIdeal_ReferenceUpIdeal,
  trivial,
  algebraic_KernelGateIdeal_ReferenceGateIdeal,
  trivial,
  algebraic_KernelMergeIdeal_ReferenceMergeIdeal,
  trivial,
  algebraic_KernelMixIdeal_ReferenceMixIdeal,
  trivial,
  algebraic_KernelKvIdeal_ReferenceKvIdeal,
  trivial,
  algebraic_KernelProjIdeal_ReferenceProjIdeal_pre_finite_forget_weights,
  trivial,
  preserves_KernelCross_KernelCrossIdeal,
  algebraic_KernelCrossIdeal_ReferenceCrossIdeal_pre_finite_gains_queries_keys,
  trivial⟩

end Cert.Proof

end
